-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Epilogue (m : (ℓ : Loc Cert.Epilogue.nD Cert.Epilogue.τ Cert.Epilogue.sig) → Buf (Elt Bits) ℓ) : Prop :=
  True

def Pre_EpilogueIdeal (m : (ℓ : Loc Cert.EpilogueIdeal.nD Cert.EpilogueIdeal.τ Cert.EpilogueIdeal.sig) → Buf (Elt Ideal) ℓ) : Prop :=
  True

def Pre_EpilogueRefIdeal (m : (ℓ : Loc Cert.EpilogueRefIdeal.nD Cert.EpilogueRefIdeal.τ Cert.EpilogueRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def Pre_EpilogueStep (m : (ℓ : Loc Cert.EpilogueStep.nD Cert.EpilogueStep.τ Cert.EpilogueStep.sig) → Buf (Elt Bits) ℓ) : Prop :=
  True

def Pre_EpilogueStepIdeal (m : (ℓ : Loc Cert.EpilogueStepIdeal.nD Cert.EpilogueStepIdeal.τ Cert.EpilogueStepIdeal.sig) → Buf (Elt Ideal) ℓ) : Prop :=
  True

def Pre_EpilogueStepRefIdeal (m : (ℓ : Loc Cert.EpilogueStepRefIdeal.nD Cert.EpilogueStepRefIdeal.τ Cert.EpilogueStepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Epilogue [hEpilogue : Cert.Epilogue.Facts] : Prop :=
  ∀ (m : (ℓ : Loc Cert.Epilogue.nD Cert.Epilogue.τ Cert.Epilogue.sig) → Buf (Elt Bits) ℓ) (g : Dev Cert.Epilogue.nD → PrngReg), Pre_Epilogue m →
    θ_run (Cert.Epilogue.defs (F := Bits)) (onTc (τ := Cert.Epilogue.τ) (Cert.Epilogue.main (F := Bits))) ⟨m, fun _ => 0, g⟩ (fun r => (∀ c : Dev Cert.Epilogue.nD,
      r.2.mem ((c.tc : Thread Cert.Epilogue.nD Cert.Epilogue.τ).loc Cert.Epilogue.main_arg0) = m ((c.tc : Thread Cert.Epilogue.nD Cert.Epilogue.τ).loc Cert.Epilogue.main_arg0)
      ∧ r.2.mem ((c.tc : Thread Cert.Epilogue.nD Cert.Epilogue.τ).loc Cert.Epilogue.main_arg1) = m ((c.tc : Thread Cert.Epilogue.nD Cert.Epilogue.τ).loc Cert.Epilogue.main_arg1)
      ∧ r.2.mem ((c.tc : Thread Cert.Epilogue.nD Cert.Epilogue.τ).loc Cert.Epilogue.main_arg2) = m ((c.tc : Thread Cert.Epilogue.nD Cert.Epilogue.τ).loc Cert.Epilogue.main_arg2)
      ∧ r.2.mem ((c.tc : Thread Cert.Epilogue.nD Cert.Epilogue.τ).loc Cert.Epilogue.main_arg3) = m ((c.tc : Thread Cert.Epilogue.nD Cert.Epilogue.τ).loc Cert.Epilogue.main_arg3)
      ∧ r.2.mem ((c.tc : Thread Cert.Epilogue.nD Cert.Epilogue.τ).loc Cert.Epilogue.main_arg4) = m ((c.tc : Thread Cert.Epilogue.nD Cert.Epilogue.τ).loc Cert.Epilogue.main_arg4)
      ∧ r.2.mem ((c.tc : Thread Cert.Epilogue.nD Cert.Epilogue.τ).loc Cert.Epilogue.main_arg5) = m ((c.tc : Thread Cert.Epilogue.nD Cert.Epilogue.τ).loc Cert.Epilogue.main_arg5)
      ∧ r.2.mem ((c.tc : Thread Cert.Epilogue.nD Cert.Epilogue.τ).loc Cert.Epilogue.main_arg6) = m ((c.tc : Thread Cert.Epilogue.nD Cert.Epilogue.τ).loc Cert.Epilogue.main_arg6)
      ∧ r.2.mem ((c.tc : Thread Cert.Epilogue.nD Cert.Epilogue.τ).loc Cert.Epilogue.main_arg7) = m ((c.tc : Thread Cert.Epilogue.nD Cert.Epilogue.τ).loc Cert.Epilogue.main_arg7)
      ∧ r.2.mem ((c.tc : Thread Cert.Epilogue.nD Cert.Epilogue.τ).loc Cert.Epilogue.main_arg8) = m ((c.tc : Thread Cert.Epilogue.nD Cert.Epilogue.τ).loc Cert.Epilogue.main_arg8)
      ∧ r.2.mem ((c.tc : Thread Cert.Epilogue.nD Cert.Epilogue.τ).loc Cert.Epilogue.main_arg9) = m ((c.tc : Thread Cert.Epilogue.nD Cert.Epilogue.τ).loc Cert.Epilogue.main_arg9)
      ∧ r.2.mem ((c.tc : Thread Cert.Epilogue.nD Cert.Epilogue.τ).loc Cert.Epilogue.main_arg10) = m ((c.tc : Thread Cert.Epilogue.nD Cert.Epilogue.τ).loc Cert.Epilogue.main_arg10))
      ∧ r.2.sem = fun _ => 0)

def quiescent_EpilogueIdeal [hEpilogueIdeal : Cert.EpilogueIdeal.Facts] : Prop :=
  ∀ (m : (ℓ : Loc Cert.EpilogueIdeal.nD Cert.EpilogueIdeal.τ Cert.EpilogueIdeal.sig) → Buf (Elt Ideal) ℓ) (g : Dev Cert.EpilogueIdeal.nD → PrngReg), Pre_EpilogueIdeal m →
    θ_run (Cert.EpilogueIdeal.defs (F := Ideal)) (onTc (τ := Cert.EpilogueIdeal.τ) (Cert.EpilogueIdeal.main (F := Ideal))) ⟨m, fun _ => 0, g⟩ (fun r => (∀ c : Dev Cert.EpilogueIdeal.nD,
      r.2.mem ((c.tc : Thread Cert.EpilogueIdeal.nD Cert.EpilogueIdeal.τ).loc Cert.EpilogueIdeal.main_arg0) = m ((c.tc : Thread Cert.EpilogueIdeal.nD Cert.EpilogueIdeal.τ).loc Cert.EpilogueIdeal.main_arg0)
      ∧ r.2.mem ((c.tc : Thread Cert.EpilogueIdeal.nD Cert.EpilogueIdeal.τ).loc Cert.EpilogueIdeal.main_arg1) = m ((c.tc : Thread Cert.EpilogueIdeal.nD Cert.EpilogueIdeal.τ).loc Cert.EpilogueIdeal.main_arg1)
      ∧ r.2.mem ((c.tc : Thread Cert.EpilogueIdeal.nD Cert.EpilogueIdeal.τ).loc Cert.EpilogueIdeal.main_arg2) = m ((c.tc : Thread Cert.EpilogueIdeal.nD Cert.EpilogueIdeal.τ).loc Cert.EpilogueIdeal.main_arg2)
      ∧ r.2.mem ((c.tc : Thread Cert.EpilogueIdeal.nD Cert.EpilogueIdeal.τ).loc Cert.EpilogueIdeal.main_arg3) = m ((c.tc : Thread Cert.EpilogueIdeal.nD Cert.EpilogueIdeal.τ).loc Cert.EpilogueIdeal.main_arg3)
      ∧ r.2.mem ((c.tc : Thread Cert.EpilogueIdeal.nD Cert.EpilogueIdeal.τ).loc Cert.EpilogueIdeal.main_arg4) = m ((c.tc : Thread Cert.EpilogueIdeal.nD Cert.EpilogueIdeal.τ).loc Cert.EpilogueIdeal.main_arg4)
      ∧ r.2.mem ((c.tc : Thread Cert.EpilogueIdeal.nD Cert.EpilogueIdeal.τ).loc Cert.EpilogueIdeal.main_arg5) = m ((c.tc : Thread Cert.EpilogueIdeal.nD Cert.EpilogueIdeal.τ).loc Cert.EpilogueIdeal.main_arg5)
      ∧ r.2.mem ((c.tc : Thread Cert.EpilogueIdeal.nD Cert.EpilogueIdeal.τ).loc Cert.EpilogueIdeal.main_arg6) = m ((c.tc : Thread Cert.EpilogueIdeal.nD Cert.EpilogueIdeal.τ).loc Cert.EpilogueIdeal.main_arg6)
      ∧ r.2.mem ((c.tc : Thread Cert.EpilogueIdeal.nD Cert.EpilogueIdeal.τ).loc Cert.EpilogueIdeal.main_arg7) = m ((c.tc : Thread Cert.EpilogueIdeal.nD Cert.EpilogueIdeal.τ).loc Cert.EpilogueIdeal.main_arg7)
      ∧ r.2.mem ((c.tc : Thread Cert.EpilogueIdeal.nD Cert.EpilogueIdeal.τ).loc Cert.EpilogueIdeal.main_arg8) = m ((c.tc : Thread Cert.EpilogueIdeal.nD Cert.EpilogueIdeal.τ).loc Cert.EpilogueIdeal.main_arg8)
      ∧ r.2.mem ((c.tc : Thread Cert.EpilogueIdeal.nD Cert.EpilogueIdeal.τ).loc Cert.EpilogueIdeal.main_arg9) = m ((c.tc : Thread Cert.EpilogueIdeal.nD Cert.EpilogueIdeal.τ).loc Cert.EpilogueIdeal.main_arg9)
      ∧ r.2.mem ((c.tc : Thread Cert.EpilogueIdeal.nD Cert.EpilogueIdeal.τ).loc Cert.EpilogueIdeal.main_arg10) = m ((c.tc : Thread Cert.EpilogueIdeal.nD Cert.EpilogueIdeal.τ).loc Cert.EpilogueIdeal.main_arg10))
      ∧ r.2.sem = fun _ => 0)

def quiescent_EpilogueRefIdeal [hEpilogueRefIdeal : Cert.EpilogueRefIdeal.Facts] : Prop :=
  ∀ (m : (ℓ : Loc Cert.EpilogueRefIdeal.nD Cert.EpilogueRefIdeal.τ Cert.EpilogueRefIdeal.sig) → Buf (Elt Ideal) ℓ) (g : Dev Cert.EpilogueRefIdeal.nD → PrngReg), Pre_EpilogueRefIdeal m →
    θ_run (Cert.EpilogueRefIdeal.defs (F := Ideal)) (onTc (τ := Cert.EpilogueRefIdeal.τ) (Cert.EpilogueRefIdeal.main (F := Ideal))) ⟨m, fun _ => 0, g⟩ (fun r => (∀ c : Dev Cert.EpilogueRefIdeal.nD,
      r.2.mem ((c.tc : Thread Cert.EpilogueRefIdeal.nD Cert.EpilogueRefIdeal.τ).loc Cert.EpilogueRefIdeal.main_arg0) = m ((c.tc : Thread Cert.EpilogueRefIdeal.nD Cert.EpilogueRefIdeal.τ).loc Cert.EpilogueRefIdeal.main_arg0)
      ∧ r.2.mem ((c.tc : Thread Cert.EpilogueRefIdeal.nD Cert.EpilogueRefIdeal.τ).loc Cert.EpilogueRefIdeal.main_arg1) = m ((c.tc : Thread Cert.EpilogueRefIdeal.nD Cert.EpilogueRefIdeal.τ).loc Cert.EpilogueRefIdeal.main_arg1)
      ∧ r.2.mem ((c.tc : Thread Cert.EpilogueRefIdeal.nD Cert.EpilogueRefIdeal.τ).loc Cert.EpilogueRefIdeal.main_arg2) = m ((c.tc : Thread Cert.EpilogueRefIdeal.nD Cert.EpilogueRefIdeal.τ).loc Cert.EpilogueRefIdeal.main_arg2)
      ∧ r.2.mem ((c.tc : Thread Cert.EpilogueRefIdeal.nD Cert.EpilogueRefIdeal.τ).loc Cert.EpilogueRefIdeal.main_arg3) = m ((c.tc : Thread Cert.EpilogueRefIdeal.nD Cert.EpilogueRefIdeal.τ).loc Cert.EpilogueRefIdeal.main_arg3)
      ∧ r.2.mem ((c.tc : Thread Cert.EpilogueRefIdeal.nD Cert.EpilogueRefIdeal.τ).loc Cert.EpilogueRefIdeal.main_arg4) = m ((c.tc : Thread Cert.EpilogueRefIdeal.nD Cert.EpilogueRefIdeal.τ).loc Cert.EpilogueRefIdeal.main_arg4)
      ∧ r.2.mem ((c.tc : Thread Cert.EpilogueRefIdeal.nD Cert.EpilogueRefIdeal.τ).loc Cert.EpilogueRefIdeal.main_arg5) = m ((c.tc : Thread Cert.EpilogueRefIdeal.nD Cert.EpilogueRefIdeal.τ).loc Cert.EpilogueRefIdeal.main_arg5)
      ∧ r.2.mem ((c.tc : Thread Cert.EpilogueRefIdeal.nD Cert.EpilogueRefIdeal.τ).loc Cert.EpilogueRefIdeal.main_arg6) = m ((c.tc : Thread Cert.EpilogueRefIdeal.nD Cert.EpilogueRefIdeal.τ).loc Cert.EpilogueRefIdeal.main_arg6)
      ∧ r.2.mem ((c.tc : Thread Cert.EpilogueRefIdeal.nD Cert.EpilogueRefIdeal.τ).loc Cert.EpilogueRefIdeal.main_arg7) = m ((c.tc : Thread Cert.EpilogueRefIdeal.nD Cert.EpilogueRefIdeal.τ).loc Cert.EpilogueRefIdeal.main_arg7)
      ∧ r.2.mem ((c.tc : Thread Cert.EpilogueRefIdeal.nD Cert.EpilogueRefIdeal.τ).loc Cert.EpilogueRefIdeal.main_arg8) = m ((c.tc : Thread Cert.EpilogueRefIdeal.nD Cert.EpilogueRefIdeal.τ).loc Cert.EpilogueRefIdeal.main_arg8)
      ∧ r.2.mem ((c.tc : Thread Cert.EpilogueRefIdeal.nD Cert.EpilogueRefIdeal.τ).loc Cert.EpilogueRefIdeal.main_arg9) = m ((c.tc : Thread Cert.EpilogueRefIdeal.nD Cert.EpilogueRefIdeal.τ).loc Cert.EpilogueRefIdeal.main_arg9)
      ∧ r.2.mem ((c.tc : Thread Cert.EpilogueRefIdeal.nD Cert.EpilogueRefIdeal.τ).loc Cert.EpilogueRefIdeal.main_arg10) = m ((c.tc : Thread Cert.EpilogueRefIdeal.nD Cert.EpilogueRefIdeal.τ).loc Cert.EpilogueRefIdeal.main_arg10))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4))
      ∧ r.2.sem = fun _ => 0)

def quiescent_EpilogueStep [hEpilogueStep : Cert.EpilogueStep.Facts] : Prop :=
  ∀ (m : (ℓ : Loc Cert.EpilogueStep.nD Cert.EpilogueStep.τ Cert.EpilogueStep.sig) → Buf (Elt Bits) ℓ) (g : Dev Cert.EpilogueStep.nD → PrngReg), Pre_EpilogueStep m →
    θ_run (Cert.EpilogueStep.defs (F := Bits)) (onTc (τ := Cert.EpilogueStep.τ) (Cert.EpilogueStep.main (F := Bits))) ⟨m, fun _ => 0, g⟩ (fun r => (∀ c : Dev Cert.EpilogueStep.nD,
      r.2.mem ((c.tc : Thread Cert.EpilogueStep.nD Cert.EpilogueStep.τ).loc Cert.EpilogueStep.main_arg0) = m ((c.tc : Thread Cert.EpilogueStep.nD Cert.EpilogueStep.τ).loc Cert.EpilogueStep.main_arg0)
      ∧ r.2.mem ((c.tc : Thread Cert.EpilogueStep.nD Cert.EpilogueStep.τ).loc Cert.EpilogueStep.main_arg1) = m ((c.tc : Thread Cert.EpilogueStep.nD Cert.EpilogueStep.τ).loc Cert.EpilogueStep.main_arg1)
      ∧ r.2.mem ((c.tc : Thread Cert.EpilogueStep.nD Cert.EpilogueStep.τ).loc Cert.EpilogueStep.main_arg2) = m ((c.tc : Thread Cert.EpilogueStep.nD Cert.EpilogueStep.τ).loc Cert.EpilogueStep.main_arg2)
      ∧ r.2.mem ((c.tc : Thread Cert.EpilogueStep.nD Cert.EpilogueStep.τ).loc Cert.EpilogueStep.main_arg3) = m ((c.tc : Thread Cert.EpilogueStep.nD Cert.EpilogueStep.τ).loc Cert.EpilogueStep.main_arg3)
      ∧ r.2.mem ((c.tc : Thread Cert.EpilogueStep.nD Cert.EpilogueStep.τ).loc Cert.EpilogueStep.main_arg4) = m ((c.tc : Thread Cert.EpilogueStep.nD Cert.EpilogueStep.τ).loc Cert.EpilogueStep.main_arg4)
      ∧ r.2.mem ((c.tc : Thread Cert.EpilogueStep.nD Cert.EpilogueStep.τ).loc Cert.EpilogueStep.main_arg5) = m ((c.tc : Thread Cert.EpilogueStep.nD Cert.EpilogueStep.τ).loc Cert.EpilogueStep.main_arg5)
      ∧ r.2.mem ((c.tc : Thread Cert.EpilogueStep.nD Cert.EpilogueStep.τ).loc Cert.EpilogueStep.main_arg6) = m ((c.tc : Thread Cert.EpilogueStep.nD Cert.EpilogueStep.τ).loc Cert.EpilogueStep.main_arg6)
      ∧ r.2.mem ((c.tc : Thread Cert.EpilogueStep.nD Cert.EpilogueStep.τ).loc Cert.EpilogueStep.main_arg7) = m ((c.tc : Thread Cert.EpilogueStep.nD Cert.EpilogueStep.τ).loc Cert.EpilogueStep.main_arg7)
      ∧ r.2.mem ((c.tc : Thread Cert.EpilogueStep.nD Cert.EpilogueStep.τ).loc Cert.EpilogueStep.main_arg8) = m ((c.tc : Thread Cert.EpilogueStep.nD Cert.EpilogueStep.τ).loc Cert.EpilogueStep.main_arg8)
      ∧ r.2.mem ((c.tc : Thread Cert.EpilogueStep.nD Cert.EpilogueStep.τ).loc Cert.EpilogueStep.main_arg9) = m ((c.tc : Thread Cert.EpilogueStep.nD Cert.EpilogueStep.τ).loc Cert.EpilogueStep.main_arg9))
      ∧ r.2.sem = fun _ => 0)

def quiescent_EpilogueStepIdeal [hEpilogueStepIdeal : Cert.EpilogueStepIdeal.Facts] : Prop :=
  ∀ (m : (ℓ : Loc Cert.EpilogueStepIdeal.nD Cert.EpilogueStepIdeal.τ Cert.EpilogueStepIdeal.sig) → Buf (Elt Ideal) ℓ) (g : Dev Cert.EpilogueStepIdeal.nD → PrngReg), Pre_EpilogueStepIdeal m →
    θ_run (Cert.EpilogueStepIdeal.defs (F := Ideal)) (onTc (τ := Cert.EpilogueStepIdeal.τ) (Cert.EpilogueStepIdeal.main (F := Ideal))) ⟨m, fun _ => 0, g⟩ (fun r => (∀ c : Dev Cert.EpilogueStepIdeal.nD,
      r.2.mem ((c.tc : Thread Cert.EpilogueStepIdeal.nD Cert.EpilogueStepIdeal.τ).loc Cert.EpilogueStepIdeal.main_arg0) = m ((c.tc : Thread Cert.EpilogueStepIdeal.nD Cert.EpilogueStepIdeal.τ).loc Cert.EpilogueStepIdeal.main_arg0)
      ∧ r.2.mem ((c.tc : Thread Cert.EpilogueStepIdeal.nD Cert.EpilogueStepIdeal.τ).loc Cert.EpilogueStepIdeal.main_arg1) = m ((c.tc : Thread Cert.EpilogueStepIdeal.nD Cert.EpilogueStepIdeal.τ).loc Cert.EpilogueStepIdeal.main_arg1)
      ∧ r.2.mem ((c.tc : Thread Cert.EpilogueStepIdeal.nD Cert.EpilogueStepIdeal.τ).loc Cert.EpilogueStepIdeal.main_arg2) = m ((c.tc : Thread Cert.EpilogueStepIdeal.nD Cert.EpilogueStepIdeal.τ).loc Cert.EpilogueStepIdeal.main_arg2)
      ∧ r.2.mem ((c.tc : Thread Cert.EpilogueStepIdeal.nD Cert.EpilogueStepIdeal.τ).loc Cert.EpilogueStepIdeal.main_arg3) = m ((c.tc : Thread Cert.EpilogueStepIdeal.nD Cert.EpilogueStepIdeal.τ).loc Cert.EpilogueStepIdeal.main_arg3)
      ∧ r.2.mem ((c.tc : Thread Cert.EpilogueStepIdeal.nD Cert.EpilogueStepIdeal.τ).loc Cert.EpilogueStepIdeal.main_arg4) = m ((c.tc : Thread Cert.EpilogueStepIdeal.nD Cert.EpilogueStepIdeal.τ).loc Cert.EpilogueStepIdeal.main_arg4)
      ∧ r.2.mem ((c.tc : Thread Cert.EpilogueStepIdeal.nD Cert.EpilogueStepIdeal.τ).loc Cert.EpilogueStepIdeal.main_arg5) = m ((c.tc : Thread Cert.EpilogueStepIdeal.nD Cert.EpilogueStepIdeal.τ).loc Cert.EpilogueStepIdeal.main_arg5)
      ∧ r.2.mem ((c.tc : Thread Cert.EpilogueStepIdeal.nD Cert.EpilogueStepIdeal.τ).loc Cert.EpilogueStepIdeal.main_arg6) = m ((c.tc : Thread Cert.EpilogueStepIdeal.nD Cert.EpilogueStepIdeal.τ).loc Cert.EpilogueStepIdeal.main_arg6)
      ∧ r.2.mem ((c.tc : Thread Cert.EpilogueStepIdeal.nD Cert.EpilogueStepIdeal.τ).loc Cert.EpilogueStepIdeal.main_arg7) = m ((c.tc : Thread Cert.EpilogueStepIdeal.nD Cert.EpilogueStepIdeal.τ).loc Cert.EpilogueStepIdeal.main_arg7)
      ∧ r.2.mem ((c.tc : Thread Cert.EpilogueStepIdeal.nD Cert.EpilogueStepIdeal.τ).loc Cert.EpilogueStepIdeal.main_arg8) = m ((c.tc : Thread Cert.EpilogueStepIdeal.nD Cert.EpilogueStepIdeal.τ).loc Cert.EpilogueStepIdeal.main_arg8)
      ∧ r.2.mem ((c.tc : Thread Cert.EpilogueStepIdeal.nD Cert.EpilogueStepIdeal.τ).loc Cert.EpilogueStepIdeal.main_arg9) = m ((c.tc : Thread Cert.EpilogueStepIdeal.nD Cert.EpilogueStepIdeal.τ).loc Cert.EpilogueStepIdeal.main_arg9))
      ∧ r.2.sem = fun _ => 0)

def quiescent_EpilogueStepRefIdeal [hEpilogueStepRefIdeal : Cert.EpilogueStepRefIdeal.Facts] : Prop :=
  ∀ (m : (ℓ : Loc Cert.EpilogueStepRefIdeal.nD Cert.EpilogueStepRefIdeal.τ Cert.EpilogueStepRefIdeal.sig) → Buf (Elt Ideal) ℓ) (g : Dev Cert.EpilogueStepRefIdeal.nD → PrngReg), Pre_EpilogueStepRefIdeal m →
    θ_run (Cert.EpilogueStepRefIdeal.defs (F := Ideal)) (onTc (τ := Cert.EpilogueStepRefIdeal.τ) (Cert.EpilogueStepRefIdeal.main (F := Ideal))) ⟨m, fun _ => 0, g⟩ (fun r => (∀ c : Dev Cert.EpilogueStepRefIdeal.nD,
      r.2.mem ((c.tc : Thread Cert.EpilogueStepRefIdeal.nD Cert.EpilogueStepRefIdeal.τ).loc Cert.EpilogueStepRefIdeal.main_arg0) = m ((c.tc : Thread Cert.EpilogueStepRefIdeal.nD Cert.EpilogueStepRefIdeal.τ).loc Cert.EpilogueStepRefIdeal.main_arg0)
      ∧ r.2.mem ((c.tc : Thread Cert.EpilogueStepRefIdeal.nD Cert.EpilogueStepRefIdeal.τ).loc Cert.EpilogueStepRefIdeal.main_arg1) = m ((c.tc : Thread Cert.EpilogueStepRefIdeal.nD Cert.EpilogueStepRefIdeal.τ).loc Cert.EpilogueStepRefIdeal.main_arg1)
      ∧ r.2.mem ((c.tc : Thread Cert.EpilogueStepRefIdeal.nD Cert.EpilogueStepRefIdeal.τ).loc Cert.EpilogueStepRefIdeal.main_arg2) = m ((c.tc : Thread Cert.EpilogueStepRefIdeal.nD Cert.EpilogueStepRefIdeal.τ).loc Cert.EpilogueStepRefIdeal.main_arg2)
      ∧ r.2.mem ((c.tc : Thread Cert.EpilogueStepRefIdeal.nD Cert.EpilogueStepRefIdeal.τ).loc Cert.EpilogueStepRefIdeal.main_arg3) = m ((c.tc : Thread Cert.EpilogueStepRefIdeal.nD Cert.EpilogueStepRefIdeal.τ).loc Cert.EpilogueStepRefIdeal.main_arg3)
      ∧ r.2.mem ((c.tc : Thread Cert.EpilogueStepRefIdeal.nD Cert.EpilogueStepRefIdeal.τ).loc Cert.EpilogueStepRefIdeal.main_arg4) = m ((c.tc : Thread Cert.EpilogueStepRefIdeal.nD Cert.EpilogueStepRefIdeal.τ).loc Cert.EpilogueStepRefIdeal.main_arg4)
      ∧ r.2.mem ((c.tc : Thread Cert.EpilogueStepRefIdeal.nD Cert.EpilogueStepRefIdeal.τ).loc Cert.EpilogueStepRefIdeal.main_arg5) = m ((c.tc : Thread Cert.EpilogueStepRefIdeal.nD Cert.EpilogueStepRefIdeal.τ).loc Cert.EpilogueStepRefIdeal.main_arg5)
      ∧ r.2.mem ((c.tc : Thread Cert.EpilogueStepRefIdeal.nD Cert.EpilogueStepRefIdeal.τ).loc Cert.EpilogueStepRefIdeal.main_arg6) = m ((c.tc : Thread Cert.EpilogueStepRefIdeal.nD Cert.EpilogueStepRefIdeal.τ).loc Cert.EpilogueStepRefIdeal.main_arg6)
      ∧ r.2.mem ((c.tc : Thread Cert.EpilogueStepRefIdeal.nD Cert.EpilogueStepRefIdeal.τ).loc Cert.EpilogueStepRefIdeal.main_arg7) = m ((c.tc : Thread Cert.EpilogueStepRefIdeal.nD Cert.EpilogueStepRefIdeal.τ).loc Cert.EpilogueStepRefIdeal.main_arg7)
      ∧ r.2.mem ((c.tc : Thread Cert.EpilogueStepRefIdeal.nD Cert.EpilogueStepRefIdeal.τ).loc Cert.EpilogueStepRefIdeal.main_arg8) = m ((c.tc : Thread Cert.EpilogueStepRefIdeal.nD Cert.EpilogueStepRefIdeal.τ).loc Cert.EpilogueStepRefIdeal.main_arg8)
      ∧ r.2.mem ((c.tc : Thread Cert.EpilogueStepRefIdeal.nD Cert.EpilogueStepRefIdeal.τ).loc Cert.EpilogueStepRefIdeal.main_arg9) = m ((c.tc : Thread Cert.EpilogueStepRefIdeal.nD Cert.EpilogueStepRefIdeal.τ).loc Cert.EpilogueStepRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v35) = v0 c
          ∧ r.2.mem ((c.tc : Thread Cert.MemKvRefIdeal.nD Cert.MemKvRefIdeal.τ).loc Cert.MemKvRefIdeal.main_v36) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v19)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v19) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v29) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Epilogue_EpilogueIdeal : Prop :=
  True

def algebraic_EpilogueIdeal_EpilogueRefIdeal [hEpilogueIdeal : Cert.EpilogueIdeal.Facts] [hEpilogueRefIdeal : Cert.EpilogueRefIdeal.Facts] : Prop :=
  ∀ (m : (ℓ : Loc Cert.EpilogueIdeal.nD Cert.EpilogueIdeal.τ Cert.EpilogueIdeal.sig) → Buf (Elt Ideal) ℓ) (g : Dev Cert.EpilogueIdeal.nD → PrngReg)
    (m' : (ℓ : Loc Cert.EpilogueRefIdeal.nD Cert.EpilogueRefIdeal.τ Cert.EpilogueRefIdeal.sig) → Buf (Elt Ideal) ℓ) (g' : Dev Cert.EpilogueRefIdeal.nD → PrngReg), Pre_EpilogueIdeal m →
    (∀ c : Dev Cert.EpilogueIdeal.nD,
      m' ((c.tc : Thread Cert.EpilogueRefIdeal.nD Cert.EpilogueRefIdeal.τ).loc Cert.EpilogueRefIdeal.main_arg0) = m ((c.tc : Thread Cert.EpilogueIdeal.nD Cert.EpilogueIdeal.τ).loc Cert.EpilogueIdeal.main_arg0)
      ∧ m' ((c.tc : Thread Cert.EpilogueRefIdeal.nD Cert.EpilogueRefIdeal.τ).loc Cert.EpilogueRefIdeal.main_arg1) = m ((c.tc : Thread Cert.EpilogueIdeal.nD Cert.EpilogueIdeal.τ).loc Cert.EpilogueIdeal.main_arg1)
      ∧ m' ((c.tc : Thread Cert.EpilogueRefIdeal.nD Cert.EpilogueRefIdeal.τ).loc Cert.EpilogueRefIdeal.main_arg2) = m ((c.tc : Thread Cert.EpilogueIdeal.nD Cert.EpilogueIdeal.τ).loc Cert.EpilogueIdeal.main_arg2)
      ∧ m' ((c.tc : Thread Cert.EpilogueRefIdeal.nD Cert.EpilogueRefIdeal.τ).loc Cert.EpilogueRefIdeal.main_arg3) = m ((c.tc : Thread Cert.EpilogueIdeal.nD Cert.EpilogueIdeal.τ).loc Cert.EpilogueIdeal.main_arg3)
      ∧ m' ((c.tc : Thread Cert.EpilogueRefIdeal.nD Cert.EpilogueRefIdeal.τ).loc Cert.EpilogueRefIdeal.main_arg4) = m ((c.tc : Thread Cert.EpilogueIdeal.nD Cert.EpilogueIdeal.τ).loc Cert.EpilogueIdeal.main_arg4)
      ∧ m' ((c.tc : Thread Cert.EpilogueRefIdeal.nD Cert.EpilogueRefIdeal.τ).loc Cert.EpilogueRefIdeal.main_arg5) = m ((c.tc : Thread Cert.EpilogueIdeal.nD Cert.EpilogueIdeal.τ).loc Cert.EpilogueIdeal.main_arg5)
      ∧ m' ((c.tc : Thread Cert.EpilogueRefIdeal.nD Cert.EpilogueRefIdeal.τ).loc Cert.EpilogueRefIdeal.main_arg6) = m ((c.tc : Thread Cert.EpilogueIdeal.nD Cert.EpilogueIdeal.τ).loc Cert.EpilogueIdeal.main_arg6)
      ∧ m' ((c.tc : Thread Cert.EpilogueRefIdeal.nD Cert.EpilogueRefIdeal.τ).loc Cert.EpilogueRefIdeal.main_arg7) = m ((c.tc : Thread Cert.EpilogueIdeal.nD Cert.EpilogueIdeal.τ).loc Cert.EpilogueIdeal.main_arg7)
      ∧ m' ((c.tc : Thread Cert.EpilogueRefIdeal.nD Cert.EpilogueRefIdeal.τ).loc Cert.EpilogueRefIdeal.main_arg8) = m ((c.tc : Thread Cert.EpilogueIdeal.nD Cert.EpilogueIdeal.τ).loc Cert.EpilogueIdeal.main_arg8)
      ∧ m' ((c.tc : Thread Cert.EpilogueRefIdeal.nD Cert.EpilogueRefIdeal.τ).loc Cert.EpilogueRefIdeal.main_arg9) = m ((c.tc : Thread Cert.EpilogueIdeal.nD Cert.EpilogueIdeal.τ).loc Cert.EpilogueIdeal.main_arg9)
      ∧ m' ((c.tc : Thread Cert.EpilogueRefIdeal.nD Cert.EpilogueRefIdeal.τ).loc Cert.EpilogueRefIdeal.main_arg10) = m ((c.tc : Thread Cert.EpilogueIdeal.nD Cert.EpilogueIdeal.τ).loc Cert.EpilogueIdeal.main_arg10)) →
    ∃ (v0 : (c : Dev Cert.EpilogueIdeal.nD) → Buf (Elt Ideal) ((c.tc : Thread Cert.EpilogueIdeal.nD Cert.EpilogueIdeal.τ).loc Cert.EpilogueIdeal.main_v134_0)) (v1 : (c : Dev Cert.EpilogueIdeal.nD) → Buf (Elt Ideal) ((c.tc : Thread Cert.EpilogueIdeal.nD Cert.EpilogueIdeal.τ).loc Cert.EpilogueIdeal.main_v134_1)) (v2 : (c : Dev Cert.EpilogueIdeal.nD) → Buf (Elt Ideal) ((c.tc : Thread Cert.EpilogueIdeal.nD Cert.EpilogueIdeal.τ).loc Cert.EpilogueIdeal.main_v134_2)) (v3 : (c : Dev Cert.EpilogueIdeal.nD) → Buf (Elt Ideal) ((c.tc : Thread Cert.EpilogueIdeal.nD Cert.EpilogueIdeal.τ).loc Cert.EpilogueIdeal.main_v134_3)) (v4 : (c : Dev Cert.EpilogueIdeal.nD) → Buf (Elt Ideal) ((c.tc : Thread Cert.EpilogueIdeal.nD Cert.EpilogueIdeal.τ).loc Cert.EpilogueIdeal.main_v134_4)),
      θ_run (Cert.EpilogueIdeal.defs (F := Ideal)) (onTc (τ := Cert.EpilogueIdeal.τ) (Cert.EpilogueIdeal.main (F := Ideal))) ⟨m, fun _ => 0, g⟩ (fun r => ∀ c : Dev Cert.EpilogueIdeal.nD,
          r.2.mem ((c.tc : Thread Cert.EpilogueIdeal.nD Cert.EpilogueIdeal.τ).loc Cert.EpilogueIdeal.main_v134_0) = v0 c
          ∧ r.2.mem ((c.tc : Thread Cert.EpilogueIdeal.nD Cert.EpilogueIdeal.τ).loc Cert.EpilogueIdeal.main_v134_1) = v1 c
          ∧ r.2.mem ((c.tc : Thread Cert.EpilogueIdeal.nD Cert.EpilogueIdeal.τ).loc Cert.EpilogueIdeal.main_v134_2) = v2 c
          ∧ r.2.mem ((c.tc : Thread Cert.EpilogueIdeal.nD Cert.EpilogueIdeal.τ).loc Cert.EpilogueIdeal.main_v134_3) = v3 c
          ∧ r.2.mem ((c.tc : Thread Cert.EpilogueIdeal.nD Cert.EpilogueIdeal.τ).loc Cert.EpilogueIdeal.main_v134_4) = v4 c
          ∧ r.2.mem ((c.tc : Thread Cert.EpilogueIdeal.nD Cert.EpilogueIdeal.τ).loc Cert.EpilogueIdeal.main_arg0) = m ((c.tc : Thread Cert.EpilogueIdeal.nD Cert.EpilogueIdeal.τ).loc Cert.EpilogueIdeal.main_arg0)
          ∧ r.2.mem ((c.tc : Thread Cert.EpilogueIdeal.nD Cert.EpilogueIdeal.τ).loc Cert.EpilogueIdeal.main_arg1) = m ((c.tc : Thread Cert.EpilogueIdeal.nD Cert.EpilogueIdeal.τ).loc Cert.EpilogueIdeal.main_arg1)
          ∧ r.2.mem ((c.tc : Thread Cert.EpilogueIdeal.nD Cert.EpilogueIdeal.τ).loc Cert.EpilogueIdeal.main_arg2) = m ((c.tc : Thread Cert.EpilogueIdeal.nD Cert.EpilogueIdeal.τ).loc Cert.EpilogueIdeal.main_arg2)
          ∧ r.2.mem ((c.tc : Thread Cert.EpilogueIdeal.nD Cert.EpilogueIdeal.τ).loc Cert.EpilogueIdeal.main_arg3) = m ((c.tc : Thread Cert.EpilogueIdeal.nD Cert.EpilogueIdeal.τ).loc Cert.EpilogueIdeal.main_arg3)
          ∧ r.2.mem ((c.tc : Thread Cert.EpilogueIdeal.nD Cert.EpilogueIdeal.τ).loc Cert.EpilogueIdeal.main_arg4) = m ((c.tc : Thread Cert.EpilogueIdeal.nD Cert.EpilogueIdeal.τ).loc Cert.EpilogueIdeal.main_arg4)
          ∧ r.2.mem ((c.tc : Thread Cert.EpilogueIdeal.nD Cert.EpilogueIdeal.τ).loc Cert.EpilogueIdeal.main_arg5) = m ((c.tc : Thread Cert.EpilogueIdeal.nD Cert.EpilogueIdeal.τ).loc Cert.EpilogueIdeal.main_arg5)
          ∧ r.2.mem ((c.tc : Thread Cert.EpilogueIdeal.nD Cert.EpilogueIdeal.τ).loc Cert.EpilogueIdeal.main_arg6) = m ((c.tc : Thread Cert.EpilogueIdeal.nD Cert.EpilogueIdeal.τ).loc Cert.EpilogueIdeal.main_arg6)
          ∧ r.2.mem ((c.tc : Thread Cert.EpilogueIdeal.nD Cert.EpilogueIdeal.τ).loc Cert.EpilogueIdeal.main_arg7) = m ((c.tc : Thread Cert.EpilogueIdeal.nD Cert.EpilogueIdeal.τ).loc Cert.EpilogueIdeal.main_arg7)
          ∧ r.2.mem ((c.tc : Thread Cert.EpilogueIdeal.nD Cert.EpilogueIdeal.τ).loc Cert.EpilogueIdeal.main_arg8) = m ((c.tc : Thread Cert.EpilogueIdeal.nD Cert.EpilogueIdeal.τ).loc Cert.EpilogueIdeal.main_arg8)
          ∧ r.2.mem ((c.tc : Thread Cert.EpilogueIdeal.nD Cert.EpilogueIdeal.τ).loc Cert.EpilogueIdeal.main_arg9) = m ((c.tc : Thread Cert.EpilogueIdeal.nD Cert.EpilogueIdeal.τ).loc Cert.EpilogueIdeal.main_arg9)
          ∧ r.2.mem ((c.tc : Thread Cert.EpilogueIdeal.nD Cert.EpilogueIdeal.τ).loc Cert.EpilogueIdeal.main_arg10) = m ((c.tc : Thread Cert.EpilogueIdeal.nD Cert.EpilogueIdeal.τ).loc Cert.EpilogueIdeal.main_arg10))
      ∧ θ_run (Cert.EpilogueRefIdeal.defs (F := Ideal)) (onTc (τ := Cert.EpilogueRefIdeal.τ) (Cert.EpilogueRefIdeal.main (F := Ideal))) ⟨m', fun _ => 0, g'⟩ (fun r => ∀ c : Dev Cert.EpilogueRefIdeal.nD,
          r.2.mem ((c.tc : Thread Cert.EpilogueRefIdeal.nD Cert.EpilogueRefIdeal.τ).loc Cert.EpilogueRefIdeal.main_v144) = v0 c
          ∧ r.2.mem ((c.tc : Thread Cert.EpilogueRefIdeal.nD Cert.EpilogueRefIdeal.τ).loc Cert.EpilogueRefIdeal.main_v145) = v1 c
          ∧ r.2.mem ((c.tc : Thread Cert.EpilogueRefIdeal.nD Cert.EpilogueRefIdeal.τ).loc Cert.EpilogueRefIdeal.main_v146) = v2 c
          ∧ r.2.mem ((c.tc : Thread Cert.EpilogueRefIdeal.nD Cert.EpilogueRefIdeal.τ).loc Cert.EpilogueRefIdeal.main_v147) = v3 c
          ∧ r.2.mem ((c.tc : Thread Cert.EpilogueRefIdeal.nD Cert.EpilogueRefIdeal.τ).loc Cert.EpilogueRefIdeal.main_v148) = v4 c
          ∧ r.2.mem ((c.tc : Thread Cert.EpilogueRefIdeal.nD Cert.EpilogueRefIdeal.τ).loc Cert.EpilogueRefIdeal.main_arg0) = m' ((c.tc : Thread Cert.EpilogueRefIdeal.nD Cert.EpilogueRefIdeal.τ).loc Cert.EpilogueRefIdeal.main_arg0)
          ∧ r.2.mem ((c.tc : Thread Cert.EpilogueRefIdeal.nD Cert.EpilogueRefIdeal.τ).loc Cert.EpilogueRefIdeal.main_arg1) = m' ((c.tc : Thread Cert.EpilogueRefIdeal.nD Cert.EpilogueRefIdeal.τ).loc Cert.EpilogueRefIdeal.main_arg1)
          ∧ r.2.mem ((c.tc : Thread Cert.EpilogueRefIdeal.nD Cert.EpilogueRefIdeal.τ).loc Cert.EpilogueRefIdeal.main_arg2) = m' ((c.tc : Thread Cert.EpilogueRefIdeal.nD Cert.EpilogueRefIdeal.τ).loc Cert.EpilogueRefIdeal.main_arg2)
          ∧ r.2.mem ((c.tc : Thread Cert.EpilogueRefIdeal.nD Cert.EpilogueRefIdeal.τ).loc Cert.EpilogueRefIdeal.main_arg3) = m' ((c.tc : Thread Cert.EpilogueRefIdeal.nD Cert.EpilogueRefIdeal.τ).loc Cert.EpilogueRefIdeal.main_arg3)
          ∧ r.2.mem ((c.tc : Thread Cert.EpilogueRefIdeal.nD Cert.EpilogueRefIdeal.τ).loc Cert.EpilogueRefIdeal.main_arg4) = m' ((c.tc : Thread Cert.EpilogueRefIdeal.nD Cert.EpilogueRefIdeal.τ).loc Cert.EpilogueRefIdeal.main_arg4)
          ∧ r.2.mem ((c.tc : Thread Cert.EpilogueRefIdeal.nD Cert.EpilogueRefIdeal.τ).loc Cert.EpilogueRefIdeal.main_arg5) = m' ((c.tc : Thread Cert.EpilogueRefIdeal.nD Cert.EpilogueRefIdeal.τ).loc Cert.EpilogueRefIdeal.main_arg5)
          ∧ r.2.mem ((c.tc : Thread Cert.EpilogueRefIdeal.nD Cert.EpilogueRefIdeal.τ).loc Cert.EpilogueRefIdeal.main_arg6) = m' ((c.tc : Thread Cert.EpilogueRefIdeal.nD Cert.EpilogueRefIdeal.τ).loc Cert.EpilogueRefIdeal.main_arg6)
          ∧ r.2.mem ((c.tc : Thread Cert.EpilogueRefIdeal.nD Cert.EpilogueRefIdeal.τ).loc Cert.EpilogueRefIdeal.main_arg7) = m' ((c.tc : Thread Cert.EpilogueRefIdeal.nD Cert.EpilogueRefIdeal.τ).loc Cert.EpilogueRefIdeal.main_arg7)
          ∧ r.2.mem ((c.tc : Thread Cert.EpilogueRefIdeal.nD Cert.EpilogueRefIdeal.τ).loc Cert.EpilogueRefIdeal.main_arg8) = m' ((c.tc : Thread Cert.EpilogueRefIdeal.nD Cert.EpilogueRefIdeal.τ).loc Cert.EpilogueRefIdeal.main_arg8)
          ∧ r.2.mem ((c.tc : Thread Cert.EpilogueRefIdeal.nD Cert.EpilogueRefIdeal.τ).loc Cert.EpilogueRefIdeal.main_arg9) = m' ((c.tc : Thread Cert.EpilogueRefIdeal.nD Cert.EpilogueRefIdeal.τ).loc Cert.EpilogueRefIdeal.main_arg9)
          ∧ r.2.mem ((c.tc : Thread Cert.EpilogueRefIdeal.nD Cert.EpilogueRefIdeal.τ).loc Cert.EpilogueRefIdeal.main_arg10) = m' ((c.tc : Thread Cert.EpilogueRefIdeal.nD Cert.EpilogueRefIdeal.τ).loc Cert.EpilogueRefIdeal.main_arg10))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)) →
    ∃ (v0 : (c : Dev Cert.FfnStepIdeal.nD) → Buf (Elt Ideal) ((c.tc : Thread Cert.FfnStepIdeal.nD Cert.FfnStepIdeal.τ).loc Cert.FfnStepIdeal.main_v9)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v9) = v0 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v25) = v0 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4))

def preserves_EpilogueStep_EpilogueStepIdeal : Prop :=
  True

def algebraic_EpilogueStepIdeal_EpilogueStepRefIdeal [hEpilogueStepIdeal : Cert.EpilogueStepIdeal.Facts] [hEpilogueStepRefIdeal : Cert.EpilogueStepRefIdeal.Facts] : Prop :=
  ∀ (m : (ℓ : Loc Cert.EpilogueStepIdeal.nD Cert.EpilogueStepIdeal.τ Cert.EpilogueStepIdeal.sig) → Buf (Elt Ideal) ℓ) (g : Dev Cert.EpilogueStepIdeal.nD → PrngReg)
    (m' : (ℓ : Loc Cert.EpilogueStepRefIdeal.nD Cert.EpilogueStepRefIdeal.τ Cert.EpilogueStepRefIdeal.sig) → Buf (Elt Ideal) ℓ) (g' : Dev Cert.EpilogueStepRefIdeal.nD → PrngReg), Pre_EpilogueStepIdeal m →
    (∀ c : Dev Cert.EpilogueStepIdeal.nD,
      m' ((c.tc : Thread Cert.EpilogueStepRefIdeal.nD Cert.EpilogueStepRefIdeal.τ).loc Cert.EpilogueStepRefIdeal.main_arg0) = m ((c.tc : Thread Cert.EpilogueStepIdeal.nD Cert.EpilogueStepIdeal.τ).loc Cert.EpilogueStepIdeal.main_arg0)
      ∧ m' ((c.tc : Thread Cert.EpilogueStepRefIdeal.nD Cert.EpilogueStepRefIdeal.τ).loc Cert.EpilogueStepRefIdeal.main_arg1) = m ((c.tc : Thread Cert.EpilogueStepIdeal.nD Cert.EpilogueStepIdeal.τ).loc Cert.EpilogueStepIdeal.main_arg1)
      ∧ m' ((c.tc : Thread Cert.EpilogueStepRefIdeal.nD Cert.EpilogueStepRefIdeal.τ).loc Cert.EpilogueStepRefIdeal.main_arg2) = m ((c.tc : Thread Cert.EpilogueStepIdeal.nD Cert.EpilogueStepIdeal.τ).loc Cert.EpilogueStepIdeal.main_arg2)
      ∧ m' ((c.tc : Thread Cert.EpilogueStepRefIdeal.nD Cert.EpilogueStepRefIdeal.τ).loc Cert.EpilogueStepRefIdeal.main_arg3) = m ((c.tc : Thread Cert.EpilogueStepIdeal.nD Cert.EpilogueStepIdeal.τ).loc Cert.EpilogueStepIdeal.main_arg3)
      ∧ m' ((c.tc : Thread Cert.EpilogueStepRefIdeal.nD Cert.EpilogueStepRefIdeal.τ).loc Cert.EpilogueStepRefIdeal.main_arg4) = m ((c.tc : Thread Cert.EpilogueStepIdeal.nD Cert.EpilogueStepIdeal.τ).loc Cert.EpilogueStepIdeal.main_arg4)
      ∧ m' ((c.tc : Thread Cert.EpilogueStepRefIdeal.nD Cert.EpilogueStepRefIdeal.τ).loc Cert.EpilogueStepRefIdeal.main_arg5) = m ((c.tc : Thread Cert.EpilogueStepIdeal.nD Cert.EpilogueStepIdeal.τ).loc Cert.EpilogueStepIdeal.main_arg5)
      ∧ m' ((c.tc : Thread Cert.EpilogueStepRefIdeal.nD Cert.EpilogueStepRefIdeal.τ).loc Cert.EpilogueStepRefIdeal.main_arg6) = m ((c.tc : Thread Cert.EpilogueStepIdeal.nD Cert.EpilogueStepIdeal.τ).loc Cert.EpilogueStepIdeal.main_arg6)
      ∧ m' ((c.tc : Thread Cert.EpilogueStepRefIdeal.nD Cert.EpilogueStepRefIdeal.τ).loc Cert.EpilogueStepRefIdeal.main_arg7) = m ((c.tc : Thread Cert.EpilogueStepIdeal.nD Cert.EpilogueStepIdeal.τ).loc Cert.EpilogueStepIdeal.main_arg7)
      ∧ m' ((c.tc : Thread Cert.EpilogueStepRefIdeal.nD Cert.EpilogueStepRefIdeal.τ).loc Cert.EpilogueStepRefIdeal.main_arg8) = m ((c.tc : Thread Cert.EpilogueStepIdeal.nD Cert.EpilogueStepIdeal.τ).loc Cert.EpilogueStepIdeal.main_arg8)
      ∧ m' ((c.tc : Thread Cert.EpilogueStepRefIdeal.nD Cert.EpilogueStepRefIdeal.τ).loc Cert.EpilogueStepRefIdeal.main_arg9) = m ((c.tc : Thread Cert.EpilogueStepIdeal.nD Cert.EpilogueStepIdeal.τ).loc Cert.EpilogueStepIdeal.main_arg9)) →
    ∃ (v0 : (c : Dev Cert.EpilogueStepIdeal.nD) → Buf (Elt Ideal) ((c.tc : Thread Cert.EpilogueStepIdeal.nD Cert.EpilogueStepIdeal.τ).loc Cert.EpilogueStepIdeal.main_v133_0)) (v1 : (c : Dev Cert.EpilogueStepIdeal.nD) → Buf (Elt Ideal) ((c.tc : Thread Cert.EpilogueStepIdeal.nD Cert.EpilogueStepIdeal.τ).loc Cert.EpilogueStepIdeal.main_v133_1)) (v2 : (c : Dev Cert.EpilogueStepIdeal.nD) → Buf (Elt Ideal) ((c.tc : Thread Cert.EpilogueStepIdeal.nD Cert.EpilogueStepIdeal.τ).loc Cert.EpilogueStepIdeal.main_v133_2)) (v3 : (c : Dev Cert.EpilogueStepIdeal.nD) → Buf (Elt Ideal) ((c.tc : Thread Cert.EpilogueStepIdeal.nD Cert.EpilogueStepIdeal.τ).loc Cert.EpilogueStepIdeal.main_v133_3)) (v4 : (c : Dev Cert.EpilogueStepIdeal.nD) → Buf (Elt Ideal) ((c.tc : Thread Cert.EpilogueStepIdeal.nD Cert.EpilogueStepIdeal.τ).loc Cert.EpilogueStepIdeal.main_v133_4)),
      θ_run (Cert.EpilogueStepIdeal.defs (F := Ideal)) (onTc (τ := Cert.EpilogueStepIdeal.τ) (Cert.EpilogueStepIdeal.main (F := Ideal))) ⟨m, fun _ => 0, g⟩ (fun r => ∀ c : Dev Cert.EpilogueStepIdeal.nD,
          r.2.mem ((c.tc : Thread Cert.EpilogueStepIdeal.nD Cert.EpilogueStepIdeal.τ).loc Cert.EpilogueStepIdeal.main_v133_0) = v0 c
          ∧ r.2.mem ((c.tc : Thread Cert.EpilogueStepIdeal.nD Cert.EpilogueStepIdeal.τ).loc Cert.EpilogueStepIdeal.main_v133_1) = v1 c
          ∧ r.2.mem ((c.tc : Thread Cert.EpilogueStepIdeal.nD Cert.EpilogueStepIdeal.τ).loc Cert.EpilogueStepIdeal.main_v133_2) = v2 c
          ∧ r.2.mem ((c.tc : Thread Cert.EpilogueStepIdeal.nD Cert.EpilogueStepIdeal.τ).loc Cert.EpilogueStepIdeal.main_v133_3) = v3 c
          ∧ r.2.mem ((c.tc : Thread Cert.EpilogueStepIdeal.nD Cert.EpilogueStepIdeal.τ).loc Cert.EpilogueStepIdeal.main_v133_4) = v4 c
          ∧ r.2.mem ((c.tc : Thread Cert.EpilogueStepIdeal.nD Cert.EpilogueStepIdeal.τ).loc Cert.EpilogueStepIdeal.main_arg0) = m ((c.tc : Thread Cert.EpilogueStepIdeal.nD Cert.EpilogueStepIdeal.τ).loc Cert.EpilogueStepIdeal.main_arg0)
          ∧ r.2.mem ((c.tc : Thread Cert.EpilogueStepIdeal.nD Cert.EpilogueStepIdeal.τ).loc Cert.EpilogueStepIdeal.main_arg1) = m ((c.tc : Thread Cert.EpilogueStepIdeal.nD Cert.EpilogueStepIdeal.τ).loc Cert.EpilogueStepIdeal.main_arg1)
          ∧ r.2.mem ((c.tc : Thread Cert.EpilogueStepIdeal.nD Cert.EpilogueStepIdeal.τ).loc Cert.EpilogueStepIdeal.main_arg2) = m ((c.tc : Thread Cert.EpilogueStepIdeal.nD Cert.EpilogueStepIdeal.τ).loc Cert.EpilogueStepIdeal.main_arg2)
          ∧ r.2.mem ((c.tc : Thread Cert.EpilogueStepIdeal.nD Cert.EpilogueStepIdeal.τ).loc Cert.EpilogueStepIdeal.main_arg3) = m ((c.tc : Thread Cert.EpilogueStepIdeal.nD Cert.EpilogueStepIdeal.τ).loc Cert.EpilogueStepIdeal.main_arg3)
          ∧ r.2.mem ((c.tc : Thread Cert.EpilogueStepIdeal.nD Cert.EpilogueStepIdeal.τ).loc Cert.EpilogueStepIdeal.main_arg4) = m ((c.tc : Thread Cert.EpilogueStepIdeal.nD Cert.EpilogueStepIdeal.τ).loc Cert.EpilogueStepIdeal.main_arg4)
          ∧ r.2.mem ((c.tc : Thread Cert.EpilogueStepIdeal.nD Cert.EpilogueStepIdeal.τ).loc Cert.EpilogueStepIdeal.main_arg5) = m ((c.tc : Thread Cert.EpilogueStepIdeal.nD Cert.EpilogueStepIdeal.τ).loc Cert.EpilogueStepIdeal.main_arg5)
          ∧ r.2.mem ((c.tc : Thread Cert.EpilogueStepIdeal.nD Cert.EpilogueStepIdeal.τ).loc Cert.EpilogueStepIdeal.main_arg6) = m ((c.tc : Thread Cert.EpilogueStepIdeal.nD Cert.EpilogueStepIdeal.τ).loc Cert.EpilogueStepIdeal.main_arg6)
          ∧ r.2.mem ((c.tc : Thread Cert.EpilogueStepIdeal.nD Cert.EpilogueStepIdeal.τ).loc Cert.EpilogueStepIdeal.main_arg7) = m ((c.tc : Thread Cert.EpilogueStepIdeal.nD Cert.EpilogueStepIdeal.τ).loc Cert.EpilogueStepIdeal.main_arg7)
          ∧ r.2.mem ((c.tc : Thread Cert.EpilogueStepIdeal.nD Cert.EpilogueStepIdeal.τ).loc Cert.EpilogueStepIdeal.main_arg8) = m ((c.tc : Thread Cert.EpilogueStepIdeal.nD Cert.EpilogueStepIdeal.τ).loc Cert.EpilogueStepIdeal.main_arg8)
          ∧ r.2.mem ((c.tc : Thread Cert.EpilogueStepIdeal.nD Cert.EpilogueStepIdeal.τ).loc Cert.EpilogueStepIdeal.main_arg9) = m ((c.tc : Thread Cert.EpilogueStepIdeal.nD Cert.EpilogueStepIdeal.τ).loc Cert.EpilogueStepIdeal.main_arg9))
      ∧ θ_run (Cert.EpilogueStepRefIdeal.defs (F := Ideal)) (onTc (τ := Cert.EpilogueStepRefIdeal.τ) (Cert.EpilogueStepRefIdeal.main (F := Ideal))) ⟨m', fun _ => 0, g'⟩ (fun r => ∀ c : Dev Cert.EpilogueStepRefIdeal.nD,
          r.2.mem ((c.tc : Thread Cert.EpilogueStepRefIdeal.nD Cert.EpilogueStepRefIdeal.τ).loc Cert.EpilogueStepRefIdeal.main_v146) = v0 c
          ∧ r.2.mem ((c.tc : Thread Cert.EpilogueStepRefIdeal.nD Cert.EpilogueStepRefIdeal.τ).loc Cert.EpilogueStepRefIdeal.main_v147) = v1 c
          ∧ r.2.mem ((c.tc : Thread Cert.EpilogueStepRefIdeal.nD Cert.EpilogueStepRefIdeal.τ).loc Cert.EpilogueStepRefIdeal.main_v148) = v2 c
          ∧ r.2.mem ((c.tc : Thread Cert.EpilogueStepRefIdeal.nD Cert.EpilogueStepRefIdeal.τ).loc Cert.EpilogueStepRefIdeal.main_v149) = v3 c
          ∧ r.2.mem ((c.tc : Thread Cert.EpilogueStepRefIdeal.nD Cert.EpilogueStepRefIdeal.τ).loc Cert.EpilogueStepRefIdeal.main_v150) = v4 c
          ∧ r.2.mem ((c.tc : Thread Cert.EpilogueStepRefIdeal.nD Cert.EpilogueStepRefIdeal.τ).loc Cert.EpilogueStepRefIdeal.main_arg0) = m' ((c.tc : Thread Cert.EpilogueStepRefIdeal.nD Cert.EpilogueStepRefIdeal.τ).loc Cert.EpilogueStepRefIdeal.main_arg0)
          ∧ r.2.mem ((c.tc : Thread Cert.EpilogueStepRefIdeal.nD Cert.EpilogueStepRefIdeal.τ).loc Cert.EpilogueStepRefIdeal.main_arg1) = m' ((c.tc : Thread Cert.EpilogueStepRefIdeal.nD Cert.EpilogueStepRefIdeal.τ).loc Cert.EpilogueStepRefIdeal.main_arg1)
          ∧ r.2.mem ((c.tc : Thread Cert.EpilogueStepRefIdeal.nD Cert.EpilogueStepRefIdeal.τ).loc Cert.EpilogueStepRefIdeal.main_arg2) = m' ((c.tc : Thread Cert.EpilogueStepRefIdeal.nD Cert.EpilogueStepRefIdeal.τ).loc Cert.EpilogueStepRefIdeal.main_arg2)
          ∧ r.2.mem ((c.tc : Thread Cert.EpilogueStepRefIdeal.nD Cert.EpilogueStepRefIdeal.τ).loc Cert.EpilogueStepRefIdeal.main_arg3) = m' ((c.tc : Thread Cert.EpilogueStepRefIdeal.nD Cert.EpilogueStepRefIdeal.τ).loc Cert.EpilogueStepRefIdeal.main_arg3)
          ∧ r.2.mem ((c.tc : Thread Cert.EpilogueStepRefIdeal.nD Cert.EpilogueStepRefIdeal.τ).loc Cert.EpilogueStepRefIdeal.main_arg4) = m' ((c.tc : Thread Cert.EpilogueStepRefIdeal.nD Cert.EpilogueStepRefIdeal.τ).loc Cert.EpilogueStepRefIdeal.main_arg4)
          ∧ r.2.mem ((c.tc : Thread Cert.EpilogueStepRefIdeal.nD Cert.EpilogueStepRefIdeal.τ).loc Cert.EpilogueStepRefIdeal.main_arg5) = m' ((c.tc : Thread Cert.EpilogueStepRefIdeal.nD Cert.EpilogueStepRefIdeal.τ).loc Cert.EpilogueStepRefIdeal.main_arg5)
          ∧ r.2.mem ((c.tc : Thread Cert.EpilogueStepRefIdeal.nD Cert.EpilogueStepRefIdeal.τ).loc Cert.EpilogueStepRefIdeal.main_arg6) = m' ((c.tc : Thread Cert.EpilogueStepRefIdeal.nD Cert.EpilogueStepRefIdeal.τ).loc Cert.EpilogueStepRefIdeal.main_arg6)
          ∧ r.2.mem ((c.tc : Thread Cert.EpilogueStepRefIdeal.nD Cert.EpilogueStepRefIdeal.τ).loc Cert.EpilogueStepRefIdeal.main_arg7) = m' ((c.tc : Thread Cert.EpilogueStepRefIdeal.nD Cert.EpilogueStepRefIdeal.τ).loc Cert.EpilogueStepRefIdeal.main_arg7)
          ∧ r.2.mem ((c.tc : Thread Cert.EpilogueStepRefIdeal.nD Cert.EpilogueStepRefIdeal.τ).loc Cert.EpilogueStepRefIdeal.main_arg8) = m' ((c.tc : Thread Cert.EpilogueStepRefIdeal.nD Cert.EpilogueStepRefIdeal.τ).loc Cert.EpilogueStepRefIdeal.main_arg8)
          ∧ r.2.mem ((c.tc : Thread Cert.EpilogueStepRefIdeal.nD Cert.EpilogueStepRefIdeal.τ).loc Cert.EpilogueStepRefIdeal.main_arg9) = m' ((c.tc : Thread Cert.EpilogueStepRefIdeal.nD Cert.EpilogueStepRefIdeal.τ).loc Cert.EpilogueStepRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hProject : Cert.Project.Facts) (hProjectIdeal : Cert.ProjectIdeal.Facts) (hProjectRefIdeal : Cert.ProjectRefIdeal.Facts) (hEpilogue : Cert.Epilogue.Facts) (hEpilogueIdeal : Cert.EpilogueIdeal.Facts) (hEpilogueRefIdeal : Cert.EpilogueRefIdeal.Facts) (hFfnStep : Cert.FfnStep.Facts) (hFfnStepIdeal : Cert.FfnStepIdeal.Facts) (hFfnStepRefIdeal : Cert.FfnStepRefIdeal.Facts) (hEpilogueStep : Cert.EpilogueStep.Facts) (hEpilogueStepIdeal : Cert.EpilogueStepIdeal.Facts) (hEpilogueStepRefIdeal : Cert.EpilogueStepRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Project (hProject := hProject)
    ∧ quiescent_ProjectIdeal (hProjectIdeal := hProjectIdeal)
    ∧ quiescent_ProjectRefIdeal (hProjectRefIdeal := hProjectRefIdeal)
    ∧ quiescent_Epilogue (hEpilogue := hEpilogue)
    ∧ quiescent_EpilogueIdeal (hEpilogueIdeal := hEpilogueIdeal)
    ∧ quiescent_EpilogueRefIdeal (hEpilogueRefIdeal := hEpilogueRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ quiescent_EpilogueStep (hEpilogueStep := hEpilogueStep)
    ∧ quiescent_EpilogueStepIdeal (hEpilogueStepIdeal := hEpilogueStepIdeal)
    ∧ quiescent_EpilogueStepRefIdeal (hEpilogueStepRefIdeal := hEpilogueStepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Project_ProjectIdeal
    ∧ algebraic_ProjectIdeal_ProjectRefIdeal (hProjectIdeal := hProjectIdeal) (hProjectRefIdeal := hProjectRefIdeal)
    ∧ preserves_Epilogue_EpilogueIdeal
    ∧ algebraic_EpilogueIdeal_EpilogueRefIdeal (hEpilogueIdeal := hEpilogueIdeal) (hEpilogueRefIdeal := hEpilogueRefIdeal)
    ∧ preserves_FfnStep_FfnStepIdeal
    ∧ algebraic_FfnStepIdeal_FfnStepRefIdeal (hFfnStepIdeal := hFfnStepIdeal) (hFfnStepRefIdeal := hFfnStepRefIdeal)
    ∧ preserves_EpilogueStep_EpilogueStepIdeal
    ∧ algebraic_EpilogueStepIdeal_EpilogueStepRefIdeal (hEpilogueStepIdeal := hEpilogueStepIdeal) (hEpilogueStepRefIdeal := hEpilogueStepRefIdeal)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .bf16) (main_arg2 : FVec F S8192x1024 .bf16) : IVec S_ 1 :=
  let main_v0 : FVec F S8192x2048 .f32 := (extf .f32 · bitsLt_bf16_f32) main_arg0
  let main_v1 : FVec F S8192x2048 .f32 := (extf .f32 · bitsLt_bf16_f32) main_arg1
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S8192x2048 .f32 := Host.absf main_v1
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v5 main_v9
  main_v10
-- ==== Kernel.lean ====
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S8x512x128 : Shape := ⟨3, ![8, 512, 128]⟩
abbrev S512x256 : Shape := ⟨2, ![512, 256]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x1024 : Shape := ⟨2, ![8192, 1024]⟩
abbrev S2x4096x8x256 : Shape := ⟨4, ![2, 4096, 8, 256]⟩
abbrev S2x4096x8x128 : Shape := ⟨4, ![2, 4096, 8, 128]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S2x4096x8x256, .f32⟩
  | .hbm, ⟨5, _⟩ => ⟨S8192x2048, .f32⟩
  | .hbm, ⟨6, _⟩ => ⟨S2x4096x8x256, .f32⟩
  | .hbm, ⟨7, _⟩ => ⟨S8192x1024, .f32⟩
  | .hbm, ⟨8, _⟩ => ⟨S2x4096x8x128, .f32⟩
  | .hbm, ⟨9, _⟩ => ⟨S2x8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x1x4096x4096, .i1⟩
  | .hbm, ⟨18, _⟩ => ⟨S_, .f32⟩
  | .hbm, ⟨19, _⟩ => ⟨S_, .f32⟩
  | .hbm, ⟨20, _⟩ => ⟨S2x8x4096x4096, .i1⟩
  | .hbm, ⟨21, _⟩ => ⟨S2x8x4096x4096, .f32⟩
  | .hbm, ⟨22, _⟩ => ⟨S2x8x4096x4096, .f32⟩
  | .hbm, ⟨23, _⟩ => ⟨S_, .f32⟩
  | .hbm, ⟨24, _⟩ => ⟨S2x8x4096, .f32⟩
  | .hbm, ⟨25, _⟩ => ⟨S_, .f32⟩
  | .hbm, ⟨26, _⟩ => ⟨S2x8x4096, .f32⟩
  | .hbm, ⟨27, _⟩ => ⟨S2x8x4096, .f32⟩
  | .hbm, ⟨28, _⟩ => ⟨S2x8x4096x1, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096, .f32⟩
  | .hbm, ⟨34, _⟩ => ⟨S2x8x4096x1, .f32⟩
  | .hbm, ⟨35, _⟩ => ⟨S2x8x4096x4096, .f32⟩
  | .hbm, ⟨36, _⟩ => ⟨S2x8x4096x4096, .f32⟩
  | .hbm, ⟨37, _⟩ => ⟨S2x8x128x4096, .f32⟩
  | .hbm, ⟨38, _⟩ => ⟨S2x4096x8x128, .f32⟩
  | .hbm, ⟨39, _⟩ => ⟨S8192x1024, .f32⟩
  | .hbm, ⟨40, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Ffn.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S2x4096x5632 : Shape := ⟨3, ![2, 4096, 5632]⟩
abbrev S5632x2048 : Shape := ⟨2, ![5632, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S_, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2048x5632, .f32⟩
  | .hbm, ⟨34, _⟩ => ⟨S2x4096x5632, .f32⟩
  | .hbm, ⟨35, _⟩ => ⟨S2x4096x5632, .f32⟩
  | .hbm, ⟨36, _⟩ => ⟨S5632x2048, .f32⟩
  | .hbm, ⟨37, _⟩ => ⟨S2x4096x2048, .f32⟩
  | .hbm, ⟨38, _⟩ => ⟨S_, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== MemKv.lean ====
abbrev S2x256x2048 : Shape := ⟨3, ![2, 256, 2048]⟩
abbrev S1x2048 : Shape := ⟨2, ![1, 2048]⟩
abbrev S1x2048x2048 : Shape := ⟨3, ![1, 2048, 2048]⟩
abbrev S1x256 : Shape := ⟨2, ![1, 256]⟩
abbrev S512x2048 : Shape := ⟨2, ![512, 2048]⟩
abbrev S2048 : Shape := ⟨1, ![2048]⟩
abbrev S2048x2048 : Shape := ⟨2, ![2048, 2048]⟩
abbrev S256 : Shape := ⟨1, ![256]⟩
abbrev S512x1024 : Shape := ⟨2, ![512, 1024]⟩
abbrev S256x2048 : Shape := ⟨2, ![256, 2048]⟩
abbrev S256x1024 : Shape := ⟨2, ![256, 1024]⟩
abbrev S256x1 : Shape := ⟨2, ![256, 1]⟩
abbrev S256x256 : Shape := ⟨2, ![256, 256]⟩

abbrev nBuf : Space → Nat
  | .hbm => 13
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S256, .f32⟩
  | .hbm, ⟨10, _⟩ => ⟨S1x256, .f32⟩
  | .hbm, ⟨11, _⟩ => ⟨S512x1024, .f32⟩
  | .hbm, ⟨12, _⟩ => ⟨S512x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S2x256x2048 : Shape := ⟨3, ![2, 256, 2048]⟩
abbrev S1x2048 : Shape := ⟨2, ![1, 2048]⟩
abbrev S1x2048x2048 : Shape := ⟨3, ![1, 2048, 2048]⟩
abbrev S1x256 : Shape := ⟨2, ![1, 256]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x2048 : Shape := ⟨2, ![2048, 2048]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S256 : Shape := ⟨1, ![256]⟩
abbrev S2x256x4 : Shape := ⟨3, ![2, 256, 4]⟩
abbrev S2x256x4x1 : Shape := ⟨4, ![2, 256, 4, 1]⟩
abbrev S1x1x1x256 : Shape := ⟨4, ![1, 1, 1, 256]⟩
abbrev S512x1024 : Shape := ⟨2, ![512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S2048x2048, .f32⟩
  | .hbm, ⟨22, _⟩ => ⟨S2x256x2048, .f32⟩
  | .hbm, ⟨23, _⟩ => ⟨S2x256x2x4x256, .f32⟩
  | .hbm, ⟨24, _⟩ => ⟨S2x256x1x4x256, .f32⟩
  | .hbm, ⟨25, _⟩ => ⟨S2x256x4x256, .f32⟩
  | .hbm, ⟨26, _⟩ => ⟨S256, .f32⟩
  | .hbm, ⟨27, _⟩ => ⟨S2x256x4x256, .f32⟩
  | .hbm, ⟨28, _⟩ => ⟨S_, .f32⟩
  | .hbm, ⟨29, _⟩ => ⟨S2x256x4, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S_, .f32⟩
  | .hbm, ⟨35, _⟩ => ⟨S2x256x4x1, .f32⟩
  | .hbm, ⟨36, _⟩ => ⟨S2x256x4x1, .f32⟩
  | .hbm, ⟨37, _⟩ => ⟨S2x256x4x1, .f32⟩
  | .hbm, ⟨38, _⟩ => ⟨S2x256x4x256, .f32⟩
  | .hbm, ⟨39, _⟩ => ⟨S2x256x4x256, .f32⟩
  | .hbm, ⟨40, _⟩ => ⟨S1x1x1x256, .f32⟩
  | .hbm, ⟨41, _⟩ => ⟨S2x256x4x256, .f32⟩
  | .hbm, ⟨42, _⟩ => ⟨S2x256x4x256, .f32⟩
  | .hbm, ⟨43, _⟩ => ⟨S2x256x1x4x256, .f32⟩
  | .hbm, ⟨44, _⟩ => ⟨S2x256x4x256, .f32⟩
  | .hbm, ⟨45, _⟩ => ⟨S512x1024, .f32⟩
  | .hbm, ⟨46, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S8192x11264 : Shape := ⟨2, ![8192, 11264]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 18
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x11264, .f32⟩
  | .hbm, ⟨5, _⟩ => ⟨S1x1024x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .f32⟩
  | .local _ .vmem, ⟨23, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MergeRefIdeal.lean ====
abbrev S8192x2048 : Shape := ⟨2, ![8192, 2048]⟩
abbrev S8192x1024 : Shape := ⟨2, ![8192, 1024]⟩
abbrev S8192x11264 : Shape := ⟨2, ![8192, 11264]⟩
abbrev S1x1024x2048 : Shape := ⟨3, ![1, 1024, 2048]⟩
abbrev S1x2048x2048 : Shape := ⟨3, ![1, 2048, 2048]⟩
abbrev S8192x6144 : Shape := ⟨2, ![8192, 6144]⟩
abbrev S_ : Shape := ⟨0, ![]⟩
abbrev S8192x3x2048 : Shape := ⟨3, ![8192, 3, 2048]⟩
abbrev S1024x2048 : Shape := ⟨2, ![1024, 2048]⟩
abbrev S8192x1x2048 : Shape := ⟨3, ![8192, 1, 2048]⟩
abbrev S2048x2048 : Shape := ⟨2, ![2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x11264, .f32⟩
  | .hbm, ⟨5, _⟩ => ⟨S1x1024x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S8192x6144, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S8192x3x2048, .f32⟩
  | .hbm, ⟨19, _⟩ => ⟨S8192x1024, .f32⟩
  | .hbm, ⟨20, _⟩ => ⟨S1024x2048, .f32⟩
  | .hbm, ⟨21, _⟩ => ⟨S8192x2048, .f32⟩
  | .hbm, ⟨22, _⟩ => ⟨S8192x1024, .f32⟩
  | .hbm, ⟨23, _⟩ => ⟨S1024x2048, .f32⟩
  | .hbm, ⟨24, _⟩ => ⟨S8192x2048, .f32⟩
  | .hbm, ⟨25, _⟩ => ⟨S8192x1024, .f32⟩
  | .hbm, ⟨26, _⟩ => ⟨S1024x2048, .f32⟩
  | .hbm, ⟨27, _⟩ => ⟨S8192x2048, .f32⟩
  | .hbm, ⟨28, _⟩ => ⟨S8192x1x2048, .f32⟩
  | .hbm, ⟨29, _⟩ => ⟨S8192x2048, .f32⟩
  | .hbm, ⟨30, _⟩ => ⟨S8192x2048, .f32⟩
  | .hbm, ⟨31, _⟩ => ⟨S8192x1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S2048x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Project.lean ====
abbrev S2x4096x2048 : Shape := ⟨3, ![2, 4096, 2048]⟩
abbrev S1x2048 : Shape := ⟨2, ![1, 2048]⟩
abbrev S1x2048x11152 : Shape := ⟨3, ![1, 2048, 11152]⟩
abbrev S8192x2048 : Shape := ⟨2, ![8192, 2048]⟩
abbrev S2048 : Shape := ⟨1, ![2048]⟩
abbrev S2048x11152 : Shape := ⟨2, ![2048, 11152]⟩
abbrev S11152x2048 : Shape := ⟨2, ![11152, 2048]⟩
abbrev S_ : Shape := ⟨0, ![]⟩
abbrev S112x2048 : Shape := ⟨2, ![112, 2048]⟩
abbrev S768x2048 : Shape := ⟨2, ![768, 2048]⟩
abbrev S512x2048 : Shape := ⟨2, ![512, 2048]⟩
abbrev S1024x2048 : Shape := ⟨2, ![1024, 2048]⟩
abbrev S256x2048 : Shape := ⟨2, ![256, 2048]⟩
abbrev S64x2048 : Shape := ⟨2, ![64, 2048]⟩
abbrev S16x2048 : Shape := ⟨2, ![16, 2048]⟩
abbrev S6144x2048 : Shape := ⟨2, ![6144, 2048]⟩
abbrev S11264x2048 : Shape := ⟨2, ![11264, 2048]⟩
abbrev S8192x11264 : Shape := ⟨2, ![8192, 11264]⟩
abbrev S1024x512 : Shape := ⟨2, ![1024, 512]⟩
abbrev S1024 : Shape := ⟨1, ![1024]⟩
abbrev S1024x1 : Shape := ⟨2, ![1024, 1]⟩

abbrev nBuf : Space → Nat
  | .hbm => 24
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11152, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x11152, .f32⟩
  | .hbm, ⟨7, _⟩ => ⟨S11152x2048, .f32⟩
  | .hbm, ⟨8, _⟩ => ⟨S_, .f32⟩
  | .hbm, ⟨9, _⟩ => ⟨S112x2048, .f32⟩
  | .hbm, ⟨10, _⟩ => ⟨S768x2048, .f32⟩
  | .hbm, ⟨11, _⟩ => ⟨S512x2048, .f32⟩
  | .hbm, ⟨12, _⟩ => ⟨S1024x2048, .f32⟩
  | .hbm, ⟨13, _⟩ => ⟨S256x2048, .f32⟩
  | .hbm, ⟨14, _⟩ => ⟨S256x2048, .f32⟩
  | .hbm, ⟨15, _⟩ => ⟨S1024x2048, .f32⟩
  | .hbm, ⟨16, _⟩ => ⟨S1024x2048, .f32⟩
  | .hbm, ⟨17, _⟩ => ⟨S64x2048, .f32⟩
  | .hbm, ⟨18, _⟩ => ⟨S64x2048, .f32⟩
  | .hbm, ⟨19, _⟩ => ⟨S16x2048, .f32⟩
  | .hbm, ⟨20, _⟩ => ⟨S6144x2048, .f32⟩
  | .hbm, ⟨21, _⟩ => ⟨S11264x2048, .f32⟩
  | .hbm, ⟨22, _⟩ => ⟨S11264x2048, .bf16⟩
  | .hbm, ⟨23, _⟩ => ⟨S8192x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectRefIdeal.lean ====
abbrev S2x4096x2048 : Shape := ⟨3, ![2, 4096, 2048]⟩
abbrev S1x2048 : Shape := ⟨2, ![1, 2048]⟩
abbrev S1x2048x11152 : Shape := ⟨3, ![1, 2048, 11152]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11152 : Shape := ⟨2, ![2048, 11152]⟩
abbrev S2x4096x11152 : Shape := ⟨3, ![2, 4096, 11152]⟩
abbrev S2x4096x768 : Shape := ⟨3, ![2, 4096, 768]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S2x4096x256 : Shape := ⟨3, ![2, 4096, 256]⟩
abbrev S2x4096x16 : Shape := ⟨3, ![2, 4096, 16]⟩
abbrev S2x4096x6144 : Shape := ⟨3, ![2, 4096, 6144]⟩
abbrev S2x4096x112 : Shape := ⟨3, ![2, 4096, 112]⟩
abbrev S2x4096x11264 : Shape := ⟨3, ![2, 4096, 11264]⟩
abbrev S8192x11264 : Shape := ⟨2, ![8192, 11264]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11152, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11152, .f32⟩
  | .hbm, ⟨21, _⟩ => ⟨S2x4096x11152, .f32⟩
  | .hbm, ⟨22, _⟩ => ⟨S2x4096x768, .f32⟩
  | .hbm, ⟨23, _⟩ => ⟨S2x4096x512, .f32⟩
  | .hbm, ⟨24, _⟩ => ⟨S2x4096x64, .f32⟩
  | .hbm, ⟨25, _⟩ => ⟨S2x4096x1024, .f32⟩
  | .hbm, ⟨26, _⟩ => ⟨S2x4096x256, .f32⟩
  | .hbm, ⟨27, _⟩ => ⟨S2x4096x256, .f32⟩
  | .hbm, ⟨28, _⟩ => ⟨S2x4096x1024, .f32⟩
  | .hbm, ⟨29, _⟩ => ⟨S2x4096x16, .f32⟩
  | .hbm, ⟨30, _⟩ => ⟨S2x4096x64, .f32⟩
  | .hbm, ⟨31, _⟩ => ⟨S2x4096x1024, .f32⟩
  | .hbm, ⟨32, _⟩ => ⟨S2x4096x6144, .f32⟩
  | .hbm, ⟨33, _⟩ => ⟨S_, .f32⟩
  | .hbm, ⟨34, _⟩ => ⟨S2x4096x112, .f32⟩
  | .hbm, ⟨35, _⟩ => ⟨S2x4096x11264, .f32⟩
  | .hbm, ⟨36, _⟩ => ⟨S8192x11264, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Epilogue.lean ====
abbrev S8192x11264 : Shape := ⟨2, ![8192, 11264]⟩
abbrev S1x768 : Shape := ⟨2, ![1, 768]⟩
abbrev S1x768x1536 : Shape := ⟨3, ![1, 768, 1536]⟩
abbrev S1x192 : Shape := ⟨2, ![1, 192]⟩
abbrev S1x8x128x512 : Shape := ⟨4, ![1, 8, 128, 512]⟩
abbrev S1x512 : Shape := ⟨2, ![1, 512]⟩
abbrev S1x64 : Shape := ⟨2, ![1, 64]⟩
abbrev S1x128 : Shape := ⟨2, ![1, 128]⟩
abbrev S1x256 : Shape := ⟨2, ![1, 256]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x0 : Shape := ⟨2, ![4096, 0]⟩
abbrev S4096x64 : Shape := ⟨2, ![4096, 64]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x128 : Shape := ⟨2, ![4096, 128]⟩
abbrev S1x4096x1x64 : Shape := ⟨4, ![1, 4096, 1, 64]⟩
abbrev S1x4096x2x64 : Shape := ⟨4, ![1, 4096, 2, 64]⟩
abbrev S16 : Shape := ⟨1, ![16]⟩
abbrev S1x16 : Shape := ⟨2, ![1, 16]⟩
abbrev S4096x16 : Shape := ⟨2, ![4096, 16]⟩
abbrev S4096x96 : Shape := ⟨2, ![4096, 96]⟩
abbrev S1x4096x1x128 : Shape := ⟨4, ![1, 4096, 1, 128]⟩
abbrev S4096x1792 : Shape := ⟨2, ![4096, 1792]⟩
abbrev S192 : Shape := ⟨1, ![192]⟩
abbrev S768 : Shape := ⟨1, ![768]⟩
abbrev S128 : Shape := ⟨1, ![128]⟩
abbrev S64 : Shape := ⟨1, ![64]⟩
abbrev S2x64 : Shape := ⟨2, ![2, 64]⟩
abbrev S512 : Shape := ⟨1, ![512]⟩
abbrev S256 : Shape := ⟨1, ![256]⟩
abbrev S768x1536 : Shape := ⟨2, ![768, 1536]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S8x128x512 : Shape := ⟨3, ![8, 128, 512]⟩
abbrev S512x8x128 : Shape := ⟨3, ![512, 8, 128]⟩
abbrev S512x1024 : Shape := ⟨2, ![512, 1024]⟩
abbrev S512x2048 : Shape := ⟨2, ![512, 2048]⟩
abbrev S8192x512 : Shape := ⟨2, ![8192, 512]⟩
abbrev S8192x64 : Shape := ⟨2, ![8192, 64]⟩
abbrev S8192x256 : Shape := ⟨2, ![8192, 256]⟩
abbrev S8192x128 : Shape := ⟨2, ![8192, 128]⟩
abbrev S8192x2048 : Shape := ⟨2, ![8192, 2048]⟩
abbrev S8192x1024 : Shape := ⟨2, ![8192, 1024]⟩
abbrev S256x5120 : Shape := ⟨2, ![256, 5120]⟩
abbrev S256x1792 : Shape := ⟨2, ![256, 1792]⟩
abbrev S256x512 : Shape := ⟨2, ![256, 512]⟩
abbrev S256x64 : Shape := ⟨2, ![256, 64]⟩
abbrev S256x256 : Shape := ⟨2, ![256, 256]⟩
abbrev S256x128 : Shape := ⟨2, ![256, 128]⟩
abbrev S256x2048 : Shape := ⟨2, ![256, 2048]⟩
abbrev S256x1024 : Shape := ⟨2, ![256, 1024]⟩
abbrev S256x768 : Shape := ⟨2, ![256, 768]⟩
abbrev S256x1 : Shape := ⟨2, ![256, 1]⟩
abbrev S256x1536 : Shape := ⟨2, ![256, 1536]⟩

abbrev nBuf : Space → Nat
  | .hbm => 177
  | .vmem => 44
  | .smem => 0
  | _ => 0

abbrev hbmTy0_0 (i : Nat) : BufTy := match i % 128 with
  | 0 => ⟨S8192x11264, .f32⟩
  | 1 => ⟨S1x768, .f32⟩
  | 2 => ⟨S1x768x1536, .f32⟩
  | 3 => ⟨S1x192, .f32⟩
  | 4 => ⟨S1x8x128x512, .f32⟩
  | 5 => ⟨S1x8x128x512, .f32⟩
  | 6 => ⟨S1x512, .f32⟩
  | 7 => ⟨S1x64, .f32⟩
  | 8 => ⟨S1x128, .f32⟩
  | 9 => ⟨S1x128, .f32⟩
  | 10 => ⟨S1x256, .f32⟩
  | 11 => ⟨S4096, .i32⟩
  | 12 => ⟨S4096, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096x1, .f32⟩
  | 22 => ⟨S1x32, .f32⟩
  | 23 => ⟨S4096x32, .f32⟩
  | 24 => ⟨S4096x32, .f32⟩
  | 25 => ⟨S4096x32, .f32⟩
  | 26 => ⟨S4096x32, .f32⟩
  | 27 => ⟨S4096x32, .f32⟩
  | 28 => ⟨S_, .f32⟩
  | 29 => ⟨S4096x0, .f32⟩
  | 30 => ⟨S_, .f32⟩
  | 31 => ⟨S4096x0, .f32⟩
  | 32 => ⟨S_, .f32⟩
  | 33 => ⟨S4096x32, .f32⟩
  | 34 => ⟨S4096x64, .f32⟩
  | 35 => ⟨S4096x32, .f32⟩
  | 36 => ⟨S4096x64, .f32⟩
  | 37 => ⟨S4096x64, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S4096x1, .f32⟩
  | 47 => ⟨S1x8, .f32⟩
  | 48 => ⟨S4096x8, .f32⟩
  | 49 => ⟨S4096x8, .f32⟩
  | 50 => ⟨S4096x8, .f32⟩
  | 51 => ⟨S4096x8, .f32⟩
  | 52 => ⟨S4096x8, .f32⟩
  | 53 => ⟨S_, .f32⟩
  | 54 => ⟨S4096x48, .f32⟩
  | 55 => ⟨S_, .f32⟩
  | 56 => ⟨S4096x48, .f32⟩
  | 57 => ⟨S_, .f32⟩
  | 58 => ⟨S4096x8, .f32⟩
  | 59 => ⟨S4096x64, .f32⟩
  | 60 => ⟨S4096x8, .f32⟩
  | 61 => ⟨S4096x64, .f32⟩
  | 62 => ⟨S4096x64, .f32⟩
  | 63 => ⟨S_, .f32⟩
  | 64 => ⟨S4096x64, .f32⟩
  | 65 => ⟨S4096x128, .f32⟩
  | 66 => ⟨S4096x128, .f32⟩
  | 67 => ⟨S4096x128, .f32⟩
  | 68 => ⟨S4096x128, .f32⟩
  | 69 => ⟨S4096x128, .f32⟩
  | 70 => ⟨S1x4096x1x64, .f32⟩
  | 71 => ⟨S1x4096x2x64, .f32⟩
  | 72 => ⟨S4096x128, .f32⟩
  | 73 => ⟨S1x4096x1x64, .f32⟩
  | 74 => ⟨S1x4096x2x64, .f32⟩
  | 75 => ⟨S4096x128, .f32⟩
  | 76 => ⟨S1x4096x1x64, .f32⟩
  | 77 => ⟨S1x4096x2x64, .f32⟩
  | 78 => ⟨S4096x128, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S4096x1, .f32⟩
  | 88 => ⟨S1x16, .f32⟩
  | 89 => ⟨S4096x16, .f32⟩
  | 90 => ⟨S4096x16, .f32⟩
  | 91 => ⟨S4096x16, .f32⟩
  | 92 => ⟨S4096x16, .f32⟩
  | 93 => ⟨S4096x16, .f32⟩
  | 94 => ⟨S_, .f32⟩
  | 95 => ⟨S4096x96, .f32⟩
  | 96 => ⟨S_, .f32⟩
  | 97 => ⟨S4096x96, .f32⟩
  | 98 => ⟨S_, .f32⟩
  | 99 => ⟨S4096x16, .f32⟩
  | 100 => ⟨S4096x128, .f32⟩
  | 101 => ⟨S4096x16, .f32⟩
  | 102 => ⟨S4096x128, .f32⟩
  | 103 => ⟨S4096x128, .f32⟩
  | 104 => ⟨S1x4096x1x128, .f32⟩
  | 105 => ⟨S1x4096x1x128, .f32⟩
  | 106 => ⟨S4096x128, .f32⟩
  | 107 => ⟨S1x4096x1x128, .f32⟩
  | 108 => ⟨S1x4096x1x128, .f32⟩
  | 109 => ⟨S4096x128, .f32⟩
  | 110 => ⟨S1x4096x1x128, .f32⟩
  | 111 => ⟨S1x4096x1x128, .f32⟩
  | 112 => ⟨S4096x128, .f32⟩
  | 113 => ⟨S1x4096x1x64, .f32⟩
  | 114 => ⟨S1x4096x2x64, .f32⟩
  | 115 => ⟨S4096x128, .f32⟩
  | 116 => ⟨S1x4096x1x64, .f32⟩
  | 117 => ⟨S1x4096x2x64, .f32⟩
  | 118 => ⟨S4096x128, .f32⟩
  | 119 => ⟨S1x4096x1x64, .f32⟩
  | 120 => ⟨S1x4096x2x64, .f32⟩
  | 121 => ⟨S4096x128, .f32⟩
  | 122 => ⟨S4096x1792, .f32⟩
  | 123 => ⟨S192, .f32⟩
  | 124 => ⟨S768, .f32⟩
  | 125 => ⟨S1x768, .f32⟩
  | 126 => ⟨S128, .f32⟩
  | 127 => ⟨S1x128, .f32⟩
  | _ => ⟨S8192x11264, .f32⟩

abbrev hbmTy0_1 (i : Nat) : BufTy := match i % 128 with
  | 0 => ⟨S64, .f32⟩
  | 1 => ⟨S1x64, .f32⟩
  | 2 => ⟨S2x64, .f32⟩
  | 3 => ⟨S128, .f32⟩
  | 4 => ⟨S1x128, .f32⟩
  | 5 => ⟨S512, .f32⟩
  | 6 => ⟨S1x512, .f32⟩
  | 7 => ⟨S64, .f32⟩
  | 8 => ⟨S_, .f32⟩
  | 9 => ⟨S64, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S256, .f32⟩
  | 17 => ⟨S1x256, .f32⟩
  | 18 => ⟨S768x1536, .f32⟩
  | 19 => ⟨S768x8x192, .f32⟩
  | 20 => ⟨S768x8x128, .f32⟩
  | 21 => ⟨S768x1024, .f32⟩
  | 22 => ⟨S768x8x64, .f32⟩
  | 23 => ⟨S768x512, .f32⟩
  | 24 => ⟨S768x1536, .f32⟩
  | 25 => ⟨S768x1536, .bf16⟩
  | 26 => ⟨S8x128x512, .f32⟩
  | 27 => ⟨S8x128x512, .f32⟩
  | 28 => ⟨S512x8x128, .f32⟩
  | 29 => ⟨S512x1024, .f32⟩
  | 30 => ⟨S512x8x128, .f32⟩
  | 31 => ⟨S512x1024, .f32⟩
  | 32 => ⟨S512x2048, .f32⟩
  | 33 => ⟨S512x2048, .bf16⟩
  | 34 => ⟨S8192x512, .f32⟩
  | 35 => ⟨S8192x64, .f32⟩
  | 36 => ⟨S8192x256, .f32⟩
  | 37 => ⟨S8192x256, .f32⟩
  | 38 => ⟨S8192x64, .f32⟩
  | 39 => ⟨S8192x128, .f32⟩
  | 40 => ⟨S8192x2048, .bf16⟩
  | 41 => ⟨S8192x2048, .bf16⟩
  | 42 => ⟨S8192x1024, .bf16⟩
  | 43 => ⟨S8192x1024, .bf16⟩
  | 44 => ⟨S8192x256, .bf16⟩
  | 45 => ⟨S8192x256, .bf16⟩
  | 46 => ⟨S8192x1024, .bf16⟩
  | 47 => ⟨S8192x64, .bf16⟩
  | 48 => ⟨S8192x1024, .bf16⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S256x5120, .f32⟩
  | .local _ .vmem, ⟨2, _⟩ => ⟨S256x1792, .f32⟩
  | .local _ .vmem, ⟨3, _⟩ => ⟨S256x1792, .f32⟩
  | .local _ .vmem, ⟨4, _⟩ => ⟨S1x768, .f32⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x256, .f32⟩
  | .local _ .vmem, ⟨12, _⟩ => ⟨S768x1536, .bf16⟩
  | .local _ .vmem, ⟨13, _⟩ => ⟨S512x2048, .bf16⟩
  | .local _ .vmem, ⟨14, _⟩ => ⟨S256x512, .f32⟩
  | .local _ .vmem, ⟨15, _⟩ => ⟨S256x512, .f32⟩
  | .local _ .vmem, ⟨16, _⟩ => ⟨S256x64, .f32⟩
  | .local _ .vmem, ⟨17, _⟩ => ⟨S256x64, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x64, .f32⟩
  | .local _ .vmem, ⟨23, _⟩ => ⟨S256x64, .f32⟩
  | .local _ .vmem, ⟨24, _⟩ => ⟨S256x128, .f32⟩
  | .local _ .vmem, ⟨25, _⟩ => ⟨S256x128, .f32⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x256, .bf16⟩
  | .local _ .vmem, ⟨35, _⟩ => ⟨S256x256, .bf16⟩
  | .local _ .vmem, ⟨36, _⟩ => ⟨S256x256, .bf16⟩
  | .local _ .vmem, ⟨37, _⟩ => ⟨S256x256, .bf16⟩
  | .local _ .vmem, ⟨38, _⟩ => ⟨S256x1024, .bf16⟩
  | .local _ .vmem, ⟨39, _⟩ => ⟨S256x1024, .bf16⟩
  | .local _ .vmem, ⟨40, _⟩ => ⟨S256x64, .bf16⟩
  | .local _ .vmem, ⟨41, _⟩ => ⟨S256x64, .bf16⟩
  | .local _ .vmem, ⟨42, _⟩ => ⟨S256x1024, .bf16⟩
  | .local _ .vmem, ⟨43, _⟩ => ⟨S256x1024, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_15 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134_0 : Ref sig .tc := ⟨.hbm, 162, rfl⟩
abbrev main_v134_1 : Ref sig .tc := ⟨.hbm, 163, rfl⟩
abbrev main_v134_2 : Ref sig .tc := ⟨.hbm, 164, rfl⟩
abbrev main_v134_3 : Ref sig .tc := ⟨.hbm, 165, rfl⟩
abbrev main_v134_4 : Ref sig .tc := ⟨.hbm, 166, rfl⟩
abbrev main_v134_5 : Ref sig .tc := ⟨.hbm, 167, rfl⟩
abbrev main_v134_6 : Ref sig .tc := ⟨.hbm, 168, rfl⟩
abbrev main_v134_7 : Ref sig .tc := ⟨.hbm, 169, rfl⟩
abbrev main_v134_8 : Ref sig .tc := ⟨.hbm, 170, rfl⟩
abbrev main_v134_9 : Ref sig .tc := ⟨.hbm, 171, rfl⟩
abbrev main_v134_10 : Ref sig .tc := ⟨.hbm, 172, rfl⟩
abbrev main_v134_11 : Ref sig .tc := ⟨.hbm, 173, rfl⟩
abbrev main_v134_12 : Ref sig .tc := ⟨.hbm, 174, rfl⟩
abbrev main_v134_13 : Ref sig .tc := ⟨.hbm, 175, rfl⟩
abbrev main_v134_14 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x64 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== EpilogueRefIdeal.lean ====
abbrev S8192x11264 : Shape := ⟨2, ![8192, 11264]⟩
abbrev S1x768 : Shape := ⟨2, ![1, 768]⟩
abbrev S1x768x1536 : Shape := ⟨3, ![1, 768, 1536]⟩
abbrev S1x192 : Shape := ⟨2, ![1, 192]⟩
abbrev S1x8x128x512 : Shape := ⟨4, ![1, 8, 128, 512]⟩
abbrev S1x512 : Shape := ⟨2, ![1, 512]⟩
abbrev S1x64 : Shape := ⟨2, ![1, 64]⟩
abbrev S1x128 : Shape := ⟨2, ![1, 128]⟩
abbrev S1x256 : Shape := ⟨2, ![1, 256]⟩
abbrev S4096 : Shape := ⟨1, ![4096]⟩
abbrev S2x4096x11264 : Shape := ⟨3, ![2, 4096, 11264]⟩
abbrev S2x4096x512 : Shape := ⟨3, ![2, 4096, 512]⟩
abbrev S2x4096x64 : Shape := ⟨3, ![2, 4096, 64]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S64 : Shape := ⟨1, ![64]⟩
abbrev S1x1x64 : Shape := ⟨3, ![1, 1, 64]⟩
abbrev S2x4096x1x64 : Shape := ⟨4, ![2, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S2x4096x1x0 : Shape := ⟨4, ![2, 4096, 1, 0]⟩
abbrev S2x4096x256 : Shape := ⟨3, ![2, 4096, 256]⟩
abbrev S2x4096x2x128 : Shape := ⟨4, ![2, 4096, 2, 128]⟩
abbrev S128 : Shape := ⟨1, ![128]⟩
abbrev S2x4096x2 : Shape := ⟨3, ![2, 4096, 2]⟩
abbrev S2x4096x2x1 : Shape := ⟨4, ![2, 4096, 2, 1]⟩
abbrev S1x1x1x128 : Shape := ⟨4, ![1, 1, 1, 128]⟩
abbrev S16 : Shape := ⟨1, ![16]⟩
abbrev S1x16 : Shape := ⟨2, ![1, 16]⟩
abbrev S4096x16 : Shape := ⟨2, ![4096, 16]⟩
abbrev S1x4096x1x16 : Shape := ⟨4, ![1, 4096, 1, 16]⟩
abbrev S2x4096x2x16 : Shape := ⟨4, ![2, 4096, 2, 16]⟩
abbrev S2x4096x2x96 : Shape := ⟨4, ![2, 4096, 2, 96]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S2x4096x1x8 : Shape := ⟨4, ![2, 4096, 1, 8]⟩
abbrev S2x4096x1x48 : Shape := ⟨4, ![2, 4096, 1, 48]⟩
abbrev S8192x512 : Shape := ⟨2, ![8192, 512]⟩
abbrev S8192x64 : Shape := ⟨2, ![8192, 64]⟩
abbrev S8192x256 : Shape := ⟨2, ![8192, 256]⟩

abbrev nBuf : Space → Nat
  | .hbm => 175
  | .vmem => 0
  | .smem => 0
  | _ => 0

abbrev hbmTy0_0 (i : Nat) : BufTy := match i % 128 with
  | 0 => ⟨S8192x11264, .f32⟩
  | 1 => ⟨S1x768, .f32⟩
  | 2 => ⟨S1x768x1536, .f32⟩
  | 3 => ⟨S1x192, .f32⟩
  | 4 => ⟨S1x8x128x512, .f32⟩
  | 5 => ⟨S1x8x128x512, .f32⟩
  | 6 => ⟨S1x512, .f32⟩
  | 7 => ⟨S1x64, .f32⟩
  | 8 => ⟨S1x128, .f32⟩
  | 9 => ⟨S1x128, .f32⟩
  | 10 => ⟨S1x256, .f32⟩
  | 11 => ⟨S4096, .i32⟩
  | 12 => ⟨S2x4096x11264, .f32⟩
  | 13 => ⟨S2x4096x512, .f32⟩
  | 14 => ⟨S2x4096x64, .f32⟩
  | 15 => ⟨S512, .f32⟩
  | 16 => ⟨S2x4096x512, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x512, .f32⟩
  | 28 => ⟨S2x4096x512, .f32⟩
  | 29 => ⟨S1x1x512, .f32⟩
  | 30 => ⟨S2x4096x512, .f32⟩
  | 31 => ⟨S2x4096x512, .f32⟩
  | 32 => ⟨S64, .f32⟩
  | 33 => ⟨S2x4096x64, .f32⟩
  | 34 => ⟨S_, .f32⟩
  | 35 => ⟨S2x4096, .f32⟩
  | 36 => ⟨S2x4096x1, .f32⟩
  | 37 => ⟨S_, .f32⟩
  | 38 => ⟨S2x4096x1, .f32⟩
  | 39 => ⟨S2x4096x1, .f32⟩
  | 40 => ⟨S_, .f32⟩
  | 41 => ⟨S2x4096x1, .f32⟩
  | 42 => ⟨S2x4096x1, .f32⟩
  | 43 => ⟨S2x4096x1, .f32⟩
  | 44 => ⟨S2x4096x64, .f32⟩
  | 45 => ⟨S2x4096x64, .f32⟩
  | 46 => ⟨S1x1x64, .f32⟩
  | 47 => ⟨S2x4096x64, .f32⟩
  | 48 => ⟨S2x4096x64, .f32⟩
  | 49 => ⟨S2x4096x1x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S4096, .f32⟩
  | 59 => ⟨S4096x1, .f32⟩
  | 60 => ⟨S1x32, .f32⟩
  | 61 => ⟨S4096x32, .f32⟩
  | 62 => ⟨S4096x32, .f32⟩
  | 63 => ⟨S4096x32, .f32⟩
  | 64 => ⟨S4096x32, .f32⟩
  | 65 => ⟨S1x4096x1x32, .f32⟩
  | 66 => ⟨S4096x32, .f32⟩
  | 67 => ⟨S1x4096x1x32, .f32⟩
  | 68 => ⟨S2x4096x1x32, .f32⟩
  | 69 => ⟨S2x4096x1x32, .f32⟩
  | 70 => ⟨S2x4096x1x32, .f32⟩
  | 71 => ⟨S2x4096x1x32, .f32⟩
  | 72 => ⟨S2x4096x1x32, .f32⟩
  | 73 => ⟨S2x4096x1x32, .f32⟩
  | 74 => ⟨S2x4096x1x32, .f32⟩
  | 75 => ⟨S2x4096x1x32, .f32⟩
  | 76 => ⟨S2x4096x1x32, .f32⟩
  | 77 => ⟨S2x4096x1x32, .f32⟩
  | 78 => ⟨S2x4096x1x32, .f32⟩
  | 79 => ⟨S2x4096x1x32, .f32⟩
  | 80 => ⟨S2x4096x1x0, .f32⟩
  | 81 => ⟨S2x4096x1x64, .f32⟩
  | 82 => ⟨S2x4096x64, .f32⟩
  | 83 => ⟨S2x4096x256, .f32⟩
  | 84 => ⟨S2x4096x2x128, .f32⟩
  | 85 => ⟨S128, .f32⟩
  | 86 => ⟨S2x4096x2x128, .f32⟩
  | 87 => ⟨S_, .f32⟩
  | 88 => ⟨S2x4096x2, .f32⟩
  | 89 => ⟨S2x4096x2x1, .f32⟩
  | 90 => ⟨S_, .f32⟩
  | 91 => ⟨S2x4096x2x1, .f32⟩
  | 92 => ⟨S2x4096x2x1, .f32⟩
  | 93 => ⟨S_, .f32⟩
  | 94 => ⟨S2x4096x2x1, .f32⟩
  | 95 => ⟨S2x4096x2x1, .f32⟩
  | 96 => ⟨S2x4096x2x1, .f32⟩
  | 97 => ⟨S2x4096x2x128, .f32⟩
  | 98 => ⟨S2x4096x2x128, .f32⟩
  | 99 => ⟨S1x1x1x128, .f32⟩
  | 100 => ⟨S2x4096x2x128, .f32⟩
  | 101 => ⟨S2x4096x2x128, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S4096, .f32⟩
  | 111 => ⟨S4096x1, .f32⟩
  | 112 => ⟨S1x16, .f32⟩
  | 113 => ⟨S4096x16, .f32⟩
  | 114 => ⟨S4096x16, .f32⟩
  | 115 => ⟨S4096x16, .f32⟩
  | 116 => ⟨S4096x16, .f32⟩
  | 117 => ⟨S1x4096x1x16, .f32⟩
  | 118 => ⟨S4096x16, .f32⟩
  | 119 => ⟨S1x4096x1x16, .f32⟩
  | 120 => ⟨S2x4096x2x16, .f32⟩
  | 121 => ⟨S2x4096x2x16, .f32⟩
  | 122 => ⟨S2x4096x2x16, .f32⟩
  | 123 => ⟨S2x4096x2x16, .f32⟩
  | 124 => ⟨S2x4096x2x16, .f32⟩
  | 125 => ⟨S2x4096x2x16, .f32⟩
  | 126 => ⟨S2x4096x2x16, .f32⟩
  | 127 => ⟨S2x4096x2x16, .f32⟩
  | _ => ⟨S8192x11264, .f32⟩

abbrev hbmTy0_1 (i : Nat) : BufTy := match i % 128 with
  | 0 => ⟨S2x4096x2x16, .f32⟩
  | 1 => ⟨S2x4096x2x16, .f32⟩
  | 2 => ⟨S2x4096x2x16, .f32⟩
  | 3 => ⟨S2x4096x2x16, .f32⟩
  | 4 => ⟨S2x4096x2x96, .f32⟩
  | 5 => ⟨S2x4096x2x128, .f32⟩
  | 6 => ⟨S2x4096x256, .f32⟩
  | 7 => ⟨S2x4096x64, .f32⟩
  | 8 => ⟨S2x4096x1x64, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096, .f32⟩
  | 18 => ⟨S4096x1, .f32⟩
  | 19 => ⟨S1x8, .f32⟩
  | 20 => ⟨S4096x8, .f32⟩
  | 21 => ⟨S4096x8, .f32⟩
  | 22 => ⟨S4096x8, .f32⟩
  | 23 => ⟨S4096x8, .f32⟩
  | 24 => ⟨S1x4096x1x8, .f32⟩
  | 25 => ⟨S4096x8, .f32⟩
  | 26 => ⟨S1x4096x1x8, .f32⟩
  | 27 => ⟨S2x4096x1x8, .f32⟩
  | 28 => ⟨S2x4096x1x8, .f32⟩
  | 29 => ⟨S2x4096x1x8, .f32⟩
  | 30 => ⟨S2x4096x1x8, .f32⟩
  | 31 => ⟨S2x4096x1x8, .f32⟩
  | 32 => ⟨S2x4096x1x8, .f32⟩
  | 33 => ⟨S2x4096x1x8, .f32⟩
  | 34 => ⟨S2x4096x1x8, .f32⟩
  | 35 => ⟨S2x4096x1x8, .f32⟩
  | 36 => ⟨S2x4096x1x8, .f32⟩
  | 37 => ⟨S2x4096x1x8, .f32⟩
  | 38 => ⟨S2x4096x1x8, .f32⟩
  | 39 => ⟨S2x4096x1x48, .f32⟩
  | 40 => ⟨S2x4096x1x64, .f32⟩
  | 41 => ⟨S2x4096x64, .f32⟩
  | 42 => ⟨S8192x512, .f32⟩
  | 43 => ⟨S8192x64, .f32⟩
  | 44 => ⟨S8192x256, .f32⟩
  | 45 => ⟨S8192x256, .f32⟩
  | 46 => ⟨S8192x64, .f32⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_12 : Ref sig .tc := ⟨.hbm, 139, rfl⟩
abbrev main_v115 : Ref sig .tc := ⟨.hbm, 140, rfl⟩
abbrev main_v116 : Ref sig .tc := ⟨.hbm, 141, rfl⟩
abbrev main_cst_13 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩

abbrev nD : Nat := 1
abbrev τ : Topo := Topo.v7x

variable {F : FTy → Type} [FloatOps F]
-- ==== FfnStep.lean ====
abbrev S128x4x2048 : Shape := ⟨3, ![128, 4, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S512x2048 : Shape := ⟨2, ![512, 2048]⟩
abbrev S2048 : Shape := ⟨1, ![2048]⟩
abbrev S2048x5632 : Shape := ⟨2, ![2048, 5632]⟩
abbrev S5632x2048 : Shape := ⟨2, ![5632, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 10
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S512x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnStepRefIdeal.lean ====
abbrev S128x4x2048 : Shape := ⟨3, ![128, 4, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x5632 : Shape := ⟨2, ![2048, 5632]⟩
abbrev S128x4x5632 : Shape := ⟨3, ![128, 4, 5632]⟩
abbrev S5632x2048 : Shape := ⟨2, ![5632, 2048]⟩
abbrev S512x2048 : Shape := ⟨2, ![512, 2048]⟩

abbrev nBuf : Space → Nat
  | .hbm => 43
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S128x4x2048, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x2048, .f32⟩
  | .hbm, ⟨18, _⟩ => ⟨S128x4x2048, .f32⟩
  | .hbm, ⟨19, _⟩ => ⟨S1x1x2048, .f32⟩
  | .hbm, ⟨20, _⟩ => ⟨S128x4x2048, .f32⟩
  | .hbm, ⟨21, _⟩ => ⟨S128x4x2048, .f32⟩
  | .hbm, ⟨22, _⟩ => ⟨S2048x5632, .f32⟩
  | .hbm, ⟨23, _⟩ => ⟨S128x4x5632, .f32⟩
  | .hbm, ⟨24, _⟩ => ⟨S128x4x5632, .f32⟩
  | .hbm, ⟨25, _⟩ => ⟨S128x4x5632, .f32⟩
  | .hbm, ⟨26, _⟩ => ⟨S_, .f32⟩
  | .hbm, ⟨27, _⟩ => ⟨S128x4x5632, .f32⟩
  | .hbm, ⟨28, _⟩ => ⟨S128x4x5632, .f32⟩
  | .hbm, ⟨29, _⟩ => ⟨S_, .f32⟩
  | .hbm, ⟨30, _⟩ => ⟨S128x4x5632, .f32⟩
  | .hbm, ⟨31, _⟩ => ⟨S128x4x5632, .f32⟩
  | .hbm, ⟨32, _⟩ => ⟨S128x4x5632, .f32⟩
  | .hbm, ⟨33, _⟩ => ⟨S2048x5632, .f32⟩
  | .hbm, ⟨34, _⟩ => ⟨S128x4x5632, .f32⟩
  | .hbm, ⟨35, _⟩ => ⟨S128x4x5632, .f32⟩
  | .hbm, ⟨36, _⟩ => ⟨S5632x2048, .f32⟩
  | .hbm, ⟨37, _⟩ => ⟨S128x4x2048, .f32⟩
  | .hbm, ⟨38, _⟩ => ⟨S_, .f32⟩
  | .hbm, ⟨39, _⟩ => ⟨S128x4x2048, .f32⟩
  | .hbm, ⟨40, _⟩ => ⟨S128x4x2048, .f32⟩
  | .hbm, ⟨41, _⟩ => ⟨S128x4x2048, .f32⟩
  | .hbm, ⟨42, _⟩ => ⟨S512x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== EpilogueStep.lean ====
abbrev S512x11264 : Shape := ⟨2, ![512, 11264]⟩
abbrev S1x768 : Shape := ⟨2, ![1, 768]⟩
abbrev S1x768x1536 : Shape := ⟨3, ![1, 768, 1536]⟩
abbrev S1x192 : Shape := ⟨2, ![1, 192]⟩
abbrev S1x8x128x512 : Shape := ⟨4, ![1, 8, 128, 512]⟩
abbrev S1x512 : Shape := ⟨2, ![1, 512]⟩
abbrev S1x64 : Shape := ⟨2, ![1, 64]⟩
abbrev S1x128 : Shape := ⟨2, ![1, 128]⟩
abbrev S1x256 : Shape := ⟨2, ![1, 256]⟩
abbrev S4 : Shape := ⟨1, ![4]⟩
abbrev S_ : Shape := ⟨0, ![]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x0 : Shape := ⟨2, ![4, 0]⟩
abbrev S4x64 : Shape := ⟨2, ![4, 64]⟩
abbrev S8 : Shape := ⟨1, ![8]⟩
abbrev S1x8 : Shape := ⟨2, ![1, 8]⟩
abbrev S4x8 : Shape := ⟨2, ![4, 8]⟩
abbrev S4x48 : Shape := ⟨2, ![4, 48]⟩
abbrev S4x128 : Shape := ⟨2, ![4, 128]⟩
abbrev S1x4x1x64 : Shape := ⟨4, ![1, 4, 1, 64]⟩
abbrev S1x4x2x64 : Shape := ⟨4, ![1, 4, 2, 64]⟩
abbrev S16 : Shape := ⟨1, ![16]⟩
abbrev S1x16 : Shape := ⟨2, ![1, 16]⟩
abbrev S4x16 : Shape := ⟨2, ![4, 16]⟩
abbrev S4x96 : Shape := ⟨2, ![4, 96]⟩
abbrev S1x4x1x128 : Shape := ⟨4, ![1, 4, 1, 128]⟩
abbrev S4x1792 : Shape := ⟨2, ![4, 1792]⟩
abbrev S1x4x1x1792 : Shape := ⟨4, ![1, 4, 1, 1792]⟩
abbrev S128x4x1x1792 : Shape := ⟨4, ![128, 4, 1, 1792]⟩
abbrev S512x1792 : Shape := ⟨2, ![512, 1792]⟩
abbrev S192 : Shape := ⟨1, ![192]⟩
abbrev S768 : Shape := ⟨1, ![768]⟩
abbrev S128 : Shape := ⟨1, ![128]⟩
abbrev S64 : Shape := ⟨1, ![64]⟩
abbrev S2x64 : Shape := ⟨2, ![2, 64]⟩
abbrev S512 : Shape := ⟨1, ![512]⟩
abbrev S256 : Shape := ⟨1, ![256]⟩
abbrev S768x1536 : Shape := ⟨2, ![768, 1536]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S8x128x512 : Shape := ⟨3, ![8, 128, 512]⟩
abbrev S512x512 : Shape := ⟨2, ![512, 512]⟩
abbrev S512x64 : Shape := ⟨2, ![512, 64]⟩
abbrev S512x256 : Shape := ⟨2, ![512, 256]⟩
abbrev S512x128 : Shape := ⟨2, ![512, 128]⟩
abbrev S512x4096 : Shape := ⟨2, ![512, 4096]⟩
abbrev S512x1024 : Shape := ⟨2, ![512, 1024]⟩
abbrev S256x5120 : Shape := ⟨2, ![256, 5120]⟩
abbrev S256x1792 : Shape := ⟨2, ![256, 1792]⟩
abbrev S256x512 : Shape := ⟨2, ![256, 512]⟩
abbrev S256x64 : Shape := ⟨2, ![256, 64]⟩
abbrev S256x256 : Shape := ⟨2, ![256, 256]⟩
abbrev S256x128 : Shape := ⟨2, ![256, 128]⟩
abbrev S256x4096 : Shape := ⟨2, ![256, 4096]⟩
abbrev S256x1024 : Shape := ⟨2, ![256, 1024]⟩
abbrev S256x768 : Shape := ⟨2, ![256, 768]⟩
abbrev S256x1 : Shape := ⟨2, ![256, 1]⟩
abbrev S256x1536 : Shape := ⟨2, ![256, 1536]⟩
abbrev S1x128x512 : Shape := ⟨3, ![1, 128, 512]⟩
abbrev S128x512 : Shape := ⟨2, ![128, 512]⟩

abbrev nBuf : Space → Nat
  | .hbm => 172
  | .vmem => 36
  | .smem => 0
  | _ => 0

abbrev hbmTy0_0 (i : Nat) : BufTy := match i % 128 with
  | 0 => ⟨S512x11264, .f32⟩
  | 1 => ⟨S1x768, .f32⟩
  | 2 => ⟨S1x768x1536, .f32⟩
  | 3 => ⟨S1x192, .f32⟩
  | 4 => ⟨S1x8x128x512, .f32⟩
  | 5 => ⟨S1x512, .f32⟩
  | 6 => ⟨S1x64, .f32⟩
  | 7 => ⟨S1x128, .f32⟩
  | 8 => ⟨S1x128, .f32⟩
  | 9 => ⟨S1x256, .f32⟩
  | 10 => ⟨S4, .i32⟩
  | 11 => ⟨S_, .i32⟩
  | 12 => ⟨S4, .i32⟩
  | 13 => ⟨S4, .i32⟩
  | 14 => ⟨S4, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4x1, .f32⟩
  | 24 => ⟨S1x32, .f32⟩
  | 25 => ⟨S4x32, .f32⟩
  | 26 => ⟨S4x32, .f32⟩
  | 27 => ⟨S4x32, .f32⟩
  | 28 => ⟨S4x32, .f32⟩
  | 29 => ⟨S4x32, .f32⟩
  | 30 => ⟨S_, .f32⟩
  | 31 => ⟨S4x0, .f32⟩
  | 32 => ⟨S_, .f32⟩
  | 33 => ⟨S4x0, .f32⟩
  | 34 => ⟨S_, .f32⟩
  | 35 => ⟨S4x32, .f32⟩
  | 36 => ⟨S4x64, .f32⟩
  | 37 => ⟨S4x32, .f32⟩
  | 38 => ⟨S4x64, .f32⟩
  | 39 => ⟨S4x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S4x1, .f32⟩
  | 49 => ⟨S1x8, .f32⟩
  | 50 => ⟨S4x8, .f32⟩
  | 51 => ⟨S4x8, .f32⟩
  | 52 => ⟨S4x8, .f32⟩
  | 53 => ⟨S4x8, .f32⟩
  | 54 => ⟨S4x8, .f32⟩
  | 55 => ⟨S_, .f32⟩
  | 56 => ⟨S4x48, .f32⟩
  | 57 => ⟨S_, .f32⟩
  | 58 => ⟨S4x48, .f32⟩
  | 59 => ⟨S_, .f32⟩
  | 60 => ⟨S4x8, .f32⟩
  | 61 => ⟨S4x64, .f32⟩
  | 62 => ⟨S4x8, .f32⟩
  | 63 => ⟨S4x64, .f32⟩
  | 64 => ⟨S4x64, .f32⟩
  | 65 => ⟨S_, .f32⟩
  | 66 => ⟨S4x64, .f32⟩
  | 67 => ⟨S4x128, .f32⟩
  | 68 => ⟨S4x128, .f32⟩
  | 69 => ⟨S4x128, .f32⟩
  | 70 => ⟨S4x128, .f32⟩
  | 71 => ⟨S4x128, .f32⟩
  | 72 => ⟨S1x4x1x64, .f32⟩
  | 73 => ⟨S1x4x2x64, .f32⟩
  | 74 => ⟨S4x128, .f32⟩
  | 75 => ⟨S1x4x1x64, .f32⟩
  | 76 => ⟨S1x4x2x64, .f32⟩
  | 77 => ⟨S4x128, .f32⟩
  | 78 => ⟨S1x4x1x64, .f32⟩
  | 79 => ⟨S1x4x2x64, .f32⟩
  | 80 => ⟨S4x128, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S4x1, .f32⟩
  | 90 => ⟨S1x16, .f32⟩
  | 91 => ⟨S4x16, .f32⟩
  | 92 => ⟨S4x16, .f32⟩
  | 93 => ⟨S4x16, .f32⟩
  | 94 => ⟨S4x16, .f32⟩
  | 95 => ⟨S4x16, .f32⟩
  | 96 => ⟨S_, .f32⟩
  | 97 => ⟨S4x96, .f32⟩
  | 98 => ⟨S_, .f32⟩
  | 99 => ⟨S4x96, .f32⟩
  | 100 => ⟨S_, .f32⟩
  | 101 => ⟨S4x16, .f32⟩
  | 102 => ⟨S4x128, .f32⟩
  | 103 => ⟨S4x16, .f32⟩
  | 104 => ⟨S4x128, .f32⟩
  | 105 => ⟨S4x128, .f32⟩
  | 106 => ⟨S1x4x1x128, .f32⟩
  | 107 => ⟨S1x4x1x128, .f32⟩
  | 108 => ⟨S4x128, .f32⟩
  | 109 => ⟨S1x4x1x128, .f32⟩
  | 110 => ⟨S1x4x1x128, .f32⟩
  | 111 => ⟨S4x128, .f32⟩
  | 112 => ⟨S1x4x1x128, .f32⟩
  | 113 => ⟨S1x4x1x128, .f32⟩
  | 114 => ⟨S4x128, .f32⟩
  | 115 => ⟨S1x4x1x64, .f32⟩
  | 116 => ⟨S1x4x2x64, .f32⟩
  | 117 => ⟨S4x128, .f32⟩
  | 118 => ⟨S1x4x1x64, .f32⟩
  | 119 => ⟨S1x4x2x64, .f32⟩
  | 120 => ⟨S4x128, .f32⟩
  | 121 => ⟨S1x4x1x64, .f32⟩
  | 122 => ⟨S1x4x2x64, .f32⟩
  | 123 => ⟨S4x128, .f32⟩
  | 124 => ⟨S4x1792, .f32⟩
  | 125 => ⟨S1x4x1x1792, .f32⟩
  | 126 => ⟨S128x4x1x1792, .f32⟩
  | 127 => ⟨S512x1792, .f32⟩
  | _ => ⟨S512x11264, .f32⟩

abbrev hbmTy0_1 (i : Nat) : BufTy := match i % 128 with
  | 0 => ⟨S192, .f32⟩
  | 1 => ⟨S768, .f32⟩
  | 2 => ⟨S1x768, .f32⟩
  | 3 => ⟨S128, .f32⟩
  | 4 => ⟨S1x128, .f32⟩
  | 5 => ⟨S64, .f32⟩
  | 6 => ⟨S1x64, .f32⟩
  | 7 => ⟨S2x64, .f32⟩
  | 8 => ⟨S128, .f32⟩
  | 9 => ⟨S1x128, .f32⟩
  | 10 => ⟨S512, .f32⟩
  | 11 => ⟨S1x512, .f32⟩
  | 12 => ⟨S64, .f32⟩
  | 13 => ⟨S_, .f32⟩
  | 14 => ⟨S64, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S256, .f32⟩
  | 22 => ⟨S1x256, .f32⟩
  | 23 => ⟨S768x1536, .f32⟩
  | 24 => ⟨S768x8x192, .f32⟩
  | 25 => ⟨S768x8x128, .f32⟩
  | 26 => ⟨S768x1024, .f32⟩
  | 27 => ⟨S768x8x64, .f32⟩
  | 28 => ⟨S768x512, .f32⟩
  | 29 => ⟨S768x1536, .f32⟩
  | 30 => ⟨S768x1536, .bf16⟩
  | 31 => ⟨S8x128x512, .f32⟩
  | 32 => ⟨S8x128x512, .bf16⟩
  | 33 => ⟨S512x512, .f32⟩
  | 34 => ⟨S512x64, .f32⟩
  | 35 => ⟨S512x256, .f32⟩
  | 36 => ⟨S512x256, .f32⟩
  | 37 => ⟨S512x64, .f32⟩
  | 38 => ⟨S512x128, .f32⟩
  | 39 => ⟨S512x4096, .bf16⟩
  | 40 => ⟨S512x512, .bf16⟩
  | 41 => ⟨S512x1024, .bf16⟩
  | 42 => ⟨S512x1024, .bf16⟩
  | 43 => ⟨S512x1024, .bf16⟩
  | _ => ⟨S512x11264, .f32⟩

abbrev hbmTy (i : Nat) : BufTy := match i / 128 with
  | 0 => hbmTy0_0 i
  | 1 => hbmTy0_1 i
  | _ => ⟨S512x11264, .f32⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S256x5120, .f32⟩
  | .local _ .vmem, ⟨2, _⟩ => ⟨S256x1792, .f32⟩
  | .local _ .vmem, ⟨3, _⟩ => ⟨S256x1792, .f32⟩
  | .local _ .vmem, ⟨4, _⟩ => ⟨S1x768, .f32⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x256, .f32⟩
  | .local _ .vmem, ⟨12, _⟩ => ⟨S768x1536, .bf16⟩
  | .local _ .vmem, ⟨13, _⟩ => ⟨S8x128x512, .bf16⟩
  | .local _ .vmem, ⟨14, _⟩ => ⟨S256x512, .f32⟩
  | .local _ .vmem, ⟨15, _⟩ => ⟨S256x512, .f32⟩
  | .local _ .vmem, ⟨16, _⟩ => ⟨S256x64, .f32⟩
  | .local _ .vmem, ⟨17, _⟩ => ⟨S256x64, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x64, .f32⟩
  | .local _ .vmem, ⟨23, _⟩ => ⟨S256x64, .f32⟩
  | .local _ .vmem, ⟨24, _⟩ => ⟨S256x128, .f32⟩
  | .local _ .vmem, ⟨25, _⟩ => ⟨S256x128, .f32⟩
  | .local _ .vmem, ⟨26, _⟩ => ⟨S256x4096, .bf16⟩
  | .local _ .vmem, ⟨27, _⟩ => ⟨S256x4096, .bf16⟩
  | .local _ .vmem, ⟨28, _⟩ => ⟨S256x512, .bf16⟩
  | .local _ .vmem, ⟨29, _⟩ => ⟨S256x512, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | _, _ => ⟨S512x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_15 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133_0 : Ref sig .tc := ⟨.hbm, 161, rfl⟩
abbrev main_v133_1 : Ref sig .tc := ⟨.hbm, 162, rfl⟩
abbrev main_v133_2 : Ref sig .tc := ⟨.hbm, 163, rfl⟩
abbrev main_v133_3 : Ref sig .tc := ⟨.hbm, 164, rfl⟩
abbrev main_v133_4 : Ref sig .tc := ⟨.hbm, 165, rfl⟩
abbrev main_v133_5 : Ref sig .tc := ⟨.hbm, 166, rfl⟩
abbrev main_v133_6 : Ref sig .tc := ⟨.hbm, 167, rfl⟩
abbrev main_v133_7 : Ref sig .tc := ⟨.hbm, 168, rfl⟩
abbrev main_v133_8 : Ref sig .tc := ⟨.hbm, 169, rfl⟩
abbrev main_v133_9 : Ref sig .tc := ⟨.hbm, 170, rfl⟩
abbrev main_v133_10 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== EpilogueStepRefIdeal.lean ====
abbrev S512x11264 : Shape := ⟨2, ![512, 11264]⟩
abbrev S1x768 : Shape := ⟨2, ![1, 768]⟩
abbrev S1x768x1536 : Shape := ⟨3, ![1, 768, 1536]⟩
abbrev S1x192 : Shape := ⟨2, ![1, 192]⟩
abbrev S1x8x128x512 : Shape := ⟨4, ![1, 8, 128, 512]⟩
abbrev S1x512 : Shape := ⟨2, ![1, 512]⟩
abbrev S1x64 : Shape := ⟨2, ![1, 64]⟩
abbrev S1x128 : Shape := ⟨2, ![1, 128]⟩
abbrev S1x256 : Shape := ⟨2, ![1, 256]⟩
abbrev S4 : Shape := ⟨1, ![4]⟩
abbrev S_ : Shape := ⟨0, ![]⟩
abbrev S128x4x11264 : Shape := ⟨3, ![128, 4, 11264]⟩
abbrev S128x4x512 : Shape := ⟨3, ![128, 4, 512]⟩
abbrev S128x4x64 : Shape := ⟨3, ![128, 4, 64]⟩
abbrev S512 : Shape := ⟨1, ![512]⟩
abbrev S128x4 : Shape := ⟨2, ![128, 4]⟩
abbrev S128x4x1 : Shape := ⟨3, ![128, 4, 1]⟩
abbrev S1x1x512 : Shape := ⟨3, ![1, 1, 512]⟩
abbrev S64 : Shape := ⟨1, ![64]⟩
abbrev S1x1x64 : Shape := ⟨3, ![1, 1, 64]⟩
abbrev S128x4x1x64 : Shape := ⟨4, ![128, 4, 1, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x1x32 : Shape := ⟨4, ![128, 4, 1, 32]⟩
abbrev S128x4x1x0 : Shape := ⟨4, ![128, 4, 1, 0]⟩
abbrev S128x4x256 : Shape := ⟨3, ![128, 4, 256]⟩
abbrev S128x4x2x128 : Shape := ⟨4, ![128, 4, 2, 128]⟩
abbrev S128 : Shape := ⟨1, ![128]⟩
abbrev S128x4x2 : Shape := ⟨3, ![128, 4, 2]⟩
abbrev S128x4x2x1 : Shape := ⟨4, ![128, 4, 2, 1]⟩
abbrev S1x1x1x128 : Shape := ⟨4, ![1, 1, 1, 128]⟩
abbrev S16 : Shape := ⟨1, ![16]⟩
abbrev S1x16 : Shape := ⟨2, ![1, 16]⟩
abbrev S4x16 : Shape := ⟨2, ![4, 16]⟩
abbrev S1x4x1x16 : Shape := ⟨4, ![1, 4, 1, 16]⟩
abbrev S128x4x2x16 : Shape := ⟨4, ![128, 4, 2, 16]⟩
abbrev S128x4x2x96 : Shape := ⟨4, ![128, 4, 2, 96]⟩
abbrev S8 : Shape := ⟨1, ![8]⟩
abbrev S1x8 : Shape := ⟨2, ![1, 8]⟩
abbrev S4x8 : Shape := ⟨2, ![4, 8]⟩
abbrev S1x4x1x8 : Shape := ⟨4, ![1, 4, 1, 8]⟩
abbrev S128x4x1x8 : Shape := ⟨4, ![128, 4, 1, 8]⟩
abbrev S128x4x1x48 : Shape := ⟨4, ![128, 4, 1, 48]⟩
abbrev S512x512 : Shape := ⟨2, ![512, 512]⟩
abbrev S512x64 : Shape := ⟨2, ![512, 64]⟩
abbrev S512x256 : Shape := ⟨2, ![512, 256]⟩

abbrev nBuf : Space → Nat
  | .hbm => 177
  | .vmem => 0
  | .smem => 0
  | _ => 0

abbrev hbmTy0_0 (i : Nat) : BufTy := match i % 128 with
  | 0 => ⟨S512x11264, .f32⟩
  | 1 => ⟨S1x768, .f32⟩
  | 2 => ⟨S1x768x1536, .f32⟩
  | 3 => ⟨S1x192, .f32⟩
  | 4 => ⟨S1x8x128x512, .f32⟩
  | 5 => ⟨S1x512, .f32⟩
  | 6 => ⟨S1x64, .f32⟩
  | 7 => ⟨S1x128, .f32⟩
  | 8 => ⟨S1x128, .f32⟩
  | 9 => ⟨S1x256, .f32⟩
  | 10 => ⟨S4, .i32⟩
  | 11 => ⟨S_, .i32⟩
  | 12 => ⟨S4, .i32⟩
  | 13 => ⟨S4, .i32⟩
  | 14 => ⟨S128x4x11264, .f32⟩
  | 15 => ⟨S128x4x512, .f32⟩
  | 16 => ⟨S128x4x64, .f32⟩
  | 17 => ⟨S512, .f32⟩
  | 18 => ⟨S128x4x512, .f32⟩
  | 19 => ⟨S_, .f32⟩
  | 20 => ⟨S128x4, .f32⟩
  | 21 => ⟨S128x4x1, .f32⟩
  | 22 => ⟨S_, .f32⟩
  | 23 => ⟨S128x4x1, .f32⟩
  | 24 => ⟨S128x4x1, .f32⟩
  | 25 => ⟨S_, .f32⟩
  | 26 => ⟨S128x4x1, .f32⟩
  | 27 => ⟨S128x4x1, .f32⟩
  | 28 => ⟨S128x4x1, .f32⟩
  | 29 => ⟨S128x4x512, .f32⟩
  | 30 => ⟨S128x4x512, .f32⟩
  | 31 => ⟨S1x1x512, .f32⟩
  | 32 => ⟨S128x4x512, .f32⟩
  | 33 => ⟨S128x4x512, .f32⟩
  | 34 => ⟨S64, .f32⟩
  | 35 => ⟨S128x4x64, .f32⟩
  | 36 => ⟨S_, .f32⟩
  | 37 => ⟨S128x4, .f32⟩
  | 38 => ⟨S128x4x1, .f32⟩
  | 39 => ⟨S_, .f32⟩
  | 40 => ⟨S128x4x1, .f32⟩
  | 41 => ⟨S128x4x1, .f32⟩
  | 42 => ⟨S_, .f32⟩
  | 43 => ⟨S128x4x1, .f32⟩
  | 44 => ⟨S128x4x1, .f32⟩
  | 45 => ⟨S128x4x1, .f32⟩
  | 46 => ⟨S128x4x64, .f32⟩
  | 47 => ⟨S128x4x64, .f32⟩
  | 48 => ⟨S1x1x64, .f32⟩
  | 49 => ⟨S128x4x64, .f32⟩
  | 50 => ⟨S128x4x64, .f32⟩
  | 51 => ⟨S128x4x1x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S4, .f32⟩
  | 61 => ⟨S4x1, .f32⟩
  | 62 => ⟨S1x32, .f32⟩
  | 63 => ⟨S4x32, .f32⟩
  | 64 => ⟨S4x32, .f32⟩
  | 65 => ⟨S4x32, .f32⟩
  | 66 => ⟨S4x32, .f32⟩
  | 67 => ⟨S1x4x1x32, .f32⟩
  | 68 => ⟨S4x32, .f32⟩
  | 69 => ⟨S1x4x1x32, .f32⟩
  | 70 => ⟨S128x4x1x32, .f32⟩
  | 71 => ⟨S128x4x1x32, .f32⟩
  | 72 => ⟨S128x4x1x32, .f32⟩
  | 73 => ⟨S128x4x1x32, .f32⟩
  | 74 => ⟨S128x4x1x32, .f32⟩
  | 75 => ⟨S128x4x1x32, .f32⟩
  | 76 => ⟨S128x4x1x32, .f32⟩
  | 77 => ⟨S128x4x1x32, .f32⟩
  | 78 => ⟨S128x4x1x32, .f32⟩
  | 79 => ⟨S128x4x1x32, .f32⟩
  | 80 => ⟨S128x4x1x32, .f32⟩
  | 81 => ⟨S128x4x1x32, .f32⟩
  | 82 => ⟨S128x4x1x0, .f32⟩
  | 83 => ⟨S128x4x1x64, .f32⟩
  | 84 => ⟨S128x4x64, .f32⟩
  | 85 => ⟨S128x4x256, .f32⟩
  | 86 => ⟨S128x4x2x128, .f32⟩
  | 87 => ⟨S128, .f32⟩
  | 88 => ⟨S128x4x2x128, .f32⟩
  | 89 => ⟨S_, .f32⟩
  | 90 => ⟨S128x4x2, .f32⟩
  | 91 => ⟨S128x4x2x1, .f32⟩
  | 92 => ⟨S_, .f32⟩
  | 93 => ⟨S128x4x2x1, .f32⟩
  | 94 => ⟨S128x4x2x1, .f32⟩
  | 95 => ⟨S_, .f32⟩
  | 96 => ⟨S128x4x2x1, .f32⟩
  | 97 => ⟨S128x4x2x1, .f32⟩
  | 98 => ⟨S128x4x2x1, .f32⟩
  | 99 => ⟨S128x4x2x128, .f32⟩
  | 100 => ⟨S128x4x2x128, .f32⟩
  | 101 => ⟨S1x1x1x128, .f32⟩
  | 102 => ⟨S128x4x2x128, .f32⟩
  | 103 => ⟨S128x4x2x128, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S4, .f32⟩
  | 113 => ⟨S4x1, .f32⟩
  | 114 => ⟨S1x16, .f32⟩
  | 115 => ⟨S4x16, .f32⟩
  | 116 => ⟨S4x16, .f32⟩
  | 117 => ⟨S4x16, .f32⟩
  | 118 => ⟨S4x16, .f32⟩
  | 119 => ⟨S1x4x1x16, .f32⟩
  | 120 => ⟨S4x16, .f32⟩
  | 121 => ⟨S1x4x1x16, .f32⟩
  | 122 => ⟨S128x4x2x16, .f32⟩
  | 123 => ⟨S128x4x2x16, .f32⟩
  | 124 => ⟨S128x4x2x16, .f32⟩
  | 125 => ⟨S128x4x2x16, .f32⟩
  | 126 => ⟨S128x4x2x16, .f32⟩
  | 127 => ⟨S128x4x2x16, .f32⟩
  | _ => ⟨S512x11264, .f32⟩

abbrev hbmTy0_1 (i : Nat) : BufTy := match i % 128 with
  | 0 => ⟨S128x4x2x16, .f32⟩
  | 1 => ⟨S128x4x2x16, .f32⟩
  | 2 => ⟨S128x4x2x16, .f32⟩
  | 3 => ⟨S128x4x2x16, .f32⟩
  | 4 => ⟨S128x4x2x16, .f32⟩
  | 5 => ⟨S128x4x2x16, .f32⟩
  | 6 => ⟨S128x4x2x96, .f32⟩
  | 7 => ⟨S128x4x2x128, .f32⟩
  | 8 => ⟨S128x4x256, .f32⟩
  | 9 => ⟨S128x4x64, .f32⟩
  | 10 => ⟨S128x4x1x64, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4, .f32⟩
  | 20 => ⟨S4x1, .f32⟩
  | 21 => ⟨S1x8, .f32⟩
  | 22 => ⟨S4x8, .f32⟩
  | 23 => ⟨S4x8, .f32⟩
  | 24 => ⟨S4x8, .f32⟩
  | 25 => ⟨S4x8, .f32⟩
  | 26 => ⟨S1x4x1x8, .f32⟩
  | 27 => ⟨S4x8, .f32⟩
  | 28 => ⟨S1x4x1x8, .f32⟩
  | 29 => ⟨S128x4x1x8, .f32⟩
  | 30 => ⟨S128x4x1x8, .f32⟩
  | 31 => ⟨S128x4x1x8, .f32⟩
  | 32 => ⟨S128x4x1x8, .f32⟩
  | 33 => ⟨S128x4x1x8, .f32⟩
  | 34 => ⟨S128x4x1x8, .f32⟩
  | 35 => ⟨S128x4x1x8, .f32⟩
  | 36 => ⟨S128x4x1x8, .f32⟩
  | 37 => ⟨S128x4x1x8, .f32⟩
  | 38 => ⟨S128x4x1x8, .f32⟩
  | 39 => ⟨S128x4x1x8, .f32⟩
  | 40 => ⟨S128x4x1x8, .f32⟩
  | 41 => ⟨S128x4x1x48, .f32⟩
  | 42 => ⟨S128x4x1x64, .f32⟩
  | 43 => ⟨S128x4x64, .f32⟩
  | 44 => ⟨S512x512, .f32⟩
  | 45 => ⟨S512x64, .f32⟩
  | 46 => ⟨S512x256, .f32⟩
  | 47 => ⟨S512x256, .f32⟩
  | 48 => ⟨S512x64, .f32⟩
  | _ => ⟨S512x11264, .f32⟩

abbrev hbmTy (i : Nat) : BufTy := match i / 128 with
  | 0 => hbmTy0_0 i
  | 1 => hbmTy0_1 i
  | _ => ⟨S512x11264, .f32⟩

abbrev bufTy : (tb : Table) → Fin (tcTables nBuf tb) → BufTy
  | .hbm, ⟨i, _⟩ => hbmTy i
  | _, _ => ⟨S512x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_12 : Ref sig .tc := ⟨.hbm, 141, rfl⟩
abbrev main_v117 : Ref sig .tc := ⟨.hbm, 142, rfl⟩
abbrev main_v118 : Ref sig .tc := ⟨.hbm, 143, rfl⟩
abbrev main_cst_13 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩

abbrev nD : Nat := 1
abbrev τ : Topo := Topo.v7x

variable {F : FTy → Type} [FloatOps F]
-- ==== Proof.Ffn.Ref.lean ====
module

public import proofs.«01_k».proof.Proof.Gen.FfnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnRefIdeal.Value
open Cert.FfnRefIdeal Cert.FfnRefIdeal.Gen

/-- The normalised rows: each row times the reciprocal root of its mean square, times the gain. -/
def H (X : FVec Ideal S2x4096x2048 .f32) (G : FVec Ideal S1x2048 .f32) : FVec Ideal S2x4096x2048 .f32 :=
  mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ G shapeCasts_S1x2048_S2048)))

/-- A projection of the normalised rows. -/
def D (A : FVec Ideal S2x4096x2048 .f32) (W : FVec Ideal S1x2048x5632 .f32) : FVec Ideal S2x4096x5632 .f32 :=
  Host.dotGeneral dot_S2x4096x2048_S2048x5632_S2x4096x5632_2_0_01_1_n_n none A (shapeCast _ W shapeCasts_S1x2048x5632_S2048x5632)

/-- The gated activation of two projections. -/
def U (A B : FVec Ideal S2x4096x5632 .f32) : FVec Ideal S2x4096x5632 .f32 :=
  mulf (mulf A (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf A))))) B

/-- The whole half step. -/
def REF (X : FVec Ideal S2x4096x2048 .f32) (G : FVec Ideal S1x2048 .f32) (Wg Wu : FVec Ideal S1x2048x5632 .f32)
    (Wd : FVec Ideal S1x5632x2048 .f32) : FVec Ideal S8192x2048 .f32 :=
  shapeCast _ (addf X (mulf (broadcastInDim S2x4096x2048 ![] bcast_S_S2x4096x2048 (constant S_ .f32 0x3F000000#32)) (Host.dotGeneral dot_S2x4096x5632_S5632x2048_S2x4096x2048_2_0_01_1_n_n none (U (D (H X G) Wg) (D (H X G) Wu)) (shapeCast _ Wd shapeCasts_S1x5632x2048_S5632x2048)))) shapeCasts_S2x4096x2048_S8192x2048

/-- The half step at an index: the input there plus half the contraction of the activation with the last weights. -/
theorem ref_at (X : FVec Ideal S2x4096x2048 .f32) (G : FVec Ideal S1x2048 .f32) (Wg Wu : FVec Ideal S1x2048x5632 .f32)
    (Wd : FVec Ideal S1x5632x2048 .f32) (j : S8192x2048.Idx) (i : S2x4096x2048.Idx)
    (hi0 : (i 0 : ℕ) = (j 0 : ℕ) / 4096) (hi1 : (i 1 : ℕ) = (j 0 : ℕ) % 4096) (hi2 : (i 2 : ℕ) = j 1) :
    REF X G Wg Wu Wd j = X i + Ideal.ofBits .f32 0x3F000000#32 *
      ∑ l : Fin 5632, U (D (H X G) Wg) (D (H X G) Wu) (ix3 (i 0) (i 1) l) * Wd (ix3 0 l (i 2)) := by
  pointwise [REF]
  blk_point []

end Cert.FfnRefIdeal.Value
end
-- ==== Proof.Sums.lean ====
module

public import Idealize.ShloMosaic.Lib.Pipeline.ValueKit

@[expose] public section

open Idealize.ShloMosaic

namespace Cert.Sums

/-- A buffer reset at the first point of each run of `n + 1` points to a value of the run plus the point's term, and
    increased by the point's term at every other point, holds at the run's last point that value plus the sum of the terms. -/
theorem run_sum {N : ℕ} {ι : Type*} (f : (k : ℕ) → k < N → ι → EReal) (n : ℕ) (init : ℕ → ι → EReal) (term : Fin N → ι → EReal)
    (h0 : ∀ t : Fin N, t.val % (n + 1) = 0 → ∀ i, f t.val t.isLt i = init (t.val / (n + 1)) i + term t i)
    (hs : ∀ t : Fin N, ¬t.val % (n + 1) = 0 → ∀ i,
      f t.val t.isLt i = f (t.val - 1) (Nat.lt_of_le_of_lt (Nat.sub_le _ _) t.isLt) i + term t i)
    (t : Fin N) (hr : t.val % (n + 1) = n) (i : ι) :
    f t.val t.isLt i = init (t.val / (n + 1)) i
      + ∑ s : Fin (n + 1), term ⟨(n + 1) * (t.val / (n + 1)) + s.val, Pipeline.run_point_lt_of_flush t hr s⟩ i := by
  have key := Pipeline.eq_sum_fin_of_reset_step_apply_of_flush (M := EReal) f (n + 1) (fun _ => 0)
    (fun t i => if t.val % (n + 1) = 0 then init (t.val / (n + 1)) i + term t i else term t i)
    (fun t h i => by rw [if_pos h, zero_add]; exact h0 t h i)
    (fun t h i => by rw [if_neg h]; exact hs t h i) t hr i
  refine key.trans ?_
  rw [zero_add, Fin.sum_univ_succ, Fin.sum_univ_succ (n := n)]
  have e0 : ((n + 1) * (t.val / (n + 1)) + 0) % (n + 1) = 0 := by rw [Nat.add_zero]; exact Nat.mul_mod_right _ _
  have e1 : ((n + 1) * (t.val / (n + 1)) + 0) / (n + 1) = t.val / (n + 1) := by
    rw [Nat.add_zero]; exact Nat.mul_div_cancel_left _ (Nat.succ_pos n)
  rw [if_pos (show ((n + 1) * (t.val / (n + 1)) + ((0 : Fin (n + 1)) : ℕ)) % (n + 1) = 0 from e0), add_assoc]
  rw [show ((n + 1) * (t.val / (n + 1)) + ((0 : Fin (n + 1)) : ℕ)) / (n + 1) = t.val / (n + 1) from e1]
  congr 2
  refine Finset.sum_congr rfl fun s _ => ?_
  rw [if_neg]
  show ¬((n + 1) * (t.val / (n + 1)) + (s.val + 1)) % (n + 1) = 0
  rw [Nat.mul_add_mod, Nat.mod_eq_of_lt (Nat.succ_lt_succ s.isLt)]
  exact Nat.succ_ne_zero _

/-- A nonnegative number times a sum is the sum of the products. -/
theorem coe_mul_sum (r : ℝ) (hr : 0 ≤ r) {ι : Type*} (s : Finset ι) (f : ι → EReal) :
    (r : EReal) * ∑ i ∈ s, f i = ∑ i ∈ s, (r : EReal) * f i := by
  classical
  refine Finset.induction_on s (by simp) fun a s ha ih => ?_
  rw [Finset.sum_insert ha, Finset.sum_insert ha,
    EReal.left_distrib_of_nonneg_of_ne_top (EReal.coe_nonneg.mpr hr) (EReal.coe_ne_top _), ih]

end Cert.Sums
-- ==== Proof.Ffn.Val.lean ====
module

public import proofs.«01_k».proof.Proof.Gen.FfnIdeal.Value
public import proofs.«01_k».proof.Proof.Ffn.Ref
public import proofs.«01_k».proof.Proof.Sums
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value
open Cert.FfnIdeal Cert.FfnIdeal.Gen

variable (m : (ℓ : Loc nD τ sig) → Buf (Elt Ideal) ℓ)

/-- Every window's block index at a point: the row block is the point over eleven, the column block its remainder. -/
theorem idx_all : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] ∧ t.val / 11 < 16 :=
  (by decide +kernel : ∀ t : Fin grid0.N, _)

/-- The normalised rows of the whole input, cut to the row block of a point. -/
def hblk (c : Dev nD) (t : Fin cfg0.N) : Vec Ideal S512x2048 .bf16 := fun y =>
  Cert.FfnRefIdeal.Value.H (m ((c : Thread nD τ).loc main_arg0)) (m ((c : Thread nD τ).loc main_arg1))
    (ix3 ⟨(512 * (t.val / 11) + (y 0 : ℕ)) / 4096, by have := (idx_all t).2.2.2.2.2.2; have : (y 0 : ℕ) < 512 := (y 0).isLt; omega⟩
      ⟨(512 * (t.val / 11) + (y 0 : ℕ)) % 4096, Nat.mod_lt _ (by decide)⟩ (y 1))

/-- What the first point of a run stores in the scratch is the normalised row block. -/
theorem pay2_eq (c : Dev nD) (t : Fin cfg0.N) : k0_pay2 (iblk m c 0 t) (iblk m c 1 t) = hblk m c t := by
  funext y
  have hb := (idx_all t).2.2.2.2.2.2
  pointwise [k0_pay2, k0_pay1, hblk, Cert.FfnRefIdeal.Value.H]
  blk_point [iblk, V, idx_all t]

/-- The row block depends on the run only. -/
theorem hblk_congr (c : Dev nD) (t s : Fin cfg0.N) (h : t.val / 11 = s.val / 11) : hblk m c t = hblk m c s := by
  funext y
  unfold hblk
  congr 2 <;> simp only [h]

/-- After every point the scratch holds the normalised rows of the point's row block. -/
theorem sc_eq (c : Dev nD) : ∀ (n : ℕ) (hn : n < cfg0.N), (outsAt0 m c n hn).2 = hblk m c ⟨n, hn⟩
  | 0, hn => by
      rw [outsAt0_A m c ⟨0, hn⟩ (Nat.zero_mod _), ← pay2_eq m c ⟨0, hn⟩]; funext y; frame_out
  | n + 1, hn => by
      by_cases h : (n + 1) % 11 = 0
      · rw [outsAt0_A m c ⟨n + 1, hn⟩ h, ← pay2_eq m c ⟨n + 1, hn⟩]; funext y; frame_out
      · rw [outsAt0_B m c ⟨n + 1, hn⟩ h]
        exact (sc_eq c n (Nat.lt_of_succ_lt hn)).trans (hblk_congr m c _ _ (by show n / 11 = (n + 1) / 11; omega))

/-- The activation of the reference, over the kernel's argument arrays. -/
def act (c : Dev nD) : FVec Ideal Cert.FfnRefIdeal.S2x4096x5632 .f32 :=
  Cert.FfnRefIdeal.Value.U
    (Cert.FfnRefIdeal.Value.D (Cert.FfnRefIdeal.Value.H (m ((c : Thread nD τ).loc main_arg0)) (m ((c : Thread nD τ).loc main_arg1))) (m ((c : Thread nD τ).loc main_arg2)))
    (Cert.FfnRefIdeal.Value.D (Cert.FfnRefIdeal.Value.H (m ((c : Thread nD τ).loc main_arg0)) (m ((c : Thread nD τ).loc main_arg1))) (m ((c : Thread nD τ).loc main_arg3)))

/-- What a point adds to its row block: half the contraction over the point's slice of the hidden axis. -/
def part (c : Dev nD) (t : Fin cfg0.N) (y : S512x2048.Idx) : EReal :=
  Ideal.ofBits .f32 0x3F000000#32 * ∑ k : Fin 512,
    act m c (ix3 ⟨(512 * (t.val / 11) + (y 0 : ℕ)) / 4096, by have := (idx_all t).2.2.2.2.2.2; have : (y 0 : ℕ) < 512 := (y 0).isLt; omega⟩
      ⟨(512 * (t.val / 11) + (y 0 : ℕ)) % 4096, Nat.mod_lt _ (by decide)⟩ ⟨t.val % 11 * 512 + k.val, by omega⟩)
    * (show FVec Ideal Cert.FfnRefIdeal.S1x5632x2048 .f32 from m ((c : Thread nD τ).loc main_arg4)) (ix3 0 ⟨t.val % 11 * 512 + k.val, by omega⟩ (y 1))

/-- One step: the output before plus the point's part. -/
theorem pay3_eq (c : Dev nD) (t : Fin cfg0.N) (o : Vec Ideal S512x2048 .f32) (y : S512x2048.Idx) :
    k0_pay3 (hblk m c t) (iblk m c 2 t) (iblk m c 3 t) o (iblk m c 4 t) y = (o y : EReal) + part m c t y := by
  have hb := (idx_all t).2.2.2.2.2.2
  pointwise [k0_pay3, hblk, part, act, Cert.FfnRefIdeal.Value.U, Cert.FfnRefIdeal.Value.D]
  simp only [Ideal.logistic]
  blk_point [iblk, V, idx_all t]

/-- The input at a point's row block. -/
def xblk (c : Dev nD) (q : ℕ) (y : S512x2048.Idx) : EReal :=
  if hq : q < 16 then (show FVec Ideal Cert.FfnRefIdeal.S2x4096x2048 .f32 from m ((c : Thread nD τ).loc main_arg0))
    (ix3 ⟨(512 * q + (y 0 : ℕ)) / 4096, by have : (y 0 : ℕ) < 512 := (y 0).isLt; omega⟩
      ⟨(512 * q + (y 0 : ℕ)) % 4096, Nat.mod_lt _ (by decide)⟩ (y 1)) else 0

/-- The input block staged at a point, read off the whole input. -/
theorem pay1_eq (c : Dev nD) (t : Fin cfg0.N) (y : S512x2048.Idx) :
    (k0_pay1 (iblk m c 0 t) y : EReal) = xblk m c (t.val / 11) y := by
  have hb := (idx_all t).2.2.2.2.2.2
  unfold xblk
  rw [dif_pos hb]
  pointwise [k0_pay1]
  blk_point [iblk, V, idx_all t]

/-- After the first point of a run the output holds the input plus that point's part. -/
theorem out_A (c : Dev nD) (t : Fin cfg0.N) (h : t.val % 11 = 0) (y : S512x2048.Idx) :
    ((outsAt0 m c t.val t.isLt).1 y : EReal) = xblk m c (t.val / 11) y + part m c t y := by
  rw [outsAt0_A m c t h]
  frame_out
  rw [pay2_eq, pay3_eq, pay1_eq]

/-- After any other point it holds what it held plus the point's part. -/
theorem out_B (c : Dev nD) (t : Fin cfg0.N) (h : ¬t.val % 11 = 0) (y : S512x2048.Idx) :
    ((outsAt0 m c t.val t.isLt).1 y : EReal)
      = (outsAt0 m c (t.val - 1) (Nat.lt_of_le_of_lt (Nat.sub_le _ _) t.isLt)).1 y + part m c t y := by
  have e := hblk_congr m c ⟨t.val - 1, Nat.lt_of_le_of_lt (Nat.sub_le _ _) t.isLt⟩ t (by show (t.val - 1) / 11 = t.val / 11; omega)
  rw [outsAt0_B m c t h]
  frame_out
  have hr := (Memref.isWhole_whole (cc0_scratch0)).read_unread (Val := Elt Ideal) (outsAt0 m c (t.val - 1) (Nat.lt_of_le_of_lt (Nat.sub_le _ _) t.isLt)).2
  refine (congrFun (congrArg (fun h => k0_pay3 h (iblk m c 2 t) (iblk m c 3 t) _ (iblk m c 4 t)) (hr.trans ((sc_eq m c _ _).trans e))) y).trans ?_
  exact pay3_eq m c t _ y

/-- One half is a nonnegative number. -/
theorem half_eq : Ideal.ofBits .f32 0x3F000000#32 = (((1 : ℝ) / 2 : ℝ) : EReal) := by
  simp [Ideal.ofBits, Ideal.ieee, -EReal.coe_mul]; norm_num

/-- The array after the run is the reference's half step of the arguments. -/
theorem final (c : Dev nD) : (dats m 0 c).arrAt 5 cfg0.N
    = Cert.FfnRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have hb := (idx_all t).2.2.2.2.2.2
  have hm : t.val % 11 = 10 := (flush0_5 t).mp hf
  blk_simp
  rw [after0_5]
  refine (Cert.Sums.run_sum (fun n h y => ((outsAt0 m c n h).1 y : EReal)) 10 (xblk m c) (part m c) (out_A m c) (out_B m c) t hm y).trans ?_
  have hy : (y 0 : ℕ) < 512 := (y 0).isLt
  obtain_idx i : Cert.FfnRefIdeal.S2x4096x2048 := [(512 * (t.val / 11) + (y 0 : ℕ)) / 4096, (512 * (t.val / 11) + (y 0 : ℕ)) % 4096, (y 1 : ℕ)] with hi
  refine Eq.trans ?_ (Cert.FfnRefIdeal.Value.ref_at _ _ _ _ _ _ i ?_ ?_ ?_).symm
  · congr 1
    · unfold xblk; rw [dif_pos hb]; blk_ext
    · rw [half_eq, ← Fin.sum_mul_add_fin 11 512 _ rfl, Cert.Sums.coe_mul_sum _ (by norm_num)]
      refine Finset.sum_congr rfl fun s _ => ?_
      unfold part
      rw [half_eq]
      congr 1
      refine Finset.sum_congr rfl fun k _ => ?_
      unfold act
      congr 1
      · blk_ext
      · blk_ext
  all_goals (blk_simp [idx_all t] <;> try omega)

end Cert.FfnIdeal.Value
end
-- ==== Proof.Ffn.Claims.lean ====
module

public import proofs.«01_k».proof.Defs
public import proofs.«01_k».proof.Proof.Gen.Ffn.Frame
public import proofs.«01_k».proof.Proof.Ffn.Val
public import Idealize.ShloMosaic.Lib.Quiescent

@[expose] public section

set_option maxRecDepth 16384

noncomputable section

open Idealize.ShloMosaic Idealize.SL.Sem

namespace Cert.Proof.FfnClaims

/-- The kernel runs at the bits, leaves its arguments and ends with every semaphore at zero. -/
theorem frame_p : Cert.quiescent_Ffn := fun m ρ _ => Cert.Ffn.Gen.frame m ρ

/-- The same of the kernel over the extended reals. -/
theorem frame_pi : Cert.quiescent_FfnIdeal := fun m ρ _ => Cert.FfnIdeal.Gen.frame m ρ

/-- The same of the reference over the extended reals. -/
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- No rewriting rule is used. -/
theorem preserves : Cert.preserves_Ffn_FfnIdeal := trivial

/-- From equal arguments the kernel and the reference end with equal results. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4⟩ := hagree c
  rw [Cert.FfnIdeal.Value.final m c, ← h0, ← h1, ← h2, ← h3, ← h4]
  rfl

end Cert.Proof.FfnClaims

end
-- ==== Proof.MemKv.Ref.lean ====
module

public import proofs.«01_k».proof.Proof.Gen.MemKvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MemKvRefIdeal.Value
open Cert.MemKvRefIdeal Cert.MemKvRefIdeal.Gen

/-- The normalised memory rows through the key and value projection. -/
def KV (X : FVec Ideal S2x256x2048 .f32) (G : FVec Ideal S1x2048 .f32) (W : FVec Ideal S1x2048x2048 .f32) : FVec Ideal S2x256x2048 .f32 :=
  Host.dotGeneral dot_S2x256x2048_S2048x2048_S2x256x2048_2_0_01_1_n_n none (mulf (mulf X (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf X X) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ G shapeCasts_S1x2048_S2048)))) (shapeCast _ W shapeCasts_S1x2048x2048_S2048x2048)

/-- The key half, by head. -/
def kh (Z : FVec Ideal S2x256x2048 .f32) : FVec Ideal S2x256x4x256 .f32 :=
  shapeCast _ (extractStridedSlice S2x256x1x4x256 ![0, 0, 0, 0, 0] (shapeCast _ Z shapeCasts_S2x256x2048_S2x256x2x4x256) slices_S2x256x2x4x256_S2x256x1x4x256_0_0_0_0_0) shapeCasts_S2x256x1x4x256_S2x256x4x256

/-- The keys: each head's row normalised. -/
def REFk (Z : FVec Ideal S2x256x2048 .f32) (Gk : FVec Ideal S1x256 .f32) : FVec Ideal S512x1024 .f32 :=
  shapeCast _ (mulf (mulf (kh Z) (broadcastInDim S2x256x4x256 ![0, 1, 2, 3] bcast_S2x256x4x1_S2x256x4x256_0_1_2_3 (Host.rsqrt (addf (Host.divf (broadcastInDim S2x256x4x1 ![0, 1, 2] bcast_S2x256x4_S2x256x4x1_0_1_2 (Host.reduceAdd (mulf (kh Z) (kh Z)) (constant S_ .f32 0x00000000#32) reducesTo_S2x256x4x256_S2x256x4_d3 h_S_)) (broadcastInDim S2x256x4x1 ![] bcast_S_S2x256x4x1 (constant S_ .f32 0x43800000#32))) (broadcastInDim S2x256x4x1 ![] bcast_S_S2x256x4x1 (constant S_ .f32 0x358637BD#32)))))) (broadcastInDim S2x256x4x256 ![0, 1, 2, 3] bcast_S1x1x1x256_S2x256x4x256_0_1_2_3 (broadcastInDim S1x1x1x256 ![3] bcast_S256_S1x1x1x256_3 (shapeCast _ Gk shapeCasts_S1x256_S256)))) shapeCasts_S2x256x4x256_S512x1024

/-- The values: the other half. -/
def REFv (Z : FVec Ideal S2x256x2048 .f32) : FVec Ideal S512x1024 .f32 :=
  shapeCast _ (shapeCast _ (extractStridedSlice S2x256x1x4x256 ![0, 0, 1, 0, 0] (shapeCast _ Z shapeCasts_S2x256x2048_S2x256x2x4x256) slices_S2x256x2x4x256_S2x256x1x4x256_0_0_1_0_0) shapeCasts_S2x256x1x4x256_S2x256x4x256) shapeCasts_S2x256x4x256_S512x1024

end Cert.MemKvRefIdeal.Value
end
-- ==== Proof.MemKv.Val.lean ====
module

public import proofs.«01_k».proof.Proof.Gen.MemKvIdeal.Value
public import proofs.«01_k».proof.Proof.MemKv.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKvIdeal.Value
open Cert.MemKvIdeal Cert.MemKvIdeal.Gen

variable (m : (ℓ : Loc nD τ sig) → Buf (Elt Ideal) ℓ)

/-- Every window's block index at a point: the row block is the point. -/
theorem idx_all : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ t.val < 2 :=
  (by decide +kernel : ∀ t : Fin grid0.N, _)

/-- The point's number is below two. -/
theorem row_lt (t : Fin cfg0.N) : t.val < 2 := (idx_all t).2.2.2.2.2.2

/-- The reference's projected rows, over the kernel's argument arrays. -/
def kv (c : Dev nD) : FVec Ideal Cert.MemKvRefIdeal.S2x256x2048 .f32 :=
  Cert.MemKvRefIdeal.Value.KV (m ((c : Thread nD τ).loc main_arg0)) (m ((c : Thread nD τ).loc main_arg1)) (m ((c : Thread nD τ).loc main_arg2))

/-- The projected rows of one batch. -/
def kvblk (c : Dev nD) (t : Fin cfg0.N) : FVec Ideal S256x2048 .f32 := fun y => kv m c (ix3 ⟨t.val, row_lt t⟩ (y 0) (y 1))

/-- What the body projects at a point is the batch of the projected rows. -/
theorem pay3_eq (c : Dev nD) (t : Fin cfg0.N) : k0_pay3 (iblk m c 0 t) (iblk m c 1 t) (iblk m c 2 t) = kvblk m c t := by
  funext y
  have hb := row_lt t
  pointwise [k0_pay3, kvblk, kv, Cert.MemKvRefIdeal.Value.KV]
  blk_point [iblk, V, idx_all t]

/-- The same, for the name the later pieces use. -/
theorem pay12_eq (c : Dev nD) (t : Fin cfg0.N) : k0_pay12 (iblk m c 0 t) (iblk m c 1 t) (iblk m c 2 t) (iblk m c 3 t) = kvblk m c t := by
  rw [← pay3_eq]
  unfold k0_pay12
  frame_out

/-- The value window's array after the run. -/
theorem final5 (c : Dev nD) : (dats m 0 c).arrAt 5 cfg0.N = Cert.MemKvRefIdeal.Value.REFv (kv m c) := by
  refine (dats m 0 c).arrAt_eq_of_covers 5 _ (by decide +kernel) fun t hf y => ?_
  have hb := row_lt t
  blk_simp
  rw [after0_5]
  frame_out
  rw [pay12_eq]
  pointwise [k0_pay2, Cert.MemKvRefIdeal.Value.REFv, kvblk]
  blk_point [idx_all t]

/-- The key window's array after the run. -/
theorem final4 (c : Dev nD) : (dats m 0 c).arrAt 4 cfg0.N = Cert.MemKvRefIdeal.Value.REFk (kv m c) (m ((c : Thread nD τ).loc main_arg3)) := by
  refine (dats m 0 c).arrAt_eq_of_covers 4 _ (by decide +kernel) fun t hf y => ?_
  have hb := row_lt t
  blk_simp
  rw [after0_4]
  frame_out
  rw [pay12_eq]
  simp only [k0_pay4, k0_pay5, pay3_eq]
  canon_tiles x h
  all_goals
    pointwise [k0_pay1, k0_pay6, k0_pay7, k0_pay8, k0_pay9, k0_pay10, k0_pay11, kvblk, Cert.MemKvRefIdeal.Value.REFk, Cert.MemKvRefIdeal.Value.kh]
    blk_point [iblk, V, idx_all t]
end Cert.MemKvIdeal.Value
end
-- ==== Proof.MemKv.Claims.lean ====
module

public import proofs.«01_k».proof.Defs
public import proofs.«01_k».proof.Proof.Gen.MemKv.Frame
public import proofs.«01_k».proof.Proof.MemKv.Val
public import Idealize.ShloMosaic.Lib.Quiescent

@[expose] public section

set_option maxRecDepth 16384

noncomputable section

open Idealize.ShloMosaic Idealize.SL.Sem

namespace Cert.Proof.MemKvClaims

/-- The kernel runs at the bits, leaves its arguments and ends with every semaphore at zero. -/
theorem frame_p : Cert.quiescent_MemKv := fun m ρ _ => Cert.MemKv.Gen.frame m ρ

/-- The same of the kernel over the extended reals. -/
theorem frame_pi : Cert.quiescent_MemKvIdeal := fun m ρ _ => Cert.MemKvIdeal.Gen.frame m ρ

/-- The same of the reference over the extended reals. -/
theorem frame_ri : Cert.quiescent_MemKvRefIdeal := fun m ρ _ =>
  (θ_run Cert.MemKvRefIdeal.defs _ _).mono (fun r h => ⟨fun c => (h c).2.2,
      Idealize.ShloMosaic.sem_eq_zero_of_no_sems (by decide) r.2⟩)
    (Cert.MemKvRefIdeal.Value.run (F := Ideal) m ρ)

/-- No rewriting rule is used. -/
theorem preserves : Cert.preserves_MemKv_MemKvIdeal := trivial

/-- From equal arguments the kernel and the reference end with equal results. -/
theorem algebraic : Cert.algebraic_MemKvIdeal_MemKvRefIdeal := by
  intro m ρ m' ρ' _ hagree
  refine ⟨_, _, Cert.MemKvIdeal.Value.run_blocks (F := Ideal) m ρ, ?_⟩
  refine (θ_run Cert.MemKvRefIdeal.defs _ _).mono (fun _ h c => ⟨(h c).1.trans ?_, (h c).2.1.trans ?_, (h c).2.2⟩)
    (Cert.MemKvRefIdeal.Value.run (F := Ideal) m' ρ')
  · obtain ⟨h0, h1, h2, h3⟩ := hagree c
    rw [Cert.MemKvIdeal.Value.final4 m c, Cert.MemKvIdeal.Value.kv, ← h0, ← h1, ← h2, ← h3]
    rfl
  · obtain ⟨h0, h1, h2, h3⟩ := hagree c
    rw [Cert.MemKvIdeal.Value.final5 m c, Cert.MemKvIdeal.Value.kv, ← h0, ← h1, ← h2]
    rfl

end Cert.Proof.MemKvClaims

end
-- ==== Proof.Merge.Ref.lean ====
module

public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeRefIdeal.Value
open Cert.MergeRefIdeal Cert.MergeRefIdeal.Gen

/-- The three gates: the logistic function of the gate columns, cut by branch. -/
def gates (C : FVec Ideal S8192x11264 .f32) : FVec Ideal S8192x3x2048 .f32 :=
  shapeCast _ (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 5120] C slices_S8192x11264_S8192x6144_0_5120))))) shapeCasts_S8192x6144_S8192x3x2048

/-- A branch's output rows through its output projection. -/
def proj (O : FVec Ideal S8192x1024 .bf16) (W : FVec Ideal S1x1024x2048 .f32) : FVec Ideal S8192x2048 .f32 :=
  Host.dotGeneral dot_S8192x1024_S1024x2048_S8192x2048_1_0_0_1_n_n none (extf .f32 O bitsLt_bf16_f32) (shapeCast _ W shapeCasts_S1x1024x2048_S1024x2048)

/-- The gated sum of the three branches. -/
def merged (A B C : FVec Ideal S8192x1024 .bf16) (P : FVec Ideal S8192x11264 .f32) (Wa Wb Wc : FVec Ideal S1x1024x2048 .f32) : FVec Ideal S8192x2048 .f32 :=
  addf (addf (mulf (shapeCast _ (extractStridedSlice S8192x1x2048 ![0, 0, 0] (gates P) slices_S8192x3x2048_S8192x1x2048_0_0_0) shapeCasts_S8192x1x2048_S8192x2048) (proj A Wa))
    (mulf (shapeCast _ (extractStridedSlice S8192x1x2048 ![0, 1, 0] (gates P) slices_S8192x3x2048_S8192x1x2048_0_1_0) shapeCasts_S8192x1x2048_S8192x2048) (proj B Wb)))
    (mulf (shapeCast _ (extractStridedSlice S8192x1x2048 ![0, 2, 0] (gates P) slices_S8192x3x2048_S8192x1x2048_0_2_0) shapeCasts_S8192x1x2048_S8192x2048) (proj C Wc))

/-- The whole merge: the input plus the gated sum through the last projection. -/
def REF (X : FVec Ideal S8192x2048 .f32) (A B C : FVec Ideal S8192x1024 .bf16) (P : FVec Ideal S8192x11264 .f32) (Wa Wb Wc : FVec Ideal S1x1024x2048 .f32)
    (Wo : FVec Ideal S1x2048x2048 .f32) : FVec Ideal S8192x2048 .f32 :=
  addf X (Host.dotGeneral dot_S8192x2048_S2048x2048_S8192x2048_1_0_0_1_n_n none (merged A B C P Wa Wb Wc) (shapeCast _ Wo shapeCasts_S1x2048x2048_S2048x2048))

/-- The merge at an index: the input there plus the contraction of the gated sum with the last weights. -/
theorem ref_at (X : FVec Ideal S8192x2048 .f32) (A B C : FVec Ideal S8192x1024 .bf16) (P : FVec Ideal S8192x11264 .f32) (Wa Wb Wc : FVec Ideal S1x1024x2048 .f32)
    (Wo : FVec Ideal S1x2048x2048 .f32) (j : S8192x2048.Idx) :
    REF X A B C P Wa Wb Wc Wo j = X j + ∑ l : Fin 2048, merged A B C P Wa Wb Wc (ix2 (j 0) l) * Wo (ix3 0 l (j 1)) := by
  pointwise [REF]

end Cert.MergeRefIdeal.Value
end
-- ==== Proof.Merge.Val.lean ====
module

public import proofs.«01_k».proof.Proof.Gen.MergeIdeal.Value
public import proofs.«01_k».proof.Proof.Merge.Ref
public import proofs.«01_k».proof.Proof.Sums
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value
open Cert.MergeIdeal Cert.MergeIdeal.Gen

variable (m : (ℓ : Loc nD τ sig) → Buf (Elt Ideal) ℓ)

/-- Every window's block index at a point: the row block is the point over four, the column block its remainder. -/
theorem idx_all : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![t.val / 4, 10 + t.val % 4]
    ∧ win0_5.index t = ![t.val / 4, 14 + t.val % 4] ∧ win0_6.index t = ![t.val / 4, 18 + t.val % 4]
    ∧ win0_7.index t = ![0, t.val % 4] ∧ win0_8.index t = ![0, t.val % 4] ∧ win0_9.index t = ![0, t.val % 4]
    ∧ win0_10.index t = ![t.val % 4, 0] ∧ win0_11.index t = ![t.val / 4, 0] ∧ t.val / 4 < 16 :=
  (by decide +kernel : ∀ t : Fin grid0.N, _)

/-- The row block's number is below sixteen. -/
theorem row_lt (t : Fin cfg0.N) : t.val / 4 < 16 := (idx_all t).2.2.2.2.2.2.2.2.2.2.2.2

/-- The gated sum of the reference, over the kernel's argument arrays. -/
def mrg (c : Dev nD) : FVec Ideal Cert.MergeRefIdeal.S8192x2048 .f32 :=
  Cert.MergeRefIdeal.Value.merged (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What a point adds to its row block: the contraction over the point's slice of the merged axis. -/
def part (c : Dev nD) (t : Fin cfg0.N) (y : S512x2048.Idx) : EReal :=
  ∑ k : Fin 512,
    mrg m c (ix2 ⟨t.val / 4 * 512 + (y 0 : ℕ), by have := row_lt t; have : (y 0 : ℕ) < 512 := (y 0).isLt; omega⟩ ⟨t.val % 4 * 512 + k.val, by omega⟩)
    * (show FVec Ideal Cert.MergeRefIdeal.S1x2048x2048 .f32 from m ((c : Thread nD τ).loc main_arg8)) (ix3 0 ⟨t.val % 4 * 512 + k.val, by omega⟩ (y 1))

/-- The gated sum on a point's slice. -/
theorem pay3_eq (c : Dev nD) (t : Fin cfg0.N) (x : S512x512.Idx) (i : Cert.MergeRefIdeal.S8192x2048.Idx)
    (hi0 : (i 0 : ℕ) = t.val / 4 * 512 + (x 0 : ℕ)) (hi1 : (i 1 : ℕ) = t.val % 4 * 512 + (x 1 : ℕ)) :
    (k0_pay3 (iblk m c 4 t) (iblk m c 1 t) (iblk m c 7 t) (iblk m c 5 t) (iblk m c 2 t) (iblk m c 8 t) (iblk m c 6 t) (iblk m c 3 t) (iblk m c 9 t) x : EReal)
      = mrg m c i := by
  have hb := row_lt t
  pointwise [k0_pay3, mrg, Cert.MergeRefIdeal.Value.merged, Cert.MergeRefIdeal.Value.proj, Cert.MergeRefIdeal.Value.gates]
  simp only [Ideal.logistic]
  blk_point [iblk, V, idx_all t]

/-- One step of the accumulation at an index: the output before plus a product of two blocks. -/
theorem pay1_at (o : Vec Ideal S512x2048 .f32) (a : FVec Ideal S512x512 .bf16) (w : Vec Ideal S512x2048 .bf16) (y : S512x2048.Idx) :
    k0_pay1 (k0_pay2 o) a w y = (o y : EReal) + ∑ k : Fin 512, (a (ix2 (y 0) k) : EReal) * (w (ix2 k (y 1)) : EReal) := by
  pointwise [k0_pay1, k0_pay2]

/-- The last weights on a point's slice. -/
theorem w_eq (c : Dev nD) (t : Fin cfg0.N) (k : Fin 512) (n : Fin 2048) :
    (iblk m c 10 t (ix2 k n) : EReal)
      = (show FVec Ideal Cert.MergeRefIdeal.S1x2048x2048 .f32 from m ((c : Thread nD τ).loc main_arg8)) (ix3 0 ⟨t.val % 4 * 512 + k.val, by omega⟩ n) := by
  blk_point [iblk, V, idx_all t]

/-- One step: the output before plus the point's part. -/
theorem pay1_eq (c : Dev nD) (t : Fin cfg0.N) (o : Vec Ideal S512x2048 .f32) (y : S512x2048.Idx) :
    k0_pay1 (k0_pay2 o) (k0_pay3 (iblk m c 4 t) (iblk m c 1 t) (iblk m c 7 t) (iblk m c 5 t) (iblk m c 2 t) (iblk m c 8 t) (iblk m c 6 t) (iblk m c 3 t) (iblk m c 9 t))
      (iblk m c 10 t) y = (o y : EReal) + part m c t y := by
  refine (pay1_at o _ _ y).trans (congrArg (fun z : EReal => (o y : EReal) + z) (Finset.sum_congr rfl fun k _ => ?_))
  exact congrArg₂ (fun a b : EReal => a * b) (pay3_eq m c t (ix2 (y 0) k) _ rfl rfl) (w_eq m c t k (y 1))

/-- The input at a row block. -/
def xblk (c : Dev nD) (q : ℕ) (y : S512x2048.Idx) : EReal :=
  if h : q < 16 then (show FVec Ideal Cert.MergeRefIdeal.S8192x2048 .f32 from m ((c : Thread nD τ).loc main_arg0))
    (ix2 ⟨q * 512 + (y 0 : ℕ), by have : (y 0 : ℕ) < 512 := (y 0).isLt; omega⟩ (y 1)) else 0

/-- The input block staged at a point, read off the whole input. -/
theorem x_eq (c : Dev nD) (t : Fin cfg0.N) (y : S512x2048.Idx) :
    ((show FVec Ideal S512x2048 .f32 from iblk m c 0 t) y : EReal) = xblk m c (t.val / 4) y := by
  have hb := row_lt t
  unfold xblk
  rw [dif_pos hb]
  blk_point [iblk, V, idx_all t]

/-- After the first point of a run the output holds the input plus that point's part. -/
theorem out_A (c : Dev nD) (t : Fin cfg0.N) (h : t.val % 4 = 0) (y : S512x2048.Idx) :
    (outsAt0 m c t.val t.isLt y : EReal) = xblk m c (t.val / 4) y + part m c t y := by
  rw [outsAt0_A m c t h, ← x_eq]
  frame_out
  exact pay1_eq m c t _ y

/-- After any other point it holds what it held plus the point's part. -/
theorem out_B (c : Dev nD) (t : Fin cfg0.N) (h : ¬t.val % 4 = 0) (y : S512x2048.Idx) :
    (outsAt0 m c t.val t.isLt y : EReal)
      = outsAt0 m c (t.val - 1) (Nat.lt_of_le_of_lt (Nat.sub_le _ _) t.isLt) y + part m c t y := by
  rw [outsAt0_B m c t h]
  frame_out
  exact pay1_eq m c t _ y

/-- The array after the run is the reference's merge of the arguments. -/
theorem final (c : Dev nD) : (dats m 0 c).arrAt 11 cfg0.N
    = Cert.MergeRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t hf y => ?_
  have hb := row_lt t
  have hm : t.val % 4 = 3 := (flush0_11 t).mp hf
  blk_simp
  rw [after0_11]
  refine (Cert.Sums.run_sum (fun n h => outsAt0 m c n h) 3 (xblk m c) (part m c) (out_A m c) (out_B m c) t hm y).trans ?_
  have hy : (y 0 : ℕ) < 512 := (y 0).isLt
  refine Eq.trans ?_ (Cert.MergeRefIdeal.Value.ref_at _ _ _ _ _ _ _ _ _ _).symm
  congr 1
  · unfold xblk; rw [dif_pos hb]; blk_ext [idx_all t]
  · rw [← Fin.sum_mul_add_fin 4 512 _ rfl]
    refine Finset.sum_congr rfl fun s _ => Finset.sum_congr rfl fun k _ => ?_
    refine congrArg₂ (fun a b : EReal => a * b) (congrArg (mrg m c) ?_) (congrArg _ ?_)
    · blk_ext [idx_all t]
    · blk_ext [idx_all t]

end Cert.MergeIdeal.Value
end
-- ==== Proof.Merge.Claims.lean ====
module

public import proofs.«01_k».proof.Defs
public import proofs.«01_k».proof.Proof.Gen.Merge.Frame
public import proofs.«01_k».proof.Proof.Merge.Val
public import Idealize.ShloMosaic.Lib.Quiescent

@[expose] public section

set_option maxRecDepth 16384

noncomputable section

open Idealize.ShloMosaic Idealize.SL.Sem

namespace Cert.Proof.MergeClaims

/-- The kernel runs at the bits, leaves its arguments and ends with every semaphore at zero. -/
theorem frame_p : Cert.quiescent_Merge := fun m ρ _ => Cert.Merge.Gen.frame m ρ

/-- The same of the kernel over the extended reals. -/
theorem frame_pi : Cert.quiescent_MergeIdeal := fun m ρ _ => Cert.MergeIdeal.Gen.frame m ρ

/-- The same of the reference over the extended reals. -/
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- No rewriting rule is used. -/
theorem preserves : Cert.preserves_Merge_MergeIdeal := trivial

/-- From equal arguments the kernel and the reference end with equal results. -/
theorem algebraic : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8⟩ := hagree c
  rw [Cert.MergeIdeal.Value.final m c, ← h0, ← h1, ← h2, ← h3, ← h4, ← h5, ← h6, ← h7, ← h8]
  rfl

end Cert.Proof.MergeClaims

end
-- ==== Proof.Flash.Set.lean ====
module

public import proofs.«01_k».proof.Proof.Gen.KernelIdeal.Frame
public import proofs.«01_k».proof.Proof.Gen.KernelIdeal.Skeleton

@[expose] public section

/-! The attention call's body cut in two: what the first key block does before anything else (it
sets the running maximum, sum and accumulator), and all the rest. Also when each of the body's three
branches is taken, and the buffers the runs are stated over. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

/-- The first branch's condition: the key block is block 0. -/
abbrev atFirst (i : grid0.Coords) : Prop :=
  Scalar.cmpi .ne (Scalar.extui (Scalar.cmpi .eq (BitVec.ofNat 32 (i 2).val) 0#32)) 0#32 = 1#1
/-- The second branch's condition: the key block lies below the query block. -/
abbrev below (i : grid0.Coords) : Prop :=
  Scalar.cmpi .ne (Scalar.extui (Scalar.cmpi .slt (BitVec.ofNat 32 (i 2).val) (BitVec.ofNat 32 (i 1).val))) 0#32 = 1#1
/-- The third branch's condition: the key block is the query block. -/
abbrev onDiag (i : grid0.Coords) : Prop := k0_cond3 i = 1#1

/-- The first branch is taken at the points whose last coordinate is 0. -/
theorem atFirst_iff : ∀ t : Fin grid0.N, atFirst (grid0.coords t) ↔ t.val % 8 = 0 := by decide +kernel
/-- The second branch is taken where the key block's number is less than the query block's. -/
theorem below_iff : ∀ t : Fin grid0.N, below (grid0.coords t) ↔ t.val % 8 < t.val / 8 % 8 := by decide +kernel
/-- The third branch is taken where the two numbers agree. -/
theorem onDiag_iff : ∀ t : Fin grid0.N, onDiag (grid0.coords t) ↔ t.val % 8 = t.val / 8 % 8 := by decide +kernel

/-- The queries' staging buffer at point `t`. -/
abbrev qBuf (t : Fin cfg0.N) : Memref sig .tc .vmem S512x2048 .bf16 := win0_0.stage (cfg0.slots t 0)
/-- The keys' staging buffer at point `t`. -/
abbrev kBuf (t : Fin cfg0.N) : Memref sig .tc .vmem S512x2048 .bf16 := win0_1.stage (cfg0.slots t 1)
/-- The values' staging buffer at point `t`. -/
abbrev vBuf (t : Fin cfg0.N) : Memref sig .tc .vmem S512x1024 .bf16 := win0_2.stage (cfg0.slots t 2)
/-- The result's staging buffer at point `t`. -/
abbrev oBuf (t : Fin cfg0.N) : Memref sig .tc .vmem S512x1024 .bf16 := win0_3.stage (cfg0.slots t 3)
theorem qBuf_whole (t : Fin cfg0.N) : (qBuf t).IsWhole := hstage0_0 ((cfg0.slots t 0).cast nbuf0_0)
theorem kBuf_whole (t : Fin cfg0.N) : (kBuf t).IsWhole := hstage0_1 ((cfg0.slots t 1).cast nbuf0_1)
theorem vBuf_whole (t : Fin cfg0.N) : (vBuf t).IsWhole := hstage0_2 ((cfg0.slots t 2).cast nbuf0_2)
theorem oBuf_whole (t : Fin cfg0.N) : (oBuf t).IsWhole := hstage0_3 ((cfg0.slots t 3).cast nbuf0_3)

/-- The running maximum's buffer. -/
abbrev mBuf : Memref sig .tc .vmem S8x512x128 .f32 := Memref.whole cc0_scratch0
/-- The running sum's buffer. -/
abbrev lBuf : Memref sig .tc .vmem S8x512x128 .f32 := Memref.whole cc0_scratch1
/-- The accumulator's buffer. -/
abbrev aBuf : Memref sig .tc .vmem S8x512x128 .f32 := Memref.whole cc0_scratch2

/-- All of the body after its first branch. -/
noncomputable def tailProg (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) :
    Prog (TpuEff nD τ sig (Elt F) Λ₀ .tc) PUnit := do
  let arg1 : BitVec 32 := BitVec.ofNat 32 (i 1).val
  let arg2 : BitVec 32 := BitVec.ofNat 32 (i 2).val
  let v3 : BitVec 1 := Scalar.cmpi .slt arg2 arg1
  let v4 : BitVec 32 := Scalar.extui v3
  let v5 : BitVec 1 := Scalar.cmpi .ne v4 0#32
  if k0_h2 : v5 = 1#1 then do
    let ⟨v14, v17, v20, v21, v22, v23, v24, v30, v32, v35⟩ : Σ' (v14 : FVec F S512x512 .f32) (v17 : FVec F S512x512 .f32) (v20 : FVec F S512x512 .f32) (v21 : Vec F S512x128 .bf16) (v22 : Vec F S512x128 .bf16) (v23 : Vec F S512x128 .bf16) (v24 : Vec F S512x128 .bf16) (v30 : FVec F S512x128 .f32) (v32 : FVec F S512x128 .f32), FVec F S512x512 .f32 ← k0_part1 i arg3 harg3 arg4 harg4 arg5 harg5 arg6 harg6 arg7 harg7 arg8 harg8 arg9 harg9
    let ⟨v49, v55, v57, v60⟩ : Σ' (v49 : FVec F S512x512 .bf16) (v55 : FVec F S512x128 .f32) (v57 : FVec F S512x128 .f32), FVec F S512x512 .f32 ← k0_part2 i arg3 harg3 arg4 harg4 arg5 harg5 arg6 harg6 arg7 harg7 arg8 harg8 arg9 harg9 v14 v30 v32 v35
    let ⟨v74, v82, v99, v105, v107, v108⟩ : Σ' (v74 : FVec F S512x512 .bf16) (v82 : FVec F S512x128 .f32) (v99 : FVec F S512x512 .bf16) (v105 : FVec F S512x128 .f32) (v107 : FVec F S512x128 .f32), FVec F S512x512 .f32 ← k0_part3 i arg3 harg3 arg4 harg4 arg5 harg5 arg6 harg6 arg7 harg7 arg8 harg8 arg9 harg9 v17 v20 v55 v60
    let v124 : FVec F S512x512 .bf16 ← k0_part4 i arg3 harg3 arg4 harg4 arg5 harg5 arg6 harg6 arg7 harg7 arg8 harg8 arg9 harg9 v20 v21 v22 v32 v49 v57 v74 v105 v107 v108
    let ⟨v159, v162, v165, v166⟩ : Σ' (v159 : FVec F S512x512 .f32) (v162 : FVec F S512x512 .f32) (v165 : FVec F S512x512 .f32), Vec F S512x256 .bf16 ← k0_part5 i arg3 harg3 arg4 harg4 arg5 harg5 arg6 harg6 arg7 harg7 arg8 harg8 arg9 harg9 v23 v24 v82 v99 v107 v124
    let ⟨v168, v169, v170, v171, v172, v180, v197⟩ : Σ' (v168 : FVec F S512x512 .f32) (v169 : Vec F S512x128 .bf16) (v170 : Vec F S512x128 .bf16) (v171 : Vec F S512x128 .bf16) (v172 : Vec F S512x128 .bf16) (v180 : FVec F S512x128 .f32), FVec F S512x512 .bf16 ← k0_part6 i arg3 harg3 arg4 harg4 arg5 harg5 arg6 harg6 arg7 harg7 arg8 harg8 arg9 harg9 v159 v166
    let ⟨v205, v222, v228, v230, v233, v236⟩ : Σ' (v205 : FVec F S512x128 .f32) (v222 : FVec F S512x512 .bf16) (v228 : FVec F S512x128 .f32) (v230 : FVec F S512x128 .f32) (v233 : FVec F S512x512 .f32), FVec F S512x128 .f32 ← k0_part7 i arg3 harg3 arg4 harg4 arg5 harg5 arg6 harg6 arg7 harg7 arg8 harg8 arg9 harg9 v162 v165
    let ⟨v247, v255, v272⟩ : Σ' (v247 : FVec F S512x512 .bf16) (v255 : FVec F S512x128 .f32), FVec F S512x512 .bf16 ← k0_part8 i arg3 harg3 arg4 harg4 arg5 harg5 arg6 harg6 arg7 harg7 arg8 harg8 arg9 harg9 v168 v228 v233 v236
    let v301 : FVec F S512x128 .f32 ← k0_part9 i arg3 harg3 arg4 harg4 arg5 harg5 arg6 harg6 arg7 harg7 arg8 harg8 arg9 harg9 v169 v170 v171 v172 v180 v197 v205 v222 v230 v247 v255 v272
    let v302 : Vec F S1x512x128 .f32 ← Prog.lift (.load arg9 (Rect.unit (s := S8x512x128) ![7, 0, 0] S1x512x128.size inb_S8x512x128_S1x512x128_7_0_0).toLoadRect (View.loadsAt_vmem h_S1x512x128))
    Prog.lift (.store arg9 (Rect.unit (s := S8x512x128) ![7, 0, 0] S1x512x128.size inb_S8x512x128_S1x512x128_7_0_0) (k0_pay4 v301) Finset.univ (View.stores_vmem_bits_univ h_S1x512x128 rfl) (.inl rfl))
    pure ⟨⟩
  else do
    pure ⟨⟩
  if k0_h3 : k0_cond3 i = 1#1 then do
    let ⟨v11, v25, v27, v29, v31, v32, v33, v34, v35⟩ : Σ' (v11 : IVec S512x512 1) (v25 : FVec F S512x512 .f32) (v27 : FVec F S512x512 .f32) (v29 : FVec F S512x512 .f32) (v31 : FVec F S512x512 .f32) (v32 : Vec F S512x128 .bf16) (v33 : Vec F S512x128 .bf16) (v34 : Vec F S512x128 .bf16), Vec F S512x128 .bf16 ← k0_part10 i arg3 harg3 arg4 harg4 arg5 harg5 arg6 harg6 arg7 harg7 arg8 harg8 arg9 harg9
    let ⟨v43, v60, v66, v68, v71, v73⟩ : Σ' (v43 : FVec F S512x128 .f32) (v60 : FVec F S512x512 .bf16) (v66 : FVec F S512x128 .f32) (v68 : FVec F S512x128 .f32) (v71 : FVec F S512x512 .f32), FVec F S512x128 .f32 ← k0_part11 i arg3 harg3 arg4 harg4 arg5 harg5 arg6 harg6 arg7 harg7 arg8 harg8 arg9 harg9 v25 v27
    let ⟨v85, v93, v96, v109⟩ : Σ' (v85 : FVec F S512x512 .bf16) (v93 : FVec F S512x128 .f32) (v96 : FVec F S512x512 .f32), FVec F S1x512x128 .f32 ← k0_part12 i arg3 harg3 arg4 harg4 arg5 harg5 arg6 harg6 arg7 harg7 arg8 harg8 arg9 harg9 v29 v66 v68 v71 v73
    let ⟨v110, v118, v135⟩ : Σ' (v110 : FVec F S512x512 .bf16) (v118 : FVec F S512x128 .f32), FVec F S512x512 .bf16 ← k0_part13 i arg3 harg3 arg4 harg4 arg5 harg5 arg6 harg6 arg7 harg7 arg8 harg8 arg9 harg9 v31 v32 v43 v60 v96 v109
    let ⟨v170, v171⟩ : Σ' (v170 : FVec F S512x512 .f32), Vec F S512x256 .bf16 ← k0_part14 i arg3 harg3 arg4 harg4 arg5 harg5 arg6 harg6 arg7 harg7 arg8 harg8 arg9 harg9 v33 v34 v35 v68 v85 v93 v110 v118 v135
    let ⟨v183, v185, v187, v188, v189, v190, v191, v197, v199, v202⟩ : Σ' (v183 : FVec F S512x512 .f32) (v185 : FVec F S512x512 .f32) (v187 : FVec F S512x512 .f32) (v188 : Vec F S512x128 .bf16) (v189 : Vec F S512x128 .bf16) (v190 : Vec F S512x128 .bf16) (v191 : Vec F S512x128 .bf16) (v197 : FVec F S512x128 .f32) (v199 : FVec F S512x128 .f32), FVec F S512x512 .f32 ← k0_part15 i arg3 harg3 arg4 harg4 arg5 harg5 arg6 harg6 arg7 harg7 arg8 harg8 arg9 harg9 v11 v170 v171
    let ⟨v216, v222, v224, v227⟩ : Σ' (v216 : FVec F S512x512 .bf16) (v222 : FVec F S512x128 .f32) (v224 : FVec F S512x128 .f32), FVec F S512x512 .f32 ← k0_part16 i arg3 harg3 arg4 harg4 arg5 harg5 arg6 harg6 arg7 harg7 arg8 harg8 arg9 harg9 v183 v197 v199 v202
    let ⟨v241, v249, v266, v272, v274, v276⟩ : Σ' (v241 : FVec F S512x512 .bf16) (v249 : FVec F S512x128 .f32) (v266 : FVec F S512x512 .bf16) (v272 : FVec F S512x128 .f32) (v274 : FVec F S512x128 .f32), FVec F S512x512 .f32 ← k0_part17 i arg3 harg3 arg4 harg4 arg5 harg5 arg6 harg6 arg7 harg7 arg8 harg8 arg9 harg9 v185 v187 v222 v227
    let v291 : FVec F S512x512 .bf16 ← k0_part18 i arg3 harg3 arg4 harg4 arg5 harg5 arg6 harg6 arg7 harg7 arg8 harg8 arg9 harg9 v188 v189 v199 v216 v224 v241 v272 v274 v276
    let v336 : FVec F S512x128 .bf16 ← k0_part19 i arg3 harg3 arg4 harg4 arg5 harg5 arg6 harg6 arg7 harg7 arg8 harg8 arg9 harg9 v190 v191 v249 v266 v274 v291
    let ⟨v360, v361⟩ : Σ' (v360 : FVec F S512x128 .f32), Vec F S1x512x128 .f32 ← k0_part20 i arg3 harg3 arg4 harg4 arg5 harg5 arg6 harg6 arg7 harg7 arg8 harg8 arg9 harg9 v336
    let v365 : Vec F S512x128 .bf16 ← Prog.lift (.load arg6 (Rect.unit (s := S512x1024) ![0, 640] S512x128.size inb_S512x1024_S512x128_0_640).toLoadRect (View.loadsAt_vmem h_S512x128))
    Prog.lift (.store arg6 (Rect.unit (s := S512x1024) ![0, 640] S512x128.size inb_S512x1024_S512x128_0_640) (k0_pay5 v360 v361) Finset.univ (View.stores_vmem h_S512x128 (harg6.storeExact_slice rfl _ packedbf16_S512x1024_S512x128_0_640) (fun _ => rfl)) (.inl rfl))
    let v366 : Vec F S1x512x128 .f32 ← Prog.lift (.load arg9 (Rect.unit (s := S8x512x128) ![6, 0, 0] S1x512x128.size inb_S8x512x128_S1x512x128_6_0_0).toLoadRect (View.loadsAt_vmem h_S1x512x128))
    let v368 : Vec F S1x512x128 .f32 ← Prog.lift (.load arg8 (Rect.unit (s := S8x512x128) ![6, 0, 0] S1x512x128.size inb_S8x512x128_S1x512x128_6_0_0).toLoadRect (View.loadsAt_vmem h_S1x512x128))
    let v372 : Vec F S512x128 .bf16 ← Prog.lift (.load arg6 (Rect.unit (s := S512x1024) ![0, 768] S512x128.size inb_S512x1024_S512x128_0_768).toLoadRect (View.loadsAt_vmem h_S512x128))
    Prog.lift (.store arg6 (Rect.unit (s := S512x1024) ![0, 768] S512x128.size inb_S512x1024_S512x128_0_768) (k0_pay6 v366 v368) Finset.univ (View.stores_vmem h_S512x128 (harg6.storeExact_slice rfl _ packedbf16_S512x1024_S512x128_0_768) (fun _ => rfl)) (.inl rfl))
    let v373 : Vec F S1x512x128 .f32 ← Prog.lift (.load arg9 (Rect.unit (s := S8x512x128) ![7, 0, 0] S1x512x128.size inb_S8x512x128_S1x512x128_7_0_0).toLoadRect (View.loadsAt_vmem h_S1x512x128))
    let v375 : Vec F S1x512x128 .f32 ← Prog.lift (.load arg8 (Rect.unit (s := S8x512x128) ![7, 0, 0] S1x512x128.size inb_S8x512x128_S1x512x128_7_0_0).toLoadRect (View.loadsAt_vmem h_S1x512x128))
    let v379 : Vec F S512x128 .bf16 ← Prog.lift (.load arg6 (Rect.unit (s := S512x1024) ![0, 896] S512x128.size inb_S512x1024_S512x128_0_896).toLoadRect (View.loadsAt_vmem h_S512x128))
    Prog.lift (.store arg6 (Rect.unit (s := S512x1024) ![0, 896] S512x128.size inb_S512x1024_S512x128_0_896) (k0_pay7 v373 v375) Finset.univ (View.stores_vmem h_S512x128 (harg6.storeExact_slice rfl _ packedbf16_S512x1024_S512x128_0_896) (fun _ => rfl)) (.inl rfl))
    pure ⟨⟩
  else do
    pure ⟨⟩
  pure ⟨⟩

/-- Where the first branch is taken the body sets the three running buffers, then runs the rest. -/
theorem body_first (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h : atFirst i) :
    cc0__mla_flash_kernel (F := F) i arg3 harg3 arg4 harg4 arg5 harg5 arg6 harg6 arg7 harg7 arg8 harg8 arg9 harg9 = (do
    let v10 : Vec F S8x512x128 .f32 ← Prog.lift (.load arg7 (Rect.unit (s := S8x512x128) ![0, 0, 0] S8x512x128.size inb_S8x512x128_S8x512x128_0_0_0).toLoadRect (View.loadsAt_vmem h_S8x512x128))
    Prog.lift (.store arg7 (Rect.unit (s := S8x512x128) ![0, 0, 0] S8x512x128.size inb_S8x512x128_S8x512x128_0_0_0) (k0_pay1 (F := F)) Finset.univ (View.stores_vmem_bits_univ h_S8x512x128 rfl) (.inl rfl))
    let v14 : Vec F S8x512x128 .f32 ← Prog.lift (.load arg8 (Rect.unit (s := S8x512x128) ![0, 0, 0] S8x512x128.size inb_S8x512x128_S8x512x128_0_0_0).toLoadRect (View.loadsAt_vmem h_S8x512x128))
    Prog.lift (.store arg8 (Rect.unit (s := S8x512x128) ![0, 0, 0] S8x512x128.size inb_S8x512x128_S8x512x128_0_0_0) (k0_pay2 (F := F)) Finset.univ (View.stores_vmem_bits_univ h_S8x512x128 rfl) (.inl rfl))
    let v18 : Vec F S8x512x128 .f32 ← Prog.lift (.load arg9 (Rect.unit (s := S8x512x128) ![0, 0, 0] S8x512x128.size inb_S8x512x128_S8x512x128_0_0_0).toLoadRect (View.loadsAt_vmem h_S8x512x128))
    Prog.lift (.store arg9 (Rect.unit (s := S8x512x128) ![0, 0, 0] S8x512x128.size inb_S8x512x128_S8x512x128_0_0_0) (k0_pay3 (F := F)) Finset.univ (View.stores_vmem_bits_univ h_S8x512x128 rfl) (.inl rfl))
    tailProg i arg3 harg3 arg4 harg4 arg5 harg5 arg6 harg6 arg7 harg7 arg8 harg8 arg9 harg9) := by
  rw [cc0__mla_flash_kernel_eq_skeleton]; unfold cc0__mla_flash_kernel_skel tailProg
  simp only [dif_pos h]

/-- Where the first branch isn't taken the body is the rest. -/
theorem body_later (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h : ¬atFirst i) :
    cc0__mla_flash_kernel (F := F) i arg3 harg3 arg4 harg4 arg5 harg5 arg6 harg6 arg7 harg7 arg8 harg8 arg9 harg9 = tailProg i arg3 harg3 arg4 harg4 arg5 harg5 arg6 harg6 arg7 harg7 arg8 harg8 arg9 harg9 := by
  rw [cc0__mla_flash_kernel_eq_skeleton]; unfold cc0__mla_flash_kernel_skel tailProg
  simp only [dif_neg h]

end Cert.Proof.Flash

end
-- ==== Proof.Flash.RunBelow.lean ====
module

public import proofs.«01_k».proof.Proof.Flash.Set

@[expose] public section

/-! The body's rest where the key block lies below the query block: what it leaves in the running buffers. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

set_option maxHeartbeats 1600000 in
/-- With the key block below the query block the body leaves its operands and the result's buffer as they were and writes these pieces into the running maximum, sum and accumulator. -/
noncomputable def runBelow (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : below i) (h2 : ¬onDiag i)
    (x0 : Vec F S512x2048 .bf16) (x1 : Vec F S512x2048 .bf16) (x2 : Vec F S512x1024 .bf16)
    (s0 s1 s2 : Vec F S8x512x128 .f32) (y : Vec F S512x1024 .bf16) :
    Σ' (L0 : List (View.Piece (Elt F) S8x512x128 .f32)), Σ' (L1 : List (View.Piece (Elt F) S8x512x128 .f32)), { L2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2
                ∗ owns (c : Thread nD τ) arg6 fullShare y
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (tailProg i arg3 harg3 arg4 harg4 arg5 harg5 arg6 harg6 arg7 harg7 arg8 harg8 arg9 harg9) K } := by
  refine ⟨?_, ?_, ?_, fun E K => ?run⟩
  case run =>
    unfold tailProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]; · iexists _; iexact HS0
    isplitl [HS1]; · iexists _; iexact HS1
    iexists _; iexact HS2

end Cert.Proof.Flash

end
-- ==== Proof.Flash.RunDiag.lean ====
module

public import proofs.«01_k».proof.Proof.Flash.Set

@[expose] public section

/-! The body's rest where the key block is the query block: what it leaves in the running buffers and in the result's. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

set_option maxHeartbeats 1600000 in
/-- With the key block on the diagonal the body leaves its operands as they were and writes these pieces into the running maximum, sum and accumulator, and into the result's buffer. -/
noncomputable def runDiag (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16)
    (s0 s1 s2 : Vec F S8x512x128 .f32) :
    Σ' (L0 : List (View.Piece (Elt F) S8x512x128 .f32)), Σ' (L1 : List (View.Piece (Elt F) S8x512x128 .f32)), Σ' (L2 : List (View.Piece (Elt F) S8x512x128 .f32)), { LO : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (tailProg i arg3 harg3 arg4 harg4 arg5 harg5 arg6 harg6 arg7 harg7 arg8 harg8 arg9 harg9) K } := by
  refine ⟨?_, ?_, ?_, ?_, fun E K => ?run⟩
  case run =>
    unfold tailProg
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3

    isplitl [HS0]; · iexists _; iexact HS0
    isplitl [HS1]; · iexists _; iexact HS1
    iexists _; iexact HS2

end Cert.Proof.Flash

end
-- ==== Proof.Flash.Step.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.ValueKit.Stack
public import Idealize.ShloMosaic.Lib.StackMember

@[expose] public section

/-! One head's step of the online softmax on a 512-key block, as functions of whole vectors, and the
lists of pieces that hold eight heads. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

open Idealize.ShloMosaic.StackMember (memberAt)

/-- A head's scores of 512 queries against 512 keys. -/
def score (q k : Vec F S512x256 .bf16) : FVec F S512x512 .f32 :=
  matmul dot_S512x256_S512x256_S512x512_1_1_0_0_n_n none q k (constant S512x512 .f32 0x00000000#32)
/-- The scores with the keys after each query masked out. -/
def masked (q k : Vec F S512x256 .bf16) : FVec F S512x512 .f32 :=
  select k0_pay82 (score q k) (broadcast S512x512 (Named.named κ "mask" 0xF149F2CA#32))
/-- The new running maximum: the old one against the largest score of the block. -/
def newM (s : FVec F S512x512 .f32) (m : FVec F S512x128 .f32) : FVec F S512x128 .f32 :=
  maximumf m (broadcastTo S512x128 (shapeCast S512x1 (multiReduction .maximumf [1] S512 s 0xFF800000#32 reduces_S512x512_S512 (.inl rfl) rfl) shapeCasts_S512_S512x1) broadcasts_S512x1_S512x128)
/-- The factor by which the old sum and accumulator shrink. -/
def fade (s : FVec F S512x512 .f32) (m : FVec F S512x128 .f32) : FVec F S512x128 .f32 := exp (subf m (newM s m))
/-- The block's weights. -/
def wts (s : FVec F S512x512 .f32) (m : FVec F S512x128 .f32) : FVec F S512x512 .f32 :=
  exp (subf s (concatenate S512x512 1 [⟨S512x128, newM s m⟩, ⟨S512x128, newM s m⟩, ⟨S512x128, newM s m⟩, ⟨S512x128, newM s m⟩] concatenates_S512x128_S512x128_S512x128_S512x128_S512x512_d1))
/-- The new running sum. -/
def newL (s : FVec F S512x512 .f32) (m l : FVec F S512x128 .f32) : FVec F S512x128 .f32 :=
  addf (mulf (fade s m) l) (broadcastTo S512x128 (shapeCast S512x1 (multiReduction .add [1] S512 (wts s m) 0x00000000#32 reduces_S512x512_S512 (.inl rfl) rfl) shapeCasts_S512_S512x1) broadcasts_S512x1_S512x128)
/-- The new accumulator. -/
def newA (s : FVec F S512x512 .f32) (m a : FVec F S512x128 .f32) (v : Vec F S512x128 .bf16) : FVec F S512x128 .f32 :=
  addf (mulf (fade s m) a) (matmul dot_S512x512_S512x128_S512x128_1_0_0_1_n_n none (truncf .bf16 (wts s m) bitsLt_bf16_f32) v (constant S512x128 .f32 0x00000000#32))
/-- A head's result: the accumulator over the sum. -/
def quot (a l : FVec F S512x128 .f32) : FVec F S512x128 .bf16 := truncf .bf16 (divf a l) bitsLt_bf16_f32

theorem inb_head (h : Fin 8) : ∀ a, (![h.val, 0, 0] : Fin 3 → ℕ) a + S1x512x128.size a ≤ S8x512x128.size a := by
  revert h; decide
theorem inb_wide (h : Fin 8) : ∀ a, (![0, 256 * h.val] : Fin 2 → ℕ) a + S512x256.size a ≤ S512x2048.size a := by
  revert h; decide
theorem inb_lane (h : Fin 8) : ∀ a, (![0, 128 * h.val] : Fin 2 → ℕ) a + S512x128.size a ≤ S512x1024.size a := by
  revert h; decide

/-- Head `h` of a buffer of eight heads. -/
abbrev headRect (h : Fin 8) : Rect S8x512x128 := Rect.unit (s := S8x512x128) ![h.val, 0, 0] S1x512x128.size (inb_head h)
/-- Head `h`'s 256 columns of the queries or keys. -/
abbrev wideRect (h : Fin 8) : Rect S512x2048 := Rect.unit (s := S512x2048) ![0, 256 * h.val] S512x256.size (inb_wide h)
/-- Head `h`'s 128 columns of the values or the result. -/
abbrev laneRect (h : Fin 8) : Rect S512x1024 := Rect.unit (s := S512x1024) ![0, 128 * h.val] S512x128.size (inb_lane h)

/-- Head `h`'s columns of the queries or keys. -/
def wide (x : Vec F S512x2048 .bf16) (h : Fin 8) : Vec F S512x256 .bf16 := View.ld x (wideRect h)
/-- Head `h`'s columns of the values. -/
def lane (x : Vec F S512x1024 .bf16) (h : Fin 8) : Vec F S512x128 .bf16 := View.ld x (laneRect h)

/-- The pieces that write eight heads, the last first. -/
def heads (G : Fin 8 → FVec F S512x128 .f32) : List (View.Piece (Elt F) S8x512x128 .f32) :=
  List.map (fun h : Fin 8 => ⟨headRect h, shapeCast S1x512x128 (G h) shapeCasts_S512x128_S1x512x128⟩) [7, 6, 5, 4, 3, 2, 1, 0]
/-- The pieces that write eight heads' columns of the result, the last first. -/
def lanes (G : Fin 8 → FVec F S512x128 .bf16) : List (View.Piece (Elt F) S512x1024 .bf16) :=
  List.map (fun h : Fin 8 => ⟨laneRect h, G h⟩) [7, 6, 5, 4, 3, 2, 1, 0]
/-- Eight heads' columns side by side. -/
def sideBySide (G : Fin 8 → FVec F S512x128 .bf16) : Vec F S512x1024 .bf16 := fun y =>
  G ⟨(y 1).val / 128, by have : (y 1).val < 1024 := (y 1).isLt; omega⟩
    (Fin.cons (y 0) (Fin.cons ⟨(y 1).val % 128, Nat.mod_lt _ (by decide)⟩ finZeroElim))

/-- Where every piece writes what `G` says and the pieces cover, the buffer reads `G`. -/
theorem read_agree {S : Shape} {e : EltTy} {sp : Space} (v : View sig .tc sp S e) (f : v.ty.Contents (Elt F)) (G : S.Idx → Elt F e) :
    ∀ L : List (View.Piece (Elt F) S e), (∀ p ∈ L, ∀ x, p.2 x = G (p.1.emb x)) → ∀ y, (∃ p ∈ L, y ∈ p.1.set) →
      v.read (Elt F) (v.writes (Elt F) f L) y = G y
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      rw [← hG p List.mem_cons_self x]
      exact View.read_writes_cons_emb v f p.1 p.2 L x
    · have hL : ∃ p' ∈ L, y ∈ p'.1.set := by
        obtain ⟨p', hm, hy'⟩ := h
        rcases List.mem_cons.mp hm with rfl | hm
        · exact absurd hy' hy
        · exact ⟨p', hm, hy'⟩
      rw [View.writes_cons, View.read_slice_write_of_not_mem p.1 _ _ _ (by rwa [Rect.map_emb_univ])]
      exact read_agree v f G L (fun p' hp' => hG p' (List.mem_cons_of_mem _ hp')) y hL

theorem mem_all (h : Fin 8) : h ∈ ([7, 6, 5, 4, 3, 2, 1, 0] : List (Fin 8)) := by revert h; decide

/-- The eight heads' pieces leave the stack of the eight heads. -/
theorem read_heads {sp : Space} (v : View sig .tc sp S8x512x128 .f32) (f : v.ty.Contents (Elt F)) (G : Fin 8 → FVec F S512x128 .f32) :
    v.read (Elt F) (v.writes (Elt F) f (heads G)) = stackAlong0 G := by
  funext y
  refine read_agree v f (stackAlong0 G) (heads G) ?_ y ?_
  · intro p hp x
    obtain ⟨h, -, rfl⟩ := List.mem_map.mp hp
    exact stack_piece_emb G h shapeCasts_S512x128_S1x512x128 _ (inb_head h) rfl (fun a => by fin_cases a <;> rfl) x
  · refine ⟨_, List.mem_map.mpr ⟨y 0, mem_all _, rfl⟩, ?_⟩
    refine (Rect.mem_set_unit (inb := inb_head (y 0))).mpr fun a => ?_
    have h1 : (y 1).val < 512 := (y 1).isLt
    have h2 : (y 2).val < 128 := (y 2).isLt
    fin_cases a
    · exact ⟨le_refl _, Nat.lt_succ_self _⟩
    · exact ⟨Nat.zero_le _, by simpa using h1⟩
    · exact ⟨Nat.zero_le _, by simpa using h2⟩

/-- The eight heads' pieces of the result leave the heads side by side. -/
theorem read_lanes {sp : Space} (v : View sig .tc sp S512x1024 .bf16) (f : v.ty.Contents (Elt F)) (G : Fin 8 → FVec F S512x128 .bf16) :
    v.read (Elt F) (v.writes (Elt F) f (lanes G)) = sideBySide G := by
  funext y
  refine read_agree v f (sideBySide G) (lanes G) ?_ y ?_
  · intro p hp x
    obtain ⟨h, -, rfl⟩ := List.mem_map.mp hp
    have e0 : ((laneRect h).emb x 0).val = (x 0).val := by
      show 0 + 1 * (x 0).val = _; omega
    have e1 : ((laneRect h).emb x 1).val = 128 * h.val + (x 1).val := by
      show 128 * h.val + 1 * (x 1).val = _; omega
    have hx : (x 1).val < 128 := (x 1).isLt
    show G h x = G _ _
    have eh : h = ⟨((laneRect h).emb x 1).val / 128, by rw [e1]; have := h.isLt; omega⟩ := Fin.ext (by
      show h.val = ((laneRect h).emb x 1).val / 128; rw [e1]; omega)
    refine congr (congrArg G eh) (funext fun a => Fin.ext ?_)
    fin_cases a
    · exact e0.symm
    · show (x 1).val = ((laneRect h).emb x 1).val % 128; rw [e1]; omega
  · have h0 : (y 0).val < 512 := (y 0).isLt
    have h1 : (y 1).val < 1024 := (y 1).isLt
    refine ⟨_, List.mem_map.mpr ⟨⟨(y 1).val / 128, by omega⟩, mem_all _, rfl⟩, ?_⟩
    refine (Rect.mem_set_unit (inb := inb_lane ⟨(y 1).val / 128, by omega⟩)).mpr fun a => ?_
    fin_cases a
    · exact ⟨Nat.zero_le _, by simpa using h0⟩
    · show 128 * ((y 1).val / 128) ≤ (y 1).val ∧ (y 1).val < 128 * ((y 1).val / 128) + 128
      omega

/-- Head `h` loaded from a stack of eight heads is member `h`. -/
theorem load_head (s : Vec F S8x512x128 .f32) (h : Fin 8) :
    shapeCast S512x128 (View.ld (Val := Elt F) (e' := .f32) s (headRect h)) shapeCasts_S1x512x128_S512x128 = memberAt s h := by
  have e : s = stackAlong0 (fun g : Fin 8 => memberAt s g) := by
    funext y; unfold stackAlong0 memberAt; congr 1; funext a; refine Fin.cases ?_ (fun i => ?_) a <;> rfl
  conv_lhs => rw [e]
  rw [ld_stack (fun g : Fin 8 => memberAt s g) h _ _ shapeCasts_S512x128_S1x512x128 rfl (fun a => by fin_cases a <;> rfl)]
  exact shapeCast_shapeCast _ _ _

end Cert.Proof.Flash

end
-- ==== Proof.Flash.Pieces.lean ====
module

public import proofs.«01_k».proof.Proof.Flash.RunBelow
public import proofs.«01_k».proof.Proof.Flash.RunDiag
public import proofs.«01_k».proof.Proof.Flash.Step

@[expose] public section

/-! The pieces the runs leave are the online softmax's step, head by head. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

open Idealize.ShloMosaic.StackMember (memberAt)

set_option maxHeartbeats 1000000 in
/-- The pieces for the running maximum, below the diagonal. -/
theorem runBelow_M (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : below i) (h2 : ¬onDiag i)
    (x0 : Vec F S512x2048 .bf16) (x1 : Vec F S512x2048 .bf16) (x2 : Vec F S512x1024 .bf16)
    (s0 s1 s2 : Vec F S8x512x128 .f32) (y : Vec F S512x1024 .bf16) :
    (runBelow c i arg3 harg3 arg4 harg4 arg5 harg5 arg6 harg6 arg7 harg7 arg8 harg8 arg9 harg9 h1 h2 x0 x1 x2 s0 s1 s2 y).1 = heads fun h => newM (score (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) := by
  unfold runBelow; rfl

set_option maxHeartbeats 1000000 in
/-- The pieces for the running sum, below the diagonal. -/
theorem runBelow_L (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : below i) (h2 : ¬onDiag i)
    (x0 : Vec F S512x2048 .bf16) (x1 : Vec F S512x2048 .bf16) (x2 : Vec F S512x1024 .bf16)
    (s0 s1 s2 : Vec F S8x512x128 .f32) (y : Vec F S512x1024 .bf16) :
    (runBelow c i arg3 harg3 arg4 harg4 arg5 harg5 arg6 harg6 arg7 harg7 arg8 harg8 arg9 harg9 h1 h2 x0 x1 x2 s0 s1 s2 y).2.1 = heads fun h => newL (score (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg8.view.readAt (Elt F) (headRect h).toLoadRect (harg8.unread s1)) shapeCasts_S1x512x128_S512x128) := by
  unfold runBelow; rfl

set_option maxHeartbeats 1000000 in
/-- The pieces for the accumulator, below the diagonal. -/
theorem runBelow_A (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : below i) (h2 : ¬onDiag i)
    (x0 : Vec F S512x2048 .bf16) (x1 : Vec F S512x2048 .bf16) (x2 : Vec F S512x1024 .bf16)
    (s0 s1 s2 : Vec F S8x512x128 .f32) (y : Vec F S512x1024 .bf16) :
    (runBelow c i arg3 harg3 arg4 harg4 arg5 harg5 arg6 harg6 arg7 harg7 arg8 harg8 arg9 harg9 h1 h2 x0 x1 x2 s0 s1 s2 y).2.2.1 = heads fun h => newA (score (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg9.view.readAt (Elt F) (headRect h).toLoadRect (harg9.unread s2)) shapeCasts_S1x512x128_S512x128) (arg5.view.readAt (Elt F) (laneRect h).toLoadRect (harg5.unread x2)) := by
  unfold runBelow; rfl

set_option maxHeartbeats 1000000 in
/-- The pieces for the running maximum, on the diagonal. -/
theorem runDiag_M (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16)
    (s0 s1 s2 : Vec F S8x512x128 .f32) :
    (runDiag c i arg3 harg3 arg4 harg4 arg5 harg5 arg6 harg6 arg7 harg7 arg8 harg8 arg9 harg9 h1 h2 x0 x1 x2 s0 s1 s2).1 = heads fun h => newM (masked (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) := by
  unfold runDiag; rfl

set_option maxHeartbeats 1000000 in
/-- The pieces for the running sum, on the diagonal. -/
theorem runDiag_L (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16)
    (s0 s1 s2 : Vec F S8x512x128 .f32) :
    (runDiag c i arg3 harg3 arg4 harg4 arg5 harg5 arg6 harg6 arg7 harg7 arg8 harg8 arg9 harg9 h1 h2 x0 x1 x2 s0 s1 s2).2.1 = heads fun h => newL (masked (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg8.view.readAt (Elt F) (headRect h).toLoadRect (harg8.unread s1)) shapeCasts_S1x512x128_S512x128) := by
  unfold runDiag; rfl

set_option maxHeartbeats 1000000 in
/-- The pieces for the accumulator, on the diagonal. -/
theorem runDiag_A (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16)
    (s0 s1 s2 : Vec F S8x512x128 .f32) :
    (runDiag c i arg3 harg3 arg4 harg4 arg5 harg5 arg6 harg6 arg7 harg7 arg8 harg8 arg9 harg9 h1 h2 x0 x1 x2 s0 s1 s2).2.2.1 = heads fun h => newA (masked (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg9.view.readAt (Elt F) (headRect h).toLoadRect (harg9.unread s2)) shapeCasts_S1x512x128_S512x128) (arg5.view.readAt (Elt F) (laneRect h).toLoadRect (harg5.unread x2)) := by
  unfold runDiag; rfl

set_option maxHeartbeats 1000000 in
/-- The pieces for the result: each head's accumulator over its sum, both read back. -/
theorem runDiag_out (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16)
    (s0 s1 s2 : Vec F S8x512x128 .f32) :
    (runDiag c i arg3 harg3 arg4 harg4 arg5 harg5 arg6 harg6 arg7 harg7 arg8 harg8 arg9 harg9 h1 h2 x0 x1 x2 s0 s1 s2).2.2.2.1 = lanes fun h => quot
      (shapeCast S512x128 (arg9.view.readCov (runDiag c i arg3 harg3 arg4 harg4 arg5 harg5 arg6 harg6 arg7 harg7 arg8 harg8 arg9 harg9 h1 h2 x0 x1 x2 s0 s1 s2).2.2.1 (headRect h).toLoadRect) shapeCasts_S1x512x128_S512x128)
      (shapeCast S512x128 (arg8.view.readCov (runDiag c i arg3 harg3 arg4 harg4 arg5 harg5 arg6 harg6 arg7 harg7 arg8 harg8 arg9 harg9 h1 h2 x0 x1 x2 s0 s1 s2).2.1 (headRect h).toLoadRect) shapeCasts_S1x512x128_S512x128) := by
  unfold runDiag; rfl

end Cert.Proof.Flash

end
-- ==== Proof.Flash.Body.lean ====
module

public import proofs.«01_k».proof.Proof.Flash.Pieces

@[expose] public section

/-! The body's triple: what a grid point leaves in the running buffers and in the result's, as functions
of what it found. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

open Idealize.ShloMosaic.StackMember (memberAt)

/-- Scores of a head's queries against its keys, masked or not. -/
abbrev Scores (F : FTy → Type) [FloatOps F] [Named F] := Vec F S512x256 .bf16 → Vec F S512x256 .bf16 → FVec F S512x512 .f32

/-- The running maxima of all heads after a block. -/
def stepM (sc : Scores F) (x0 x1 : Vec F S512x2048 .bf16) (s0 : Vec F S8x512x128 .f32) : Vec F S8x512x128 .f32 :=
  stackAlong0 fun h : Fin 8 => newM (sc (wide x0 h) (wide x1 h)) (memberAt s0 h)
/-- The running sums of all heads after a block. -/
def stepL (sc : Scores F) (x0 x1 : Vec F S512x2048 .bf16) (s0 s1 : Vec F S8x512x128 .f32) : Vec F S8x512x128 .f32 :=
  stackAlong0 fun h : Fin 8 => newL (sc (wide x0 h) (wide x1 h)) (memberAt s0 h) (memberAt s1 h)
/-- The accumulators of all heads after a block. -/
def stepA (sc : Scores F) (x0 x1 : Vec F S512x2048 .bf16) (x2 : Vec F S512x1024 .bf16) (s0 s2 : Vec F S8x512x128 .f32) : Vec F S8x512x128 .f32 :=
  stackAlong0 fun h : Fin 8 => newA (sc (wide x0 h) (wide x1 h)) (memberAt s0 h) (memberAt s2 h) (lane x2 h)
/-- The result block: every head's accumulator over its sum. -/
def quotAll (a l : Vec F S8x512x128 .f32) : Vec F S512x1024 .bf16 :=
  sideBySide fun h : Fin 8 => quot (memberAt a h) (memberAt l h)

/-- The running maxima the rest of the body leaves. -/
def tailM (i : grid0.Coords) (x0 x1 : Vec F S512x2048 .bf16) (s0 : Vec F S8x512x128 .f32) : Vec F S8x512x128 .f32 :=
  if below i then stepM score x0 x1 s0 else if onDiag i then stepM masked x0 x1 s0 else s0
/-- The running sums the rest of the body leaves. -/
def tailL (i : grid0.Coords) (x0 x1 : Vec F S512x2048 .bf16) (s0 s1 : Vec F S8x512x128 .f32) : Vec F S8x512x128 .f32 :=
  if below i then stepL score x0 x1 s0 s1 else if onDiag i then stepL masked x0 x1 s0 s1 else s1
/-- The accumulators the rest of the body leaves. -/
def tailA (i : grid0.Coords) (x0 x1 : Vec F S512x2048 .bf16) (x2 : Vec F S512x1024 .bf16) (s0 s2 : Vec F S8x512x128 .f32) : Vec F S8x512x128 .f32 :=
  if below i then stepA score x0 x1 x2 s0 s2 else if onDiag i then stepA masked x0 x1 x2 s0 s2 else s2
/-- The result block the rest of the body leaves. -/
def tailO (i : grid0.Coords) (x0 x1 : Vec F S512x2048 .bf16) (x2 y : Vec F S512x1024 .bf16) (s0 s1 s2 : Vec F S8x512x128 .f32) : Vec F S512x1024 .bf16 :=
  if onDiag i then quotAll (stepA masked x0 x1 x2 s0 s2) (stepL masked x0 x1 s0 s1) else y

/-- A load through a whole buffer reads its contents at the load's places. -/
theorem load_whole {S : Shape} {e : EltTy} {sp : Space} {a : Memref sig .tc sp S e} (ha : a.IsWhole) (X : S.Idx → Elt F e) (r : Rect S) :
    a.view.readAt (Elt F) r.toLoadRect (ha.unread X) = View.ld X r := by
  rw [View.readAt_eq_ld, ha.read_unread]

/-- A load of a head of a whole buffer reads that head. -/
theorem load_whole_head {sp : Space} {a : Memref sig .tc sp S8x512x128 .f32} (ha : a.IsWhole) (s : Vec F S8x512x128 .f32) (h : Fin 8) :
    shapeCast S512x128 (a.view.readAt (Elt F) (headRect h).toLoadRect (ha.unread s)) shapeCasts_S1x512x128_S512x128 = memberAt s h := by
  rw [load_whole]; exact load_head s h

/-- A load of a head after the eight heads' pieces reads that head. -/
theorem load_heads {sp : Space} (v : View sig .tc sp S8x512x128 .f32) (G : Fin 8 → FVec F S512x128 .f32) (h : Fin 8) :
    shapeCast S512x128 (v.readCov (heads G) (headRect h).toLoadRect) shapeCasts_S1x512x128_S512x128 = G h := by
  have e : v.readCov (heads G) (headRect h).toLoadRect = View.ld (Val := Elt F) (e' := .f32) (stackAlong0 G) (headRect h) := by
    unfold View.readCov; rw [View.readAt_eq_ld, read_heads]
  rw [e]; exact load_head (stackAlong0 G) h

/-- A head's new maximum, read through the buffers, is the step's. -/
theorem headM (sc : Scores F) {arg3 : Memref sig .tc .vmem S512x2048 .bf16} (harg3 : arg3.IsWhole) {arg4 : Memref sig .tc .vmem S512x2048 .bf16} (harg4 : arg4.IsWhole) {arg7 : Memref sig .tc .vmem S8x512x128 .f32} (harg7 : arg7.IsWhole) (x0 x1 : Vec F S512x2048 .bf16) (s0 : Vec F S8x512x128 .f32) (h : Fin 8) :
    newM (sc (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) = newM (sc (wide x0 h) (wide x1 h)) (memberAt s0 h) :=
  congrArg₂ newM (congrArg₂ sc (load_whole harg3 x0 (wideRect h)) (load_whole harg4 x1 (wideRect h))) (load_whole_head harg7 s0 h)
/-- A head's new sum, read through the buffers, is the step's. -/
theorem headL (sc : Scores F) {arg3 : Memref sig .tc .vmem S512x2048 .bf16} (harg3 : arg3.IsWhole) {arg4 : Memref sig .tc .vmem S512x2048 .bf16} (harg4 : arg4.IsWhole) {arg7 : Memref sig .tc .vmem S8x512x128 .f32} (harg7 : arg7.IsWhole) {arg8 : Memref sig .tc .vmem S8x512x128 .f32} (harg8 : arg8.IsWhole) (x0 x1 : Vec F S512x2048 .bf16) (s0 s1 : Vec F S8x512x128 .f32) (h : Fin 8) :
    newL (sc (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg8.view.readAt (Elt F) (headRect h).toLoadRect (harg8.unread s1)) shapeCasts_S1x512x128_S512x128) = newL (sc (wide x0 h) (wide x1 h)) (memberAt s0 h) (memberAt s1 h) :=
  congr (congrArg₂ newL (congrArg₂ sc (load_whole harg3 x0 (wideRect h)) (load_whole harg4 x1 (wideRect h))) (load_whole_head harg7 s0 h)) (load_whole_head harg8 s1 h)
/-- A head's new accumulator, read through the buffers, is the step's. -/
theorem headA (sc : Scores F) {arg3 : Memref sig .tc .vmem S512x2048 .bf16} (harg3 : arg3.IsWhole) {arg4 : Memref sig .tc .vmem S512x2048 .bf16} (harg4 : arg4.IsWhole) {arg5 : Memref sig .tc .vmem S512x1024 .bf16} (harg5 : arg5.IsWhole) {arg7 : Memref sig .tc .vmem S8x512x128 .f32} (harg7 : arg7.IsWhole) {arg9 : Memref sig .tc .vmem S8x512x128 .f32} (harg9 : arg9.IsWhole) (x0 x1 : Vec F S512x2048 .bf16) (x2 : Vec F S512x1024 .bf16) (s0 s2 : Vec F S8x512x128 .f32) (h : Fin 8) :
    newA (sc (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg9.view.readAt (Elt F) (headRect h).toLoadRect (harg9.unread s2)) shapeCasts_S1x512x128_S512x128) (arg5.view.readAt (Elt F) (laneRect h).toLoadRect (harg5.unread x2)) = newA (sc (wide x0 h) (wide x1 h)) (memberAt s0 h) (memberAt s2 h) (lane x2 h) :=
  congr (congr (congrArg₂ newA (congrArg₂ sc (load_whole harg3 x0 (wideRect h)) (load_whole harg4 x1 (wideRect h))) (load_whole_head harg7 s0 h)) (load_whole_head harg9 s2 h)) (load_whole harg5 x2 (laneRect h))

/-- The pieces for the result, from what the running buffers held: each head's new accumulator over its new sum. -/
theorem runDiag_quot (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (h1 : ¬below i) (h2 : onDiag i)
    (x0 : Vec F S512x2048 .bf16) (x1 : Vec F S512x2048 .bf16) (x2 : Vec F S512x1024 .bf16) (s0 s1 s2 : Vec F S8x512x128 .f32) :
    (runDiag c i arg3 harg3 arg4 harg4 arg5 harg5 arg6 harg6 arg7 harg7 arg8 harg8 arg9 harg9 h1 h2 x0 x1 x2 s0 s1 s2).2.2.2.1 = lanes fun h => quot
      (newA (masked (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg9.view.readAt (Elt F) (headRect h).toLoadRect (harg9.unread s2)) shapeCasts_S1x512x128_S512x128) (arg5.view.readAt (Elt F) (laneRect h).toLoadRect (harg5.unread x2)))
      (newL (masked (arg3.view.readAt (Elt F) (wideRect h).toLoadRect (harg3.unread x0)) (arg4.view.readAt (Elt F) (wideRect h).toLoadRect (harg4.unread x1))) (shapeCast S512x128 (arg7.view.readAt (Elt F) (headRect h).toLoadRect (harg7.unread s0)) shapeCasts_S1x512x128_S512x128) (shapeCast S512x128 (arg8.view.readAt (Elt F) (headRect h).toLoadRect (harg8.unread s1)) shapeCasts_S1x512x128_S512x128)) := by
  rw [runDiag_out]
  refine congrArg lanes (funext fun h => ?_)
  refine congrArg₂ quot ?_ ?_
  · rw [runDiag_A]; exact load_heads _ _ h
  · rw [runDiag_L]; exact load_heads _ _ h

set_option maxHeartbeats 1000000 in
/-- THE REST OF THE BODY, from any contents of the running buffers and of the result's. -/
theorem tail_run (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole)
    (hx : ¬(below i ∧ onDiag i))
    (x0 : Vec F S512x2048 .bf16) (x1 : Vec F S512x2048 .bf16) (x2 : Vec F S512x1024 .bf16)
    (y : Vec F S512x1024 .bf16) (s0 s1 s2 : Vec F S8x512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (tailO i x0 x1 x2 y s0 s1 s2) ∗ owns (c : Thread nD τ) arg7 fullShare (tailM i x0 x1 s0) ∗ owns (c : Thread nD τ) arg8 fullShare (tailL i x0 x1 s0 s1) ∗ owns (c : Thread nD τ) arg9 fullShare (tailA i x0 x1 x2 s0 s2)) -∗ K ⟨⟩))
      ⊢ wp frame (wpE (defs₀ (F := F)) Variants.none c none) E (tailProg i arg3 harg3 arg4 harg4 arg5 harg5 arg6 harg6 arg7 harg7 arg8 harg8 arg9 harg9) K := by
  by_cases h1 : below i
  · have h2 : ¬onDiag i := fun h => hx ⟨h1, h⟩
    simp only [tailO, tailM, tailL, tailA, if_pos h1, if_neg h2]
    iintro ⟨H0, H1, H2, H3, HS0, HS1, HS2, Hk⟩
    iapply ((runBelow c i arg3 harg3 arg4 harg4 arg5 harg5 arg6 harg6 arg7 harg7 arg8 harg8 arg9 harg9 h1 h2 x0 x1 x2 s0 s1 s2 y).2.2.2 E K)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    iapply Hk
    isplitl [H0]; · iexact H0
    isplitl [H1]; · iexact H1
    isplitl [H2]; · iexact H2
    isplitl [H3]; · iexact H3
    isplitl [HS0]
    · unfold owns; iexists _; isplitr; swap; · iexact HS0
      ipureintro; rw [runBelow_M, read_heads]; exact congrArg stackAlong0 (funext fun h => headM score harg3 harg4 harg7 x0 x1 s0 h)
    isplitl [HS1]
    · unfold owns; iexists _; isplitr; swap; · iexact HS1
      ipureintro; rw [runBelow_L, read_heads]; exact congrArg stackAlong0 (funext fun h => headL score harg3 harg4 harg7 harg8 x0 x1 s0 s1 h)
    · unfold owns; iexists _; isplitr; swap; · iexact HS2
      ipureintro; rw [runBelow_A, read_heads]; exact congrArg stackAlong0 (funext fun h => headA score harg3 harg4 harg5 harg7 harg9 x0 x1 x2 s0 s2 h)
  · by_cases h2 : onDiag i
    · simp only [tailO, tailM, tailL, tailA, if_neg h1, if_pos h2]
      iintro ⟨H0, H1, H2, H3, HS0, HS1, HS2, Hk⟩
      iapply ((runDiag c i arg3 harg3 arg4 harg4 arg5 harg5 arg6 harg6 arg7 harg7 arg8 harg8 arg9 harg9 h1 h2 x0 x1 x2 s0 s1 s2).2.2.2.2 E K)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      iapply Hk
      isplitl [H0]; · iexact H0
      isplitl [H1]; · iexact H1
      isplitl [H2]; · iexact H2
      isplitl [H3]
      · unfold owns; iexists _; isplitr; swap; · iexact H3
        ipureintro; rw [runDiag_quot, read_lanes]
        exact congrArg sideBySide (funext fun h => congrArg₂ quot (headA masked harg3 harg4 harg5 harg7 harg9 x0 x1 x2 s0 s2 h) (headL masked harg3 harg4 harg7 harg8 x0 x1 s0 s1 h))
      isplitl [HS0]
      · unfold owns; iexists _; isplitr; swap; · iexact HS0
        ipureintro; rw [runDiag_M, read_heads]; exact congrArg stackAlong0 (funext fun h => headM masked harg3 harg4 harg7 x0 x1 s0 h)
      isplitl [HS1]
      · unfold owns; iexists _; isplitr; swap; · iexact HS1
        ipureintro; rw [runDiag_L, read_heads]; exact congrArg stackAlong0 (funext fun h => headL masked harg3 harg4 harg7 harg8 x0 x1 s0 s1 h)
      · unfold owns; iexists _; isplitr; swap; · iexact HS2
        ipureintro; rw [runDiag_A, read_heads]; exact congrArg stackAlong0 (funext fun h => headA masked harg3 harg4 harg5 harg7 harg9 x0 x1 x2 s0 s2 h)
    · simp only [tailO, tailM, tailL, tailA, if_neg h1, if_neg h2]
      unfold tailProg
      iintro ⟨H0, H1, H2, H3, HS0, HS1, HS2, Hk⟩
      sl_exec (disch := first | sl_exact h1 | sl_exact h2)
      sl_step
      iapply Hk
      isplitl [H0]; · iexact H0
      isplitl [H1]; · iexact H1
      isplitl [H2]; · iexact H2
      isplitl [H3]; · iexact H3
      isplitl [HS0]; · iexact HS0
      isplitl [HS1]; · iexact HS1
      iexact HS2

/-- The running maxima the rest of the body starts from. -/
def startM (i : grid0.Coords) (s : Vec F S8x512x128 .f32) : Vec F S8x512x128 .f32 := if atFirst i then k0_pay1 else s
/-- The running sums the rest of the body starts from. -/
def startL (i : grid0.Coords) (s : Vec F S8x512x128 .f32) : Vec F S8x512x128 .f32 := if atFirst i then k0_pay2 else s
/-- The accumulators the rest of the body starts from. -/
def startA (i : grid0.Coords) (s : Vec F S8x512x128 .f32) : Vec F S8x512x128 .f32 := if atFirst i then k0_pay3 else s

/-- A store of the whole buffer leaves what was stored. -/
theorem read_whole {sp : Space} (v : View sig .tc sp S8x512x128 .f32) (f : v.ty.Contents (Elt F)) (w : FVec F S8x512x128 .f32) :
    v.read (Elt F) (v.writes (Elt F) f [⟨Rect.unit (s := S8x512x128) ![0, 0, 0] S8x512x128.size inb_S8x512x128_S8x512x128_0_0_0, w⟩]) = w := by
  have e : ∀ x, (Rect.unit (s := S8x512x128) ![0, 0, 0] S8x512x128.size inb_S8x512x128_S8x512x128_0_0_0).emb x = x := fun x =>
    funext fun a => Fin.ext (by
      show (![0, 0, 0] : Fin 3 → ℕ) a + 1 * (x a).val = (x a).val
      fin_cases a <;> simp)
  funext y
  refine read_agree v f w _ (fun p hp x => ?_) y ⟨_, List.mem_singleton.mpr rfl, ?_⟩
  · obtain rfl := List.mem_singleton.mp hp
    rw [e]
  · refine (Rect.mem_set_unit (inb := inb_S8x512x128_S8x512x128_0_0_0)).mpr fun a => ?_
    have hy := (y a).isLt
    fin_cases a <;> exact ⟨Nat.zero_le _, by simpa using hy⟩

set_option maxHeartbeats 1000000 in
/-- THE BODY, from any contents of the running buffers and of the result's. -/
theorem body_run (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole)
    (hx : ¬(below i ∧ onDiag i))
    (x0 : Vec F S512x2048 .bf16) (x1 : Vec F S512x2048 .bf16) (x2 : Vec F S512x1024 .bf16)
    (y : Vec F S512x1024 .bf16) (s0 s1 s2 : Vec F S8x512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare s0 ∗ owns (c : Thread nD τ) arg8 fullShare s1 ∗ owns (c : Thread nD τ) arg9 fullShare s2
        ∗ (iprop(owns (c : Thread nD τ) arg3 fullShare x0 ∗ owns (c : Thread nD τ) arg4 fullShare x1 ∗ owns (c : Thread nD τ) arg5 fullShare x2
            ∗ owns (c : Thread nD τ) arg6 fullShare (tailO i x0 x1 x2 y (startM i s0) (startL i s1) (startA i s2)) ∗ owns (c : Thread nD τ) arg7 fullShare (tailM i x0 x1 (startM i s0)) ∗ owns (c : Thread nD τ) arg8 fullShare (tailL i x0 x1 (startM i s0) (startL i s1)) ∗ owns (c : Thread nD τ) arg9 fullShare (tailA i x0 x1 x2 (startM i s0) (startA i s2))) -∗ K ⟨⟩))
      ⊢ wp frame (wpE (defs₀ (F := F)) Variants.none c none) E (cc0__mla_flash_kernel i arg3 harg3 arg4 harg4 arg5 harg5 arg6 harg6 arg7 harg7 arg8 harg8 arg9 harg9) K := by
  by_cases h0 : atFirst i
  · rw [body_first i arg3 harg3 arg4 harg4 arg5 harg5 arg6 harg6 arg7 harg7 arg8 harg8 arg9 harg9 h0]
    simp only [startM, startL, startA, if_pos h0]
    have T := tail_run c i arg3 harg3 arg4 harg4 arg5 harg5 arg6 harg6 arg7 harg7 arg8 harg8 arg9 harg9 hx x0 x1 x2 y k0_pay1 k0_pay2 k0_pay3 E K
    generalize tailProg (F := F) i arg3 harg3 arg4 harg4 arg5 harg5 arg6 harg6 arg7 harg7 arg8 harg8 arg9 harg9 = P at T ⊢
    unfold owns at T ⊢
    iintro ⟨H0, H1, H2, H3, ⟨%f0, -, HS0⟩, ⟨%f1, -, HS1⟩, ⟨%f2, -, HS2⟩, Hk⟩
    sl_exec
    iapply T
    isplitl [H0]; · iexact H0
    isplitl [H1]; · iexact H1
    isplitl [H2]; · iexact H2
    isplitl [H3]; · iexact H3
    isplitl [HS0]
    · iexists _; isplitr; swap; · iexact HS0
      ipureintro; exact read_whole _ _ _
    isplitl [HS1]
    · iexists _; isplitr; swap; · iexact HS1
      ipureintro; exact read_whole _ _ _
    isplitl [HS2]
    · iexists _; isplitr; swap; · iexact HS2
      ipureintro; exact read_whole _ _ _
    iexact Hk
  · rw [body_later i arg3 harg3 arg4 harg4 arg5 harg5 arg6 harg6 arg7 harg7 arg8 harg8 arg9 harg9 h0]
    simp only [startM, startL, startA, if_neg h0]
    exact tail_run c i arg3 harg3 arg4 harg4 arg5 harg5 arg6 harg6 arg7 harg7 arg8 harg8 arg9 harg9 hx x0 x1 x2 y s0 s1 s2 E K

end Cert.Proof.Flash

end
-- ==== Proof.Flash.Launch.lean ====
module

public import proofs.«01_k».proof.Proof.Flash.Body
public import Idealize.ShloMosaic.Lib.Pipeline.ArrRel

@[expose] public section

/-! The launch of the attention kernel: what its three scratch buffers hold before every point, what its output block
    holds once its last key block is done, and the run of the whole grid. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the three scratch buffers: running maxima, running sums, accumulators. -/
abbrev Scratch (F : FTy → Type) : Type := Vec F S8x512x128 .f32 × Vec F S8x512x128 .f32 × Vec F S8x512x128 .f32

/-- What the body at point `t` makes of the scratch contents. -/
def point (c : Dev nD) (t : Fin cfg0.N) (s : Scratch F) : Scratch F :=
  (tailM (grid0.coords t) (iblk m c 0 t) (iblk m c 1 t) (startM (grid0.coords t) s.1),
   tailL (grid0.coords t) (iblk m c 0 t) (iblk m c 1 t) (startM (grid0.coords t) s.1) (startL (grid0.coords t) s.2.1),
   tailA (grid0.coords t) (iblk m c 0 t) (iblk m c 1 t) (iblk m c 2 t) (startM (grid0.coords t) s.1) (startA (grid0.coords t) s.2.2))

/-- The scratch contents before point `n` (before the first, where they do not matter, the reset values). -/
def carried (c : Dev nD) : ℕ → Scratch F
  | 0 => (k0_pay1, k0_pay2, k0_pay3)
  | n + 1 => if h : n < cfg0.N then point m c ⟨n, h⟩ (carried c n) else carried c n

/-- The result block at a point on the diagonal. -/
def outAt (c : Dev nD) (t : Fin cfg0.N) : Vec F S512x1024 .bf16 :=
  quotAll (stepA masked (iblk m c 0 t) (iblk m c 1 t) (iblk m c 2 t) (startM (grid0.coords t) (carried m c t.val).1) (startA (grid0.coords t) (carried m c t.val).2.2))
    (stepL masked (iblk m c 0 t) (iblk m c 1 t) (startM (grid0.coords t) (carried m c t.val).1) (startL (grid0.coords t) (carried m c t.val).2.1))

theorem carried_succ (c : Dev nD) (t : Fin cfg0.N) : carried m c (t.val + 1) = point m c t (carried m c t.val) := by
  rw [carried, dif_pos t.isLt]

/-- At a point that resets the scratch, what it held does not matter. -/
theorem point_first (c : Dev nD) (t : Fin cfg0.N) (h : atFirst (grid0.coords t)) (s s' : Scratch F) : point m c t s = point m c t s' := by
  simp only [point, startM, startL, startA, if_pos h]

/-- The first point resets the scratch. -/
theorem atFirst_zero (t : Fin cfg0.N) (h : t.val = 0) : atFirst (grid0.coords t) := (atFirst_iff t).mpr (by omega)

/-- No point is both below the diagonal and on it. -/
theorem not_both (t : Fin cfg0.N) : ¬(below (grid0.coords t) ∧ onDiag (grid0.coords t)) := fun h => by
  have h1 := (below_iff t).mp h.1
  have h2 := (onDiag_iff t).mp h.2
  omega

/-- The scratch buffers at named contents, and the generator's register. -/
def held (c : Dev nD) (s : Scratch F) : sProp 𝕄 :=
  iprop(iprop(owns (c : Thread nD τ) mBuf fullShare s.1 ∗ owns (c : Thread nD τ) lBuf fullShare s.2.1 ∗ owns (c : Thread nD τ) aBuf fullShare s.2.2) ∗ (∃ r, prngReg c r))

/-- What the launch hands over, with the scratch operands as memrefs owned at some contents. -/
theorem given_eq (c : Dev nD) :
    (Pipeline.ΦA spec0 c : sProp 𝕄)
      = iprop(iprop((∃ d, owns (c : Thread nD τ) mBuf fullShare d) ∗ (∃ d, owns (c : Thread nD τ) lBuf fullShare d) ∗ (∃ d, owns (c : Thread nD τ) aBuf fullShare d)) ∗ (∃ r, prngReg c r)) := by
  unfold Pipeline.ΦA; rw [scopedRest0_eq]; simp only [mBuf, lBuf, aBuf, owns_whole]; try rfl

/-- The invariant: before the first point the scratch holds anything, later `carried`. -/
def inv (c : Dev nD) (n : Fin (cfg0.N + 1)) : sProp 𝕄 := if n.val = 0 then Pipeline.ΦA spec0 c else held c (carried m c n.val)

/-- The proof data: inputs stay; the output block is `outAt` at a diagonal point, and stays elsewhere. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => (onDiag (grid0.coords t) → X = outAt m c t) ∧ (¬ onDiag (grid0.coords t) → X = Y)
  Φ := inv m c
  q _ := fullShare
  owed _ := 0

theorem rdat_A (c : Dev nD) (w : Fin cfg0.W) : (rdat m c).A w = V m c (Pipeline.arrRef spec0 w) := by dsimp only [rdat]

/-- The queries' buffer holds their block. -/
theorem finds_q (c : Dev nD) (t : Fin cfg0.N) (Y) (h : (rdat m c).Finds 0 t Y) : Y = iblk m c 0 t := by
  obtain ⟨d, h⟩ := (rdat m c).finds_in_eq_fetched 0 rfl (fun _ _ _ => rfl) (fun _ _ _ h => h) t Y h
  rw [h]; unfold RDat.fetched RDat.blockOf iblk; rw [rdat_A]; try rfl
/-- The keys' buffer holds their block. -/
theorem finds_k (c : Dev nD) (t : Fin cfg0.N) (Y) (h : (rdat m c).Finds 1 t Y) : Y = iblk m c 1 t := by
  obtain ⟨d, h⟩ := (rdat m c).finds_in_eq_fetched 1 rfl (fun _ _ _ => rfl) (fun _ _ _ h => h) t Y h
  rw [h]; unfold RDat.fetched RDat.blockOf iblk; rw [rdat_A]; try rfl
/-- The values' buffer holds their block. -/
theorem finds_v (c : Dev nD) (t : Fin cfg0.N) (Y) (h : (rdat m c).Finds 2 t Y) : Y = iblk m c 2 t := by
  obtain ⟨d, h⟩ := (rdat m c).finds_in_eq_fetched 2 rfl (fun _ _ _ => rfl) (fun _ _ _ h => h) t Y h
  rw [h]; unfold RDat.fetched RDat.blockOf iblk; rw [rdat_A]; try rfl

/-- The body at point `t` from scratch contents `s`, the output buffer at `y`. -/
theorem point_run (c : Dev nD) (t : Fin cfg0.N) (s : Scratch F) (y : Vec F S512x1024 .bf16) (E : Set ℕ) (K : PUnit → sProp 𝕄) :
    iprop(owns (c : Thread nD τ) (qBuf t) fullShare (iblk m c 0 t) ∗ owns (c : Thread nD τ) (kBuf t) fullShare (iblk m c 1 t) ∗ owns (c : Thread nD τ) (vBuf t) fullShare (iblk m c 2 t) ∗ owns (c : Thread nD τ) (oBuf t) fullShare y
        ∗ owns (c : Thread nD τ) mBuf fullShare s.1 ∗ owns (c : Thread nD τ) lBuf fullShare s.2.1 ∗ owns (c : Thread nD τ) aBuf fullShare s.2.2
        ∗ (iprop(owns (c : Thread nD τ) (qBuf t) fullShare (iblk m c 0 t) ∗ owns (c : Thread nD τ) (kBuf t) fullShare (iblk m c 1 t) ∗ owns (c : Thread nD τ) (vBuf t) fullShare (iblk m c 2 t)
            ∗ owns (c : Thread nD τ) (oBuf t) fullShare (tailO (grid0.coords t) (iblk m c 0 t) (iblk m c 1 t) (iblk m c 2 t) y (startM (grid0.coords t) s.1) (startL (grid0.coords t) s.2.1) (startA (grid0.coords t) s.2.2))
            ∗ owns (c : Thread nD τ) mBuf fullShare (point m c t s).1 ∗ owns (c : Thread nD τ) lBuf fullShare (point m c t s).2.1 ∗ owns (c : Thread nD τ) aBuf fullShare (point m c t s).2.2) -∗ K ⟨⟩))
      ⊢ wp frame (wpE (defs₀ (F := F)) Variants.none c none) E (bodyAt0 t) K :=
  body_run c (grid0.coords t) (qBuf t) (qBuf_whole t) (kBuf t) (kBuf_whole t) (vBuf t) (vBuf_whole t) (oBuf t) (oBuf_whole t)
    mBuf (Memref.isWhole_whole _) lBuf (Memref.isWhole_whole _) aBuf (Memref.isWhole_whole _) (not_both t)
    (iblk m c 0 t) (iblk m c 1 t) (iblk m c 2 t) y s.1 s.2.1 s.2.2 E K

/-- What the body leaves in the output buffer is what the proof data say, from scratch contents that lead to the next `carried`. -/
theorem left_out (c : Dev nD) (t : Fin cfg0.N) (s : Scratch F) (hs : t.val = 0 ∨ s = carried m c t.val) (y : Vec F S512x1024 .bf16) :
    (rdat m c).after 3 t y (tailO (grid0.coords t) (iblk m c 0 t) (iblk m c 1 t) (iblk m c 2 t) y (startM (grid0.coords t) s.1) (startL (grid0.coords t) s.2.1) (startA (grid0.coords t) s.2.2)) := by
  refine ⟨fun h => ?_, fun h => ?_⟩
  · rw [tailO, if_pos h, outAt]
    rcases hs with hz | rfl
    · simp only [startM, startL, startA, if_pos (atFirst_zero t hz)]
    · rfl
  · rw [tailO, if_neg h]

/-- The body's step from scratch contents `s` that lead to the next `carried`. -/
theorem point_step (c : Dev nD) (t : Fin cfg0.N) (s : Scratch F) (hs : t.val = 0 ∨ s = carried m c t.val) (y : Vec F S512x1024 .bf16) (O : sProp 𝕄) :
    iprop(held c s ∗ O ∗ owns (c : Thread nD τ) (qBuf t) fullShare (iblk m c 0 t) ∗ owns (c : Thread nD τ) (kBuf t) fullShare (iblk m c 1 t) ∗ owns (c : Thread nD τ) (vBuf t) fullShare (iblk m c 2 t) ∗ owns (c : Thread nD τ) (oBuf t) fullShare y)
      ⊢ wp frame (wpE (defs₀ (F := F)) Variants.none c none) Set.univ (bodyAt0 t) fun _ =>
        iprop(held c (carried m c (t.val + 1)) ∗ O
          ∗ (∃ X, ⌜(rdat m c).after 0 t (iblk m c 0 t) X⌝ ∗ owns (c : Thread nD τ) (qBuf t) fullShare X)
          ∗ (∃ X, ⌜(rdat m c).after 1 t (iblk m c 1 t) X⌝ ∗ owns (c : Thread nD τ) (kBuf t) fullShare X)
          ∗ (∃ X, ⌜(rdat m c).after 2 t (iblk m c 2 t) X⌝ ∗ owns (c : Thread nD τ) (vBuf t) fullShare X)
          ∗ (∃ X, ⌜(rdat m c).after 3 t y X⌝ ∗ owns (c : Thread nD τ) (oBuf t) fullShare X)) := by
  have e : carried m c (t.val + 1) = point m c t s := by
    rw [carried_succ]
    rcases hs with hz | rfl
    · exact point_first m c t (atFirst_zero t hz) _ _
    · rfl
  rw [e]
  unfold held
  iintro ⟨⟨⟨HS0, HS1, HS2⟩, Hg⟩, Ho, H0, H1, H2, H3⟩
  iapply (point_run m c t s y Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  iexists _; isplitr; swap; · iexact H3
  ipureintro; exact left_out m c t s hs y

/-- The same step from the invariant before the point. -/
theorem inv_step (c : Dev nD) (t : Fin cfg0.N) (y : Vec F S512x1024 .bf16) (O : sProp 𝕄) :
    iprop(inv m c t.castSucc ∗ O ∗ owns (c : Thread nD τ) (qBuf t) fullShare (iblk m c 0 t) ∗ owns (c : Thread nD τ) (kBuf t) fullShare (iblk m c 1 t) ∗ owns (c : Thread nD τ) (vBuf t) fullShare (iblk m c 2 t) ∗ owns (c : Thread nD τ) (oBuf t) fullShare y)
      ⊢ wp frame (wpE (defs₀ (F := F)) Variants.none c none) Set.univ (bodyAt0 t) fun _ =>
        iprop(inv m c t.succ ∗ O
          ∗ (∃ X, ⌜(rdat m c).after 0 t (iblk m c 0 t) X⌝ ∗ owns (c : Thread nD τ) (qBuf t) fullShare X)
          ∗ (∃ X, ⌜(rdat m c).after 1 t (iblk m c 1 t) X⌝ ∗ owns (c : Thread nD τ) (kBuf t) fullShare X)
          ∗ (∃ X, ⌜(rdat m c).after 2 t (iblk m c 2 t) X⌝ ∗ owns (c : Thread nD τ) (vBuf t) fullShare X)
          ∗ (∃ X, ⌜(rdat m c).after 3 t y X⌝ ∗ owns (c : Thread nD τ) (oBuf t) fullShare X)) := by
  have e1 : inv m c t.succ = held c (carried m c (t.val + 1)) := by unfold inv; rw [if_neg (by simp), Fin.val_succ]
  rw [e1]
  by_cases hz : t.val = 0
  · have e0 : inv m c t.castSucc = Pipeline.ΦA spec0 c := by unfold inv; rw [if_pos (by simpa using hz)]
    rw [e0, given_eq]
    iintro ⟨⟨⟨⟨%d0, HS0⟩, ⟨%d1, HS1⟩, ⟨%d2, HS2⟩⟩, Hg⟩, Ho, H⟩
    iapply (point_step m c t (d0, d1, d2) (.inl hz) y O)
    unfold held
    isplitl [HS0 HS1 HS2 Hg]
    · isplitl [HS0 HS1 HS2]
      · isplitl [HS0]
        · iexact HS0
        isplitl [HS1]
        · iexact HS1
        iexact HS2
      iexact Hg
    isplitl [Ho]; · iexact Ho
    iexact H
  · have e0 : inv m c t.castSucc = held c (carried m c t.val) := by unfold inv; rw [if_neg (by simpa using hz)]; rfl
    rw [e0]
    exact point_step m c t _ (.inr rfl) y O

/-- The body table's row at point `t` is the body. -/
theorem row_body (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : (rdat (F := F) m c).BodyObligation (defs₀ (F := F)) Variants.none () Set.univ := fun t Y hY => by
  have h0 := finds_q m c t _ (hY 0)
  have h1 := finds_k m c t _ (hY 1)
  have h2 := finds_v m c t _ (hY 2)
  rw [bigSep_W0, bigSep_W0, row_body]
  rw [h0, h1, h2]
  exact triple_restated (inv_step m c t (Y 3) ((rdat m c).owesAt () t.castSucc)) rfl .rfl fun _ => .rfl

/-- The launch gives the invariant before the first point. -/
theorem enter (c : Dev nD) : Pipeline.ΦA spec0 c ⊢ (rdat m c).Φ 0 := by
  rw [show (rdat m c).Φ 0 = inv m c 0 from rfl, inv, if_pos (show ((0 : Fin (cfg0.N + 1)).val = 0) from rfl)]

/-- The invariant after the last point gives the launch its scratch back. -/
theorem leave (c : Dev nD) : (rdat m c).Φ (Fin.last cfg0.N) ⊢ Pipeline.ΦA spec0 c := by
  rw [show (rdat m c).Φ (Fin.last cfg0.N) = inv m c (Fin.last cfg0.N) from rfl, inv,
    if_neg (by rw [Fin.val_last]; have : cfg0.N = 128 := N_0; omega), held, given_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The run of the whole grid: every array ends at contents the proof data allow, the counters at zero. -/
theorem grid_run : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := obligation m) (hshare := fun c => (rdat m c).share_full fun _ => rfl)
    (howed := fun _ _ => rfl) (V := V m) (hmain := hmain m Variants.none) (hA := rdat_A m) (hin := enter m) (hout := leave m)

/-- The arguments end as they were, the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((rdat_A m c 0).trans (V_main_arg0 m c)),
     (Pipeline.RDat.FramePost.arr_in h.1 c 1 rfl).trans ((rdat_A m c 1).trans (V_main_arg1 m c)),
     (Pipeline.RDat.FramePost.arr_in h.1 c 2 rfl).trans ((rdat_A m c 2).trans (V_main_arg2 m c))⟩, h.2⟩) (grid_run m ρ)

end Cert.Proof.Flash

end
-- ==== Proof.Flash.Row.lean ====
module

public import proofs.«01_k».proof.Proof.Sums
public import Idealize.ShloMosaic.Lib.Pointwise

@[expose] public section

/-! The online softmax of one query row: keys are taken block after block, a running maximum, sum and accumulator kept.
    Scores are extended reals below `⊤`; a masked key has the score `⊥`. -/

open Idealize.ShloMosaic

namespace Cert.Proof.Flash

/-- What the three running values hold after the first `n` keys. -/
def St (s v : ℕ → EReal) (n : ℕ) (m l a : EReal) : Prop :=
  m = (Finset.range n).sup s ∧ l = ∑ k ∈ Finset.range n, Ideal.exp (s k - m) ∧ a = ∑ k ∈ Finset.range n, Ideal.exp (s k - m) * v k

/-- An exponential of something below `⊤` is a nonnegative real. -/
theorem exp_real (x : EReal) (h : x ≠ ⊤) : ∃ r : ℝ, 0 ≤ r ∧ Ideal.exp x = (r : EReal) := by
  induction x using EReal.rec with
  | bot => exact ⟨0, le_refl _, by simp⟩
  | top => exact absurd rfl h
  | coe r => exact ⟨Real.exp r, (Real.exp_pos r).le, Ideal.exp_coe r⟩

/-- A difference from a real or `⊥` number below it is not `⊤`. -/
theorem sub_ne_top (x y : EReal) (hx : x ≠ ⊤) (hy : y ≠ ⊥) : x - y ≠ ⊤ := by
  induction y using EReal.rec with
  | bot => exact absurd rfl hy
  | top => simp
  | coe s =>
    induction x using EReal.rec with
    | bot => simp
    | top => exact absurd rfl hx
    | coe r => rw [← EReal.coe_sub]; exact EReal.coe_ne_top _

/-- Weights relative to an old maximum become weights relative to a new one. -/
theorem exp_shift (x m m' : EReal) (h : x ≤ m) (hm : m ≤ m') (ht : m' ≠ ⊤) (hb : m' ≠ ⊥) :
    Ideal.exp (m - m') * Ideal.exp (x - m) = Ideal.exp (x - m') := by
  induction m' using EReal.rec with
  | bot => exact absurd rfl hb
  | top => exact absurd rfl ht
  | coe r' =>
    induction m using EReal.rec with
    | bot =>
      obtain rfl : x = ⊥ := le_bot_iff.mp h
      simp
    | top => exact absurd (top_le_iff.mp hm) (EReal.coe_ne_top _)
    | coe r =>
      induction x using EReal.rec with
      | bot => simp
      | top => exact absurd (top_le_iff.mp h) (EReal.coe_ne_top _)
      | coe q =>
        rw [← EReal.coe_sub, ← EReal.coe_sub, ← EReal.coe_sub, Ideal.exp_coe, Ideal.exp_coe, Ideal.exp_coe, ← EReal.coe_mul, ← Real.exp_add]
        congr 2; ring

/-- The largest of the first `n + b` scores is the larger of the largest of the first `n` and of the next `b`. -/
theorem sup_range_add (s : ℕ → EReal) (n b : ℕ) :
    (Finset.range (n + b)).sup s = max ((Finset.range n).sup s) (Finset.univ.sup fun j : Fin b => s (n + j.val)) := by
  refine le_antisymm (Finset.sup_le fun k hk => ?_) (max_le (Finset.sup_mono (Finset.range_mono (Nat.le_add_right n b))) (Finset.sup_le fun j _ => ?_))
  · by_cases h : k < n
    · exact le_max_of_le_left (Finset.le_sup (f := s) (Finset.mem_range.mpr h))
    · have hk' := Finset.mem_range.mp hk
      have e := Finset.le_sup (f := fun j : Fin b => s (n + j.val)) (Finset.mem_univ ⟨k - n, by omega⟩)
      refine le_max_of_le_right (le_trans (le_of_eq ?_) e)
      show s k = s (n + (k - n)); congr 1; omega
  · exact Finset.le_sup (f := s) (Finset.mem_range.mpr (by omega))

/-- Before any key the running values are `⊥`, 0 and 0. -/
theorem St.zero (s v : ℕ → EReal) : St s v 0 ⊥ 0 0 := ⟨by simp, by simp, by simp⟩

theorem sup_ne_top (s : ℕ → EReal) (hs : ∀ k, s k ≠ ⊤) (n : ℕ) : (Finset.range n).sup s ≠ ⊤ := by
  rw [← lt_top_iff_ne_top, Finset.sup_lt_iff (by simp)]
  exact fun k _ => lt_top_iff_ne_top.mpr (hs k)

theorem sup_ne_bot (s : ℕ → EReal) (h0 : s 0 ≠ ⊥) (n : ℕ) (hn : 0 < n) : (Finset.range n).sup s ≠ ⊥ := fun h =>
  h0 (le_bot_iff.mp (h ▸ Finset.le_sup (f := s) (Finset.mem_range.mpr hn)))

/-- One block of `b` keys more. -/
theorem St.step {s v : ℕ → EReal} (hs : ∀ k, s k ≠ ⊤) (h0 : s 0 ≠ ⊥) {n : ℕ} (b : ℕ) (hb : 0 < b) {m l a : EReal} (h : St s v n m l a) :
    St s v (n + b) (max m (Finset.univ.sup fun j : Fin b => s (n + j.val)))
      (Ideal.exp (m - max m (Finset.univ.sup fun j : Fin b => s (n + j.val))) * l
        + ∑ j : Fin b, Ideal.exp (s (n + j.val) - max m (Finset.univ.sup fun j : Fin b => s (n + j.val))))
      (Ideal.exp (m - max m (Finset.univ.sup fun j : Fin b => s (n + j.val))) * a
        + ∑ j : Fin b, Ideal.exp (s (n + j.val) - max m (Finset.univ.sup fun j : Fin b => s (n + j.val))) * v (n + j.val)) := by
  obtain ⟨hm, hl, ha⟩ := h
  have hM : max m (Finset.univ.sup fun j : Fin b => s (n + j.val)) = (Finset.range (n + b)).sup s := by rw [sup_range_add, hm]
  rw [hM]
  have ht := sup_ne_top s hs (n + b)
  have hbot := sup_ne_bot s h0 (n + b) (by omega)
  have hle : m ≤ (Finset.range (n + b)).sup s := hm ▸ Finset.sup_mono (Finset.range_mono (Nat.le_add_right n b))
  have hmt : m ≠ ⊤ := hm ▸ sup_ne_top s hs n
  have hk : ∀ k ∈ Finset.range n, s k ≤ m := fun k hk => hm ▸ Finset.le_sup (f := s) hk
  obtain ⟨r, hr, hr'⟩ := exp_real (m - (Finset.range (n + b)).sup s) (sub_ne_top _ _ hmt hbot)
  refine ⟨rfl, ?_, ?_⟩
  · rw [hl, hr', Cert.Sums.coe_mul_sum r hr, ← hr', Finset.sum_range_add, Fin.sum_univ_eq_sum_range (fun j => Ideal.exp (s (n + j) - (Finset.range (n + b)).sup s)) b]
    congr 1
    exact Finset.sum_congr rfl fun k hk' => exp_shift _ _ _ (hk k hk') hle ht hbot
  · rw [ha, hr', Cert.Sums.coe_mul_sum r hr, ← hr', Finset.sum_range_add, Fin.sum_univ_eq_sum_range (fun j => Ideal.exp (s (n + j) - (Finset.range (n + b)).sup s) * v (n + j)) b]
    congr 1
    exact Finset.sum_congr rfl fun k hk' => by rw [← mul_assoc, exp_shift _ _ _ (hk k hk') hle ht hbot]

/-- Masked keys change nothing. -/
theorem St.skip {s v : ℕ → EReal} (hs : ∀ k, s k ≠ ⊤) {n : ℕ} {m l a : EReal} (h : St s v n m l a) (N : ℕ) (hN : n ≤ N)
    (hbot : ∀ k, n ≤ k → s k = ⊥) : St s v N m l a := by
  obtain ⟨hm, hl, ha⟩ := h
  have hmt : m ≠ ⊤ := hm ▸ sup_ne_top s hs n
  have e : ∀ k, n ≤ k → Ideal.exp (s k - m) = 0 := fun k hk => by rw [hbot k hk, EReal.bot_sub, Ideal.exp_bot]
  refine ⟨?_, ?_, ?_⟩
  · rw [hm]
    refine le_antisymm (Finset.sup_mono (Finset.range_mono hN)) (Finset.sup_le fun k _ => ?_)
    by_cases h : k < n
    · exact Finset.le_sup (f := s) (Finset.mem_range.mpr h)
    · rw [hbot k (by omega)]; exact bot_le
  · rw [hl]
    refine Finset.sum_subset (Finset.range_mono hN) fun k _ hk => e k (by simpa using hk)
  · rw [ha]
    refine Finset.sum_subset (Finset.range_mono hN) fun k _ hk => by rw [e k (by simpa using hk), zero_mul]

/-- The sum of the weights is a positive real. -/
theorem St.sum_real {s v : ℕ → EReal} (hs : ∀ k, s k ≠ ⊤) (h0 : s 0 ≠ ⊥) {n : ℕ} (hn : 0 < n) {m l a : EReal} (h : St s v n m l a) :
    ∃ r : ℝ, 0 < r ∧ l = (r : EReal) := by
  obtain ⟨hm, hl, -⟩ := h
  have hmt : m ≠ ⊤ := hm ▸ sup_ne_top s hs n
  have hmb : m ≠ ⊥ := hm ▸ sup_ne_bot s h0 n hn
  choose f hf hf' using fun k => exp_real (s k - m) (sub_ne_top _ _ (hs k) hmb)
  refine ⟨∑ k ∈ Finset.range n, f k, ?_, ?_⟩
  · refine Finset.sum_pos' (fun k _ => hf k) ⟨0, Finset.mem_range.mpr hn, ?_⟩
    have e := hf' 0
    have hs0 := hs 0
    generalize s 0 = x at e h0 hs0
    lift x to ℝ using ⟨hs0, h0⟩
    lift m to ℝ using ⟨hmt, hmb⟩
    rw [← EReal.coe_sub, Ideal.exp_coe, EReal.coe_eq_coe_iff] at e
    rw [← e]; exact Real.exp_pos _
  · rw [hl, Finset.sum_congr rfl fun k _ => hf' k]
    have : ∀ t : Finset ℕ, ∑ k ∈ t, (f k : EReal) = ((∑ k ∈ t, f k : ℝ) : EReal) := fun t => by
      classical
      refine Finset.induction_on t (by simp) fun a t ha ih => ?_
      rw [Finset.sum_insert ha, Finset.sum_insert ha, ih, EReal.coe_add]
    exact this _

/-- The quotient of the accumulator by the sum is the softmax's weighted sum of the values. -/
theorem St.softmax {s v : ℕ → EReal} (hs : ∀ k, s k ≠ ⊤) (h0 : s 0 ≠ ⊥) {n : ℕ} (hn : 0 < n) {m l a : EReal} (h : St s v n m l a)
    (N : ℕ) (hN : n ≤ N) (hbot : ∀ k, n ≤ k → s k = ⊥) :
    Ideal.div a l = ∑ k : Fin N, v k.val * Ideal.div (Ideal.exp (s k.val - Finset.univ.sup fun j : Fin N => s j.val))
      (∑ i : Fin N, Ideal.exp (s i.val - Finset.univ.sup fun j : Fin N => s j.val)) := by
  have h' := h.skip hs N hN hbot
  obtain ⟨r, hr, hr'⟩ := h.sum_real hs h0 hn
  obtain ⟨hm, hl, ha⟩ := h'
  have eM : (Finset.univ.sup fun j : Fin N => s j.val) = m := by
    rw [hm]
    have := sup_range_add s 0 N
    simp only [Nat.zero_add, Finset.range_zero, Finset.sup_empty, bot_sup_eq, bot_le, sup_of_le_right] at this
    exact this.symm
  rw [eM, Fin.sum_univ_eq_sum_range (fun i => Ideal.exp (s i - m)) N, ← hl, Fin.sum_univ_eq_sum_range (fun k => v k * Ideal.div (Ideal.exp (s k - m)) l) N]
  have hl0 : l ≠ 0 := by rw [hr']; exact EReal.coe_ne_zero.mpr hr.ne'
  have e : ∀ x, Ideal.div x l = ((r⁻¹ : ℝ) : EReal) * x := fun x => by
    rw [Ideal.div, if_neg hl0, hr', ← EReal.coe_inv, mul_comm]
  rw [e, ha, Cert.Sums.coe_mul_sum _ (inv_nonneg.mpr hr.le)]
  refine Finset.sum_congr rfl fun k _ => ?_
  rw [e, mul_comm (v k), mul_assoc]

end Cert.Proof.Flash

end
-- ==== Proof.Flash.Point.lean ====
module

public import proofs.«01_k».proof.Proof.Flash.Step
public import proofs.«01_k».proof.Proof.Flash.Row
public import Idealize.ShloMosaic.Lib.Pointwise
public import Idealize.ShloMosaic.Lib.WordCmp

@[expose] public section

/-! One head's step read at a query row and a lane, over the extended reals. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

/-- The mask's value at the ideal instance is `⊥`. -/
theorem mask_bot : (Named.named κ "mask" 0xF149F2CA#32 : Ideal .f32) = ⊥ := IdealRules.named_const.ideal_named_scalar _ _ _ _ rfl

/-- The maximum's initial word is `⊥`. -/
theorem negInf : Ideal.ofBits .f32 0xFF800000#32 = ⊥ := by simp [Ideal.ofBits, Ideal.ieee]

/-- A score is the inner product of the query's and the key's features. -/
theorem score_at (q k : Vec Ideal S512x256 .bf16) (r j : Fin 512) :
    score q k (ix2 r j) = ∑ e : Fin 256, (q (ix2 r e) : EReal) * k (ix2 j e) := by
  pointwise [score]

/-- On the diagonal block a key after the query has the score `⊥`. -/
theorem masked_at (q k : Vec Ideal S512x256 .bf16) (r j : Fin 512) :
    masked q k (ix2 r j) = if j.val ≤ r.val then score q k (ix2 r j) else ⊥ := by
  pointwise [masked, k0_pay82, mask_bot]
  unfold Scalar.select
  exact if_congr (WordCmp.cmpi_sle_ofNat_eq_one_iff (w := 32) (a := j.val) (b := r.val) (by omega) (by omega)) rfl rfl

/-- The new maximum. -/
theorem newM_at (s : FVec Ideal S512x512 .f32) (m : FVec Ideal S512x128 .f32) (r : Fin 512) (d : Fin 128) :
    newM s m (ix2 r d) = max (m (ix2 r d)) (Finset.univ.sup fun j : Fin 512 => s (ix2 r j)) := by
  pointwise [newM]
  rw [negInf]; rfl

/-- A weight. -/
theorem wts_at (s : FVec Ideal S512x512 .f32) (m : FVec Ideal S512x128 .f32) (r j : Fin 512) :
    wts s m (ix2 r j) = Ideal.exp (s (ix2 r j) - newM s m (ix2 r ⟨j.val % 128, Nat.mod_lt _ (by decide)⟩)) := by
  pointwise [wts]
  refine congrArg (fun z => Ideal.exp (s (ix2 r j) - z)) ?_
  have hj := j.isLt
  split
  · exact congrArg (fun z => newM s m (ix2 r z)) (Fin.ext (by show j.val = j.val % 128; omega))
  split
  · exact congrArg (fun z => newM s m (ix2 r z)) (Fin.ext (by show j.val - 128 = j.val % 128; omega))
  split
  · exact congrArg (fun z => newM s m (ix2 r z)) (Fin.ext (by show j.val - 128 - 128 = j.val % 128; omega))
  · exact congrArg (fun z => newM s m (ix2 r z)) (Fin.ext (by show j.val - 128 - 128 - 128 = j.val % 128; omega))

/-- The new sum. -/
theorem newL_at (s : FVec Ideal S512x512 .f32) (m l : FVec Ideal S512x128 .f32) (r : Fin 512) (d : Fin 128) :
    newL s m l (ix2 r d) = Ideal.exp (m (ix2 r d) - newM s m (ix2 r d)) * l (ix2 r d) + ∑ j : Fin 512, wts s m (ix2 r j) := by
  pointwise [newL, fade]

/-- The new accumulator. -/
theorem newA_at (s : FVec Ideal S512x512 .f32) (m a : FVec Ideal S512x128 .f32) (v : Vec Ideal S512x128 .bf16) (r : Fin 512) (d : Fin 128) :
    newA s m a v (ix2 r d) = Ideal.exp (m (ix2 r d) - newM s m (ix2 r d)) * a (ix2 r d) + ∑ j : Fin 512, wts s m (ix2 r j) * (v (ix2 j d) : EReal) := by
  pointwise [newA, fade]

/-- The quotient. -/
theorem quot_at (a l : FVec Ideal S512x128 .f32) (r : Fin 512) (d : Fin 128) :
    quot a l (ix2 r d) = Ideal.div (a (ix2 r d)) (l (ix2 r d)) := by
  pointwise [quot]

/-- The reset values. -/
theorem reset_M (x : S8x512x128.Idx) : (k0_pay1 (F := Ideal)) x = ⊥ := by
  pointwise [k0_pay1, mask_bot]
theorem reset_L (x : S8x512x128.Idx) : (k0_pay2 (F := Ideal)) x = 0 := by
  pointwise [k0_pay2]
theorem reset_A (x : S8x512x128.Idx) : (k0_pay3 (F := Ideal)) x = 0 := by
  pointwise [k0_pay3]

end Cert.Proof.Flash

end
-- ==== Proof.Flash.Inv.lean ====
module

public import proofs.«01_k».proof.Proof.Flash.Launch
public import proofs.«01_k».proof.Proof.Flash.Point

@[expose] public section

/-! What the scratch buffers mean: after each key block they hold, per head and query row, the running maximum, sum and
accumulator of the causal scores over the keys taken so far. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Idealize.ShloMosaic.StackMember (memberAt)

/-- An entry of the queries or keys, the row and column as numbers. -/
def wideAt (X : FVec Ideal S8192x2048 .bf16) (row col : ℕ) : EReal :=
  X (ix2 ⟨row % 8192, Nat.mod_lt _ (by decide)⟩ ⟨col % 2048, Nat.mod_lt _ (by decide)⟩)
/-- An entry of the values. -/
def laneAt (X : FVec Ideal S8192x1024 .bf16) (row col : ℕ) : EReal :=
  X (ix2 ⟨row % 8192, Nat.mod_lt _ (by decide)⟩ ⟨col % 1024, Nat.mod_lt _ (by decide)⟩)

/-- The causal score of query `R` against key `k` in head `h` of batch element `b`: `⊥` for a key after the query. -/
def causal (Q K : FVec Ideal S8192x2048 .bf16) (b h R k : ℕ) : EReal :=
  if k ≤ R then ∑ e : Fin 256, wideAt Q (b * 4096 + R) (256 * h + e.val) * wideAt K (b * 4096 + k) (256 * h + e.val) else ⊥
/-- The value of key `k`. -/
def value (V : FVec Ideal S8192x1024 .bf16) (b h d k : ℕ) : EReal := laneAt V (b * 4096 + k) (128 * h + d)

/-- Every entry is a real number. -/
def Real' (X : FVec Ideal S8192x2048 .bf16) : Prop := ∀ x, X x ≠ ⊤ ∧ X x ≠ ⊥

/-- A sum of products of reals is real. -/
theorem inner_real {ι : Type*} (s : Finset ι) (f g : ι → EReal) (hf : ∀ i, f i ≠ ⊤ ∧ f i ≠ ⊥) (hg : ∀ i, g i ≠ ⊤ ∧ g i ≠ ⊥) :
    (∑ i ∈ s, f i * g i) ≠ ⊤ ∧ (∑ i ∈ s, f i * g i) ≠ ⊥ := by
  have key : ∃ r : ℝ, ∑ i ∈ s, f i * g i = (r : EReal) := by
    classical
    refine Finset.induction_on s ⟨0, by simp⟩ fun a s ha ih => ?_
    obtain ⟨r, hr⟩ := ih
    refine ⟨(f a).toReal * (g a).toReal + r, ?_⟩
    rw [Finset.sum_insert ha, hr, EReal.coe_add, EReal.coe_mul, EReal.coe_toReal (hf a).1 (hf a).2, EReal.coe_toReal (hg a).1 (hg a).2]
  obtain ⟨r, hr⟩ := key
  rw [hr]; exact ⟨EReal.coe_ne_top _, EReal.coe_ne_bot _⟩

theorem causal_ne_top (Q K : FVec Ideal S8192x2048 .bf16) (hQ : Real' Q) (hK : Real' K) (b h R k : ℕ) : causal Q K b h R k ≠ ⊤ := by
  unfold causal; split
  · exact (inner_real _ _ _ (fun _ => hQ _) (fun _ => hK _)).1
  · exact bot_ne_top
theorem causal_zero (Q K : FVec Ideal S8192x2048 .bf16) (hQ : Real' Q) (hK : Real' K) (b h R : ℕ) : causal Q K b h R 0 ≠ ⊥ := by
  unfold causal; rw [if_pos (Nat.zero_le _)]
  exact (inner_real _ _ _ (fun _ => hQ _) (fun _ => hK _)).2

/-- The scratch holds the running values of every head and row after `n` keys, of scores `S` and values `W`. -/
def Good (S : Fin 8 → Fin 512 → ℕ → EReal) (W : Fin 8 → Fin 128 → ℕ → EReal) (n : ℕ) (s : Scratch Ideal) : Prop :=
  ∀ h r d, St (S h r) (W h d) n (memberAt s.1 h (ix2 r d)) (memberAt s.2.1 h (ix2 r d)) (memberAt s.2.2 h (ix2 r d))

/-- The reset scratch holds the running values after no key. -/
theorem good_reset (S : Fin 8 → Fin 512 → ℕ → EReal) (W : Fin 8 → Fin 128 → ℕ → EReal) : Good S W 0 (k0_pay1 (F := Ideal), k0_pay2 (F := Ideal), k0_pay3 (F := Ideal)) := fun h r d => by
  have e1 : memberAt (k0_pay1 (F := Ideal)) h (ix2 r d) = ⊥ := reset_M _
  have e2 : memberAt (k0_pay2 (F := Ideal)) h (ix2 r d) = 0 := reset_L _
  have e3 : memberAt (k0_pay3 (F := Ideal)) h (ix2 r d) = 0 := reset_A _
  show St _ _ 0 (memberAt (k0_pay1 (F := Ideal)) h (ix2 r d)) (memberAt (k0_pay2 (F := Ideal)) h (ix2 r d)) (memberAt (k0_pay3 (F := Ideal)) h (ix2 r d))
  rw [e1, e2, e3]
  exact St.zero _ _

/-- One block: if the block's scores and values are those of keys `n … n + 511`, the step takes 512 keys more. -/
theorem good_step (S : Fin 8 → Fin 512 → ℕ → EReal) (W : Fin 8 → Fin 128 → ℕ → EReal) (hs : ∀ h r k, S h r k ≠ ⊤) (h0 : ∀ h r, S h r 0 ≠ ⊥)
    (sc : Scores Ideal) (x0 x1 : Vec Ideal S512x2048 .bf16) (x2 : Vec Ideal S512x1024 .bf16) (n : ℕ) (s : Scratch Ideal) (hg : Good S W n s)
    (hS : ∀ h (r j : Fin 512), sc (wide x0 h) (wide x1 h) (ix2 r j) = S h r (n + j.val))
    (hW : ∀ h (j : Fin 512) (d : Fin 128), (lane x2 h (ix2 j d) : EReal) = W h d (n + j.val)) :
    Good S W (n + 512) (stepM sc x0 x1 s.1, stepL sc x0 x1 s.1 s.2.1, stepA sc x0 x1 x2 s.1 s.2.2) := fun h r d => by
  have hm : ∀ d', memberAt s.1 h (ix2 r d') = memberAt s.1 h (ix2 r d) := fun d' => (hg h r d').1.trans (hg h r d).1.symm
  have eM : ∀ d', newM (sc (wide x0 h) (wide x1 h)) (memberAt s.1 h) (ix2 r d')
      = max (memberAt s.1 h (ix2 r d)) (Finset.univ.sup fun j : Fin 512 => S h r (n + j.val)) := fun d' => by
    rw [newM_at, hm d']; simp only [hS]
  have eW : ∀ j : Fin 512, wts (sc (wide x0 h) (wide x1 h)) (memberAt s.1 h) (ix2 r j)
      = Ideal.exp (S h r (n + j.val) - max (memberAt s.1 h (ix2 r d)) (Finset.univ.sup fun j : Fin 512 => S h r (n + j.val))) := fun j => by
    rw [wts_at, eM, hS]
  have e1 : memberAt (stepM sc x0 x1 s.1) h (ix2 r d) = _ := eM d
  have e2 : memberAt (stepL sc x0 x1 s.1 s.2.1) h (ix2 r d) = _ := newL_at (sc (wide x0 h) (wide x1 h)) (memberAt s.1 h) (memberAt s.2.1 h) r d
  have e3 : memberAt (stepA sc x0 x1 x2 s.1 s.2.2) h (ix2 r d) = _ := newA_at (sc (wide x0 h) (wide x1 h)) (memberAt s.1 h) (memberAt s.2.2 h) (lane x2 h) r d
  rw [eM] at e2 e3
  simp only [eW] at e2 e3
  simp only [hW] at e3
  show St _ _ (n + 512) (memberAt (stepM sc x0 x1 s.1) h (ix2 r d)) (memberAt (stepL sc x0 x1 s.1 s.2.1) h (ix2 r d)) (memberAt (stepA sc x0 x1 x2 s.1 s.2.2) h (ix2 r d))
  rw [e1, e2, e3]
  exact (hg h r d).step (hs h r) (h0 h r) 512 (by decide)

variable (m : (ℓ : Loc nD τ sig) → Buf (Elt Ideal) ℓ)

/-- The queries. -/
abbrev qArr (c : Dev nD) : FVec Ideal S8192x2048 .bf16 := m ((c : Thread nD τ).loc main_arg0)
/-- The keys. -/
abbrev kArr (c : Dev nD) : FVec Ideal S8192x2048 .bf16 := m ((c : Thread nD τ).loc main_arg1)
/-- The values. -/
abbrev vArr (c : Dev nD) : FVec Ideal S8192x1024 .bf16 := m ((c : Thread nD τ).loc main_arg2)

/-- The windows' block rows at a point: the query block; the smaller of query and key block; the query block. -/
theorem idx_all : ∀ t : Fin cfg0.N, win0_0.index t = ![t.val / 8, 0] ∧ win0_1.index t = ![t.val / 64 * 8 + min (t.val / 8 % 8) (t.val % 8), 0]
    ∧ win0_2.index t = ![t.val / 64 * 8 + min (t.val / 8 % 8) (t.val % 8), 0] ∧ win0_3.index t = ![t.val / 8, 0] ∧ t.val / 64 < 2 :=
  (by decide +kernel : ∀ t : Fin grid0.N, _)

theorem batch_lt (t : Fin cfg0.N) : t.val / 64 < 2 := (idx_all t).2.2.2.2

/-- A query entry of the staged block. -/
theorem q_at (c : Dev nD) (t : Fin cfg0.N) (h : Fin 8) (r : Fin 512) (e : Fin 256) :
    (wide (iblk m c 0 t) h (ix2 r e) : EReal) = wideAt (qArr m c) (t.val / 64 * 4096 + (t.val / 8 % 8 * 512 + r.val)) (256 * h.val + e.val) := by
  have hb := batch_lt t
  unfold wide wideAt
  blk_point [iblk, V, idx_all t]

/-- A key entry of the staged block, where the key block is not after the query block. -/
theorem k_at (c : Dev nD) (t : Fin cfg0.N) (ht : t.val % 8 ≤ t.val / 8 % 8) (h : Fin 8) (j : Fin 512) (e : Fin 256) :
    (wide (iblk m c 1 t) h (ix2 j e) : EReal) = wideAt (kArr m c) (t.val / 64 * 4096 + (t.val % 8 * 512 + j.val)) (256 * h.val + e.val) := by
  have hb := batch_lt t
  unfold wide wideAt
  blk_point [iblk, V, idx_all t]

/-- A value entry of the staged block, where the key block is not after the query block. -/
theorem v_at (c : Dev nD) (t : Fin cfg0.N) (ht : t.val % 8 ≤ t.val / 8 % 8) (h : Fin 8) (j : Fin 512) (d : Fin 128) :
    (lane (iblk m c 2 t) h (ix2 j d) : EReal) = value (vArr m c) (t.val / 64) h.val d.val (t.val % 8 * 512 + j.val) := by
  have hb := batch_lt t
  unfold lane value laneAt
  blk_point [iblk, V, idx_all t]

/-- Query `r` of the point's query block has these scores. -/
def scoresAt (c : Dev nD) (b i : ℕ) (h : Fin 8) (r : Fin 512) (k : ℕ) : EReal := causal (qArr m c) (kArr m c) b h.val (i * 512 + r.val) k
/-- The values a batch element's keys carry. -/
def valuesAt (c : Dev nD) (b : ℕ) (h : Fin 8) (d : Fin 128) (k : ℕ) : EReal := value (vArr m c) b h.val d.val k

/-- Below the diagonal every key of the block is visible: the block's scores are the causal ones. -/
theorem score_block (c : Dev nD) (t : Fin cfg0.N) (ht : t.val % 8 < t.val / 8 % 8) (h : Fin 8) (r j : Fin 512) :
    score (wide (iblk m c 0 t) h) (wide (iblk m c 1 t) h) (ix2 r j) = scoresAt m c (t.val / 64) (t.val / 8 % 8) h r (t.val % 8 * 512 + j.val) := by
  rw [score_at, scoresAt, causal, if_pos (by omega)]
  exact Finset.sum_congr rfl fun e _ => congrArg₂ (fun a b : EReal => a * b) (q_at m c t h r e) (k_at m c t ht.le h j e)

/-- On the diagonal the mask keeps the keys up to the query. -/
theorem masked_block (c : Dev nD) (t : Fin cfg0.N) (ht : t.val % 8 = t.val / 8 % 8) (h : Fin 8) (r j : Fin 512) :
    masked (wide (iblk m c 0 t) h) (wide (iblk m c 1 t) h) (ix2 r j) = scoresAt m c (t.val / 64) (t.val / 8 % 8) h r (t.val % 8 * 512 + j.val) := by
  rw [masked_at, scoresAt, causal]
  refine if_congr (by omega) ?_ rfl
  rw [score_at]
  exact Finset.sum_congr rfl fun e _ => congrArg₂ (fun a b : EReal => a * b) (q_at m c t h r e) (k_at m c t ht.le h j e)

/-- The scratch as the body's branches find it: reset at the first key block. -/
abbrev started (t : Fin cfg0.N) (s : Scratch Ideal) : Scratch Ideal :=
  (startM (grid0.coords t) s.1, startL (grid0.coords t) s.2.1, startA (grid0.coords t) s.2.2)

/-- The step a point with a visible key block makes. -/
theorem point_good (c : Dev nD) (hQ : Real' (qArr m c)) (hK : Real' (kArr m c)) (t : Fin cfg0.N) (ht : t.val % 8 ≤ t.val / 8 % 8) (s : Scratch Ideal)
    (hg : Good (scoresAt m c (t.val / 64) (t.val / 8 % 8)) (valuesAt m c (t.val / 64)) (t.val % 8 * 512) (started t s)) :
    Good (scoresAt m c (t.val / 64) (t.val / 8 % 8)) (valuesAt m c (t.val / 64)) (t.val % 8 * 512 + 512) (point m c t s) := by
  have hs : ∀ h r k, scoresAt m c (t.val / 64) (t.val / 8 % 8) h r k ≠ ⊤ := fun h r k => causal_ne_top _ _ hQ hK _ _ _ _
  have h0 : ∀ h r, scoresAt m c (t.val / 64) (t.val / 8 % 8) h r 0 ≠ ⊥ := fun h r => causal_zero _ _ hQ hK _ _ _
  by_cases hlt : t.val % 8 < t.val / 8 % 8
  · have hb : below (grid0.coords t) := (below_iff t).mpr hlt
    have e : point m c t s = (stepM score (iblk m c 0 t) (iblk m c 1 t) (started t s).1, stepL score (iblk m c 0 t) (iblk m c 1 t) (started t s).1 (started t s).2.1,
        stepA score (iblk m c 0 t) (iblk m c 1 t) (iblk m c 2 t) (started t s).1 (started t s).2.2) := by
      simp only [point, tailM, tailL, tailA, if_pos hb]
    rw [e]
    exact good_step _ _ hs h0 score _ _ _ _ _ hg (score_block m c t hlt) (v_at m c t ht)
  · have he : t.val % 8 = t.val / 8 % 8 := by omega
    have hb : ¬ below (grid0.coords t) := fun h => hlt ((below_iff t).mp h)
    have hd : onDiag (grid0.coords t) := (onDiag_iff t).mpr he
    have e : point m c t s = (stepM masked (iblk m c 0 t) (iblk m c 1 t) (started t s).1, stepL masked (iblk m c 0 t) (iblk m c 1 t) (started t s).1 (started t s).2.1,
        stepA masked (iblk m c 0 t) (iblk m c 1 t) (iblk m c 2 t) (started t s).1 (started t s).2.2) := by
      simp only [point, tailM, tailL, tailA, if_neg hb, if_pos hd]
    rw [e]
    exact good_step _ _ hs h0 masked _ _ _ _ _ hg (masked_block m c t he) (v_at m c t ht)

/-- What the branches find at a point with a visible key block: the running values over the keys before the block. -/
theorem started_good (c : Dev nD) (hQ : Real' (qArr m c)) (hK : Real' (kArr m c)) :
    ∀ (n : ℕ) (t : Fin cfg0.N), t.val = n → t.val % 8 ≤ t.val / 8 % 8 →
      Good (scoresAt m c (t.val / 64) (t.val / 8 % 8)) (valuesAt m c (t.val / 64)) (t.val % 8 * 512) (started t (carried m c t.val)) := by
  intro n
  induction n with
  | zero =>
    intro t hn _
    have hf : atFirst (grid0.coords t) := (atFirst_iff t).mpr (by omega)
    have e : started t (carried m c t.val) = (k0_pay1 (F := Ideal), k0_pay2 (F := Ideal), k0_pay3 (F := Ideal)) := by
      simp only [started, startM, startL, startA, if_pos hf]
    rw [e, show t.val % 8 * 512 = 0 by omega]
    exact good_reset _ _
  | succ n ih =>
    intro t hn ht
    by_cases hz : t.val % 8 = 0
    · have hf : atFirst (grid0.coords t) := (atFirst_iff t).mpr hz
      have e : started t (carried m c t.val) = (k0_pay1 (F := Ideal), k0_pay2 (F := Ideal), k0_pay3 (F := Ideal)) := by
        simp only [started, startM, startL, startA, if_pos hf]
      rw [e, hz, Nat.zero_mul]
      exact good_reset _ _
    · have hf : ¬ atFirst (grid0.coords t) := fun h => hz ((atFirst_iff t).mp h)
      have e : started t (carried m c t.val) = carried m c t.val := by
        simp only [started, startM, startL, startA, if_neg hf]
      have hlt : n < cfg0.N := by have := t.isLt; omega
      have h1 : n / 64 = t.val / 64 := by omega
      have h2 : n / 8 % 8 = t.val / 8 % 8 := by omega
      have h3 : n % 8 * 512 + 512 = t.val % 8 * 512 := by omega
      have g := point_good m c hQ hK ⟨n, hlt⟩ (by show n % 8 ≤ n / 8 % 8; omega) (carried m c n) (ih ⟨n, hlt⟩ rfl (by show n % 8 ≤ n / 8 % 8; omega))
      rw [e, hn, ← hn, ← h1, ← h2, ← h3, hn, carried_succ m c ⟨n, hlt⟩]
      exact g

/-- The result block of a diagonal point: the softmax of the causal scores over all 4096 keys, weighting the values. -/
theorem outAt_at (c : Dev nD) (hQ : Real' (qArr m c)) (hK : Real' (kArr m c)) (t : Fin cfg0.N) (ht : t.val % 8 = t.val / 8 % 8) (h : Fin 8) (r : Fin 512) (d : Fin 128) :
    (outAt m c t (ix2 r ⟨128 * h.val + d.val, by omega⟩) : EReal)
      = ∑ k : Fin 4096, valuesAt m c (t.val / 64) h d k.val
          * Ideal.div (Ideal.exp (scoresAt m c (t.val / 64) (t.val / 8 % 8) h r k.val - Finset.univ.sup fun j : Fin 4096 => scoresAt m c (t.val / 64) (t.val / 8 % 8) h r j.val))
            (∑ i : Fin 4096, Ideal.exp (scoresAt m c (t.val / 64) (t.val / 8 % 8) h r i.val - Finset.univ.sup fun j : Fin 4096 => scoresAt m c (t.val / 64) (t.val / 8 % 8) h r j.val)) := by
  have hs : ∀ h r k, scoresAt m c (t.val / 64) (t.val / 8 % 8) h r k ≠ ⊤ := fun h r k => causal_ne_top _ _ hQ hK _ _ _ _
  have h0 : ∀ h r, scoresAt m c (t.val / 64) (t.val / 8 % 8) h r 0 ≠ ⊥ := fun h r => causal_zero _ _ hQ hK _ _ _
  have g := good_step _ _ hs h0 masked _ _ _ _ _ (started_good m c hQ hK t.val t rfl ht.le) (masked_block m c t ht) (v_at m c t ht.le) h r d
  have e : (outAt m c t (ix2 r ⟨128 * h.val + d.val, by omega⟩) : EReal)
      = Ideal.div (memberAt (stepA masked (iblk m c 0 t) (iblk m c 1 t) (iblk m c 2 t) (started t (carried m c t.val)).1 (started t (carried m c t.val)).2.2) h (ix2 r d))
        (memberAt (stepL masked (iblk m c 0 t) (iblk m c 1 t) (started t (carried m c t.val)).1 (started t (carried m c t.val)).2.1) h (ix2 r d)) := by
    unfold outAt quotAll sideBySide
    have e1 : (⟨((ix2 r (⟨128 * h.val + d.val, by omega⟩ : Fin 1024) : S512x1024.Idx) 1).val / 128, by show (128 * h.val + d.val) / 128 < 8; omega⟩ : Fin 8) = h :=
      Fin.ext (by show (128 * h.val + d.val) / 128 = h.val; omega)
    have e2 : (Fin.cons ((ix2 r (⟨128 * h.val + d.val, by omega⟩ : Fin 1024) : S512x1024.Idx) 0) (Fin.cons ⟨((ix2 r (⟨128 * h.val + d.val, by omega⟩ : Fin 1024) : S512x1024.Idx) 1).val % 128, Nat.mod_lt _ (by decide)⟩ finZeroElim) : S512x128.Idx) = ix2 r d := by
      funext a; fin_cases a
      · rfl
      · exact Fin.ext (by show (128 * h.val + d.val) % 128 = d.val; omega)
    rw [e1, e2]
    exact quot_at _ _ r d
  rw [e]
  refine g.softmax (hs h r) (h0 h r) (by omega) 4096 (by omega) fun k hk => ?_
  unfold scoresAt causal
  rw [if_neg (by omega)]

end Cert.Proof.Flash

end
-- ==== Proof.Flash.Ref.lean ====
module

public import proofs.«01_k».proof.Proof.Gen.ReferenceIdeal.Run
public import Idealize.ShloMosaic.Lib.Pipeline.ValueKit
public import Idealize.ShloMosaic.Lib.Pointwise
public import Idealize.ShloMosaic.Lib.WordCmp

@[expose] public section

/-! The reference attention read at a query row and a value column, over the extended reals. -/

set_option maxRecDepth 16384

noncomputable section

open Idealize.ShloMosaic Idealize.ShloMosaic.TcCoe Idealize.SL.Sem

namespace Cert.ReferenceIdeal.Value
open Cert.ReferenceIdeal Cert.ReferenceIdeal.Gen

/-- The scores of every query against every key, those of later keys at minus infinity. -/
def scores (Q K : FVec Ideal S8192x2048 .bf16) : FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
    (Host.dotGeneral dot_S2x4096x8x256_S2x4096x8x256_S2x8x4096x4096_3_3_1_1_02_02 none (shapeCast _ (extf .f32 Q bitsLt_bf16_f32) shapeCasts_S8192x2048_S2x4096x8x256) (shapeCast _ (extf .f32 K bitsLt_bf16_f32) shapeCasts_S8192x2048_S2x4096x8x256))
    (broadcastInDim S2x8x4096x4096 ![] bcast_S_S2x8x4096x4096 (id (constant S_ .f32 0xFF800000#32)))

/-- A row's largest score. -/
def largest (S : FVec Ideal S2x8x4096x4096 .f32) : FVec Ideal S2x8x4096 .f32 :=
  maximumf (broadcastInDim S2x8x4096 ![] bcast_S_S2x8x4096 (constant S_ .f32 0xFF800000#32)) (Host.reduce FloatOps.maximumf S (constant S_ .f32 0xFF800000#32) reducesTo_S2x8x4096x4096_S2x8x4096_d3 h_S_)

/-- A row's sum. -/
def total (E : FVec Ideal S2x8x4096x4096 .f32) : FVec Ideal S2x8x4096 .f32 :=
  Host.reduceAdd E (constant S_ .f32 0x00000000#32) reducesTo_S2x8x4096x4096_S2x8x4096_d3 h_S_

/-- The exponentials of the scores less their row's maximum. -/
def expo (S : FVec Ideal S2x8x4096x4096 .f32) : FVec Ideal S2x8x4096x4096 .f32 :=
  Host.exp (subf S (broadcastInDim S2x8x4096x4096 ![0, 1, 2, 3] bcast_S2x8x4096x1_S2x8x4096x4096_0_1_2_3 (broadcastInDim S2x8x4096x1 ![0, 1, 2] bcast_S2x8x4096_S2x8x4096x1_0_1_2 (largest S))))

/-- The softmax: the exponentials over their row's sum. -/
def soft (E : FVec Ideal S2x8x4096x4096 .f32) : FVec Ideal S2x8x4096x4096 .f32 :=
  Host.divf E (broadcastInDim S2x8x4096x4096 ![0, 1, 2, 3] bcast_S2x8x4096x1_S2x8x4096x4096_0_1_2_3 (broadcastInDim S2x8x4096x1 ![0, 1, 2] bcast_S2x8x4096_S2x8x4096x1_0_1_2 (total E)))

/-- The values weighted by `P`, the heads side by side again. -/
def mix (P : FVec Ideal S2x8x4096x4096 .f32) (V : FVec Ideal S8192x1024 .bf16) : FVec Ideal S8192x1024 .bf16 :=
  truncf .bf16 (shapeCast _ (transpose S2x4096x8x128 [0, 3, 1, 2] (Host.dotGeneral dot_S2x4096x8x128_S2x8x4096x4096_S2x8x128x4096_1_3_3_2_02_01 none (shapeCast _ (extf .f32 V bitsLt_bf16_f32) shapeCasts_S8192x1024_S2x4096x8x128) P) transposes_S2x8x128x4096_S2x4096x8x128_0_3_1_2) shapeCasts_S2x4096x8x128_S8192x1024) bitsLt_bf16_f32

/-- The whole reference. -/
def REF (Q K : FVec Ideal S8192x2048 .bf16) (V : FVec Ideal S8192x1024 .bf16) : FVec Ideal S8192x1024 .bf16 :=
  mix (soft (expo (scores Q K))) V

theorem res_eq (m : (ℓ : Loc nD τ sig) → Buf (Elt Ideal) ℓ) (c : Dev nD) :
    res_main_v30 m c = REF (m ((c.tc : Thread nD τ).loc main_arg0)) (m ((c.tc : Thread nD τ).loc main_arg1)) (m ((c.tc : Thread nD τ).loc main_arg2)) := rfl

/-- Minus infinity's word. -/
theorem negInf : Ideal.ofBits .f32 0xFF800000#32 = ⊥ := by simp [Ideal.ofBits, Ideal.ieee]

/-- A score. -/
theorem scores_at (Q K : FVec Ideal S8192x2048 .bf16) (b : Fin 2) (h : Fin 8) (r k : Fin 4096) :
    scores Q K (ix4 b h r k) = if k.val ≤ r.val then ∑ e : Fin 256, (Q (ix2 ⟨b.val * 4096 + r.val, by omega⟩ ⟨h.val * 256 + e.val, by omega⟩) : EReal) * K (ix2 ⟨b.val * 4096 + k.val, by omega⟩ ⟨h.val * 256 + e.val, by omega⟩) else ⊥ := by
  pointwise [scores, id, negInf]
  unfold Scalar.select
  exact if_congr (WordCmp.cmpi_sle_ofNat_eq_one_iff (w := 32) (a := k.val) (b := r.val) (by omega) (by omega)) rfl rfl

/-- A maximum along the last of four axes. -/
theorem max_last {n0 n1 n2 n3 : ℕ} {u : Shape} (h : (⟨4, ![n0, n1, n2, n3]⟩ : Shape).ReducesTo [3] ⟨3, ![n0, n1, n2]⟩) (hu : 0 < u.numel)
    (x : FVec Ideal ⟨4, ![n0, n1, n2, n3]⟩ .f32) (c : FVec Ideal u .f32) (a : Fin n0) (b : Fin n1) (r : Fin n2) :
    Host.reduce FloatOps.maximumf x c h hu (ix3 a b r) = Finset.univ.fold max (c (Shape.Idx.first hu)) fun k : Fin n3 => x (ix4 a b r k) := by
  pointwise

/-- A maximum that starts from the least value is a supremum. -/
theorem fold_sup {n : ℕ} (f : Fin n → EReal) : Finset.univ.fold max ⊥ f = Finset.univ.sup f := rfl

/-- The maximum of a constant and an array, entry by entry. -/
theorem max_const {s : Shape} (hb : S_.BroadcastsInDim s ![]) (bits : BitVec 32) (x : FVec Ideal s .f32) (i : s.Idx) :
    maximumf (broadcastInDim s ![] hb (constant S_ .f32 bits)) x i = max (Ideal.ofBits .f32 bits) (x i) := rfl

/-- The largest entry along the last of four axes, with minus infinity for a start. -/
theorem largest_gen {n0 n1 n2 n3 : ℕ} (h : (⟨4, ![n0, n1, n2, n3]⟩ : Shape).ReducesTo [3] ⟨3, ![n0, n1, n2]⟩) (hu : 0 < S_.numel)
    (hb : S_.BroadcastsInDim ⟨3, ![n0, n1, n2]⟩ ![])
    (x : FVec Ideal ⟨4, ![n0, n1, n2, n3]⟩ .f32) (a : Fin n0) (b : Fin n1) (r : Fin n2) :
    maximumf (broadcastInDim ⟨3, ![n0, n1, n2]⟩ ![] hb (constant S_ .f32 0xFF800000#32)) (Host.reduce FloatOps.maximumf x (constant S_ .f32 0xFF800000#32) h hu) (ix3 a b r)
      = Finset.univ.sup fun k : Fin n3 => x (ix4 a b r k) := by
  have e : (constant (F := Ideal) S_ .f32 0xFF800000#32) (Shape.Idx.first hu) = ⊥ := negInf
  rw [max_const, max_last, e, fold_sup, negInf]
  exact max_eq_right bot_le

/-- A row's largest score is the supremum of the row. -/
theorem largest_at (S : FVec Ideal S2x8x4096x4096 .f32) (b : Fin 2) (h : Fin 8) (r : Fin 4096) :
    largest S (ix3 b h r) = Finset.univ.sup fun j : Fin 4096 => S (ix4 b h r j) := by
  unfold largest
  exact largest_gen reducesTo_S2x8x4096x4096_S2x8x4096_d3 h_S_ bcast_S_S2x8x4096 S b h r

/-- An exponential. -/
theorem expo_at (S : FVec Ideal S2x8x4096x4096 .f32) (b : Fin 2) (h : Fin 8) (r k : Fin 4096) :
    expo S (ix4 b h r k) = Ideal.exp (S (ix4 b h r k) - Finset.univ.sup fun j : Fin 4096 => S (ix4 b h r j)) := by
  rw [← largest_at]
  pointwise [expo]

/-- A row's sum. -/
theorem total_at (E : FVec Ideal S2x8x4096x4096 .f32) (b : Fin 2) (h : Fin 8) (r : Fin 4096) :
    total E (ix3 b h r) = ∑ j : Fin 4096, E (ix4 b h r j) := by
  pointwise [total]

/-- A weight. -/
theorem soft_at (E : FVec Ideal S2x8x4096x4096 .f32) (b : Fin 2) (h : Fin 8) (r k : Fin 4096) :
    soft E (ix4 b h r k) = Ideal.div (E (ix4 b h r k)) (∑ j : Fin 4096, E (ix4 b h r j)) := by
  rw [← total_at]
  pointwise [soft]

/-- A result. -/
theorem mix_at (P : FVec Ideal S2x8x4096x4096 .f32) (V : FVec Ideal S8192x1024 .bf16) (b : Fin 2) (h : Fin 8) (r : Fin 4096) (d : Fin 128) :
    mix P V (ix2 ⟨b.val * 4096 + r.val, by omega⟩ ⟨h.val * 128 + d.val, by omega⟩)
      = ∑ k : Fin 4096, (V (ix2 ⟨b.val * 4096 + k.val, by omega⟩ ⟨h.val * 128 + d.val, by omega⟩) : EReal) * P (ix4 b h r k) := by
  pointwise [mix]

/-- An entry of the reference's result. -/
theorem REF_at (Q K : FVec Ideal S8192x2048 .bf16) (V : FVec Ideal S8192x1024 .bf16) (b : Fin 2) (h : Fin 8) (r : Fin 4096) (d : Fin 128) :
    REF Q K V (ix2 ⟨b.val * 4096 + r.val, by omega⟩ ⟨h.val * 128 + d.val, by omega⟩)
      = ∑ k : Fin 4096, (V (ix2 ⟨b.val * 4096 + k.val, by omega⟩ ⟨h.val * 128 + d.val, by omega⟩) : EReal)
          * Ideal.div (Ideal.exp (scores Q K (ix4 b h r k) - Finset.univ.sup fun j : Fin 4096 => scores Q K (ix4 b h r j)))
              (∑ i : Fin 4096, Ideal.exp (scores Q K (ix4 b h r i) - Finset.univ.sup fun j : Fin 4096 => scores Q K (ix4 b h r j))) := by
  unfold REF
  rw [mix_at]
  refine Finset.sum_congr rfl fun k _ => ?_
  rw [soft_at, expo_at]
  exact congrArg _ (congrArg _ (Finset.sum_congr rfl fun i _ => expo_at _ b h r i))

end Cert.ReferenceIdeal.Value

end
-- ==== Proof.Flash.Val.lean ====
module

public import proofs.«01_k».proof.Proof.Flash.Inv
public import proofs.«01_k».proof.Proof.Flash.Ref

@[expose] public section

/-! The array after the attention kernel's run is the reference's attention of the arguments. -/

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable (m : (ℓ : Loc nD τ sig) → Buf (Elt Ideal) ℓ)

/-- The reference's attention of the arguments. -/
abbrev refOut (c : Dev nD) : FVec Ideal S8192x1024 .bf16 := Cert.ReferenceIdeal.Value.REF (qArr m c) (kArr m c) (vArr m c)

/-- The kernel's causal scores are the reference's. -/
theorem scores_eq (Q K : FVec Ideal S8192x2048 .bf16) (b : Fin 2) (h : Fin 8) (R k : Fin 4096) :
    causal Q K b.val h.val R.val k.val = Cert.ReferenceIdeal.Value.scores Q K (ix4 b h R k) := by
  rw [Cert.ReferenceIdeal.Value.scores_at, causal]
  refine if_congr Iff.rfl (Finset.sum_congr rfl fun e _ => ?_) rfl
  unfold wideAt
  refine congrArg₂ (fun a b : EReal => a * b) (congrArg Q ?_) (congrArg K ?_)
  · exact congrArg₂ (fun x y => ix2 x y) (Fin.ext (by show (b.val * 4096 + R.val) % 8192 = b.val * 4096 + R.val; omega)) (Fin.ext (by show (256 * h.val + e.val) % 2048 = h.val * 256 + e.val; omega))
  · exact congrArg₂ (fun x y => ix2 x y) (Fin.ext (by show (b.val * 4096 + k.val) % 8192 = b.val * 4096 + k.val; omega)) (Fin.ext (by show (256 * h.val + e.val) % 2048 = h.val * 256 + e.val; omega))

/-- The kernel's values are the reference's. -/
theorem value_eq (V : FVec Ideal S8192x1024 .bf16) (b : Fin 2) (h : Fin 8) (d : Fin 128) (k : Fin 4096) :
    value V b.val h.val d.val k.val = V (ix2 ⟨b.val * 4096 + k.val, by omega⟩ ⟨h.val * 128 + d.val, by omega⟩) := by
  unfold value laneAt
  exact congrArg V (congrArg₂ (fun x y => ix2 x y) (Fin.ext (by show (b.val * 4096 + k.val) % 8192 = b.val * 4096 + k.val; omega)) (Fin.ext (by show (128 * h.val + d.val) % 1024 = h.val * 128 + d.val; omega)))

/-- A softmax-weighted sum depends on its scores and values only. -/
theorem weighted_congr (s s' v v' : Fin 4096 → EReal) (hs : s = s') (hv : v = v') :
    (∑ k : Fin 4096, v k * Ideal.div (Ideal.exp (s k - Finset.univ.sup s)) (∑ i : Fin 4096, Ideal.exp (s i - Finset.univ.sup s)))
      = ∑ k : Fin 4096, v' k * Ideal.div (Ideal.exp (s' k - Finset.univ.sup s')) (∑ i : Fin 4096, Ideal.exp (s' i - Finset.univ.sup s')) := by rw [hs, hv]

/-- The block of a diagonal point, entry by entry, is the reference's. -/
theorem out_ref (c : Dev nD) (hQ : Real' (qArr m c)) (hK : Real' (kArr m c)) (u : Fin cfg0.N) (hu : u.val % 8 = u.val / 8 % 8) (y : S512x1024.Idx)
    (i : S8192x1024.Idx) (h0 : (i 0 : ℕ) = u.val / 64 * 4096 + (u.val / 8 % 8 * 512 + (y 0 : ℕ))) (h1 : (i 1 : ℕ) = (y 1 : ℕ)) :
    (outAt m c u y : EReal) = refOut m c i := by
  have hb := batch_lt u
  have hy0 : (y 0 : ℕ) < 512 := (y 0).isLt
  have hy1 : (y 1 : ℕ) < 1024 := (y 1).isLt
  obtain ⟨b, hbv⟩ : ∃ b : Fin 2, b.val = u.val / 64 := ⟨⟨_, hb⟩, rfl⟩
  obtain ⟨h, hh⟩ : ∃ h : Fin 8, h.val = (y 1 : ℕ) / 128 := ⟨⟨(y 1 : ℕ) / 128, by omega⟩, rfl⟩
  obtain ⟨d, hd⟩ : ∃ d : Fin 128, d.val = (y 1 : ℕ) % 128 := ⟨⟨(y 1 : ℕ) % 128, by omega⟩, rfl⟩
  obtain ⟨r, hr⟩ : ∃ r : Fin 512, r.val = (y 0 : ℕ) := ⟨⟨(y 0 : ℕ), hy0⟩, rfl⟩
  obtain ⟨R, hR⟩ : ∃ R : Fin 4096, R.val = u.val / 8 % 8 * 512 + r.val := ⟨⟨u.val / 8 % 8 * 512 + r.val, by omega⟩, rfl⟩
  have ey : y = ix2 r ⟨128 * h.val + d.val, by omega⟩ := by
    funext a; fin_cases a
    · exact Fin.ext hr.symm
    · exact Fin.ext (by show (y 1 : ℕ) = 128 * h.val + d.val; omega)
  have ei : i = ix2 ⟨b.val * 4096 + R.val, by omega⟩ ⟨h.val * 128 + d.val, by omega⟩ := by
    funext a; fin_cases a
    · exact Fin.ext (by show (i 0 : ℕ) = b.val * 4096 + R.val; omega)
    · exact Fin.ext (by show (i 1 : ℕ) = h.val * 128 + d.val; omega)
  have e1 : outAt m c u y = outAt m c u (ix2 r ⟨128 * h.val + d.val, by omega⟩) := congrArg _ ey
  have e2 : refOut m c i = refOut m c (ix2 ⟨b.val * 4096 + R.val, by omega⟩ ⟨h.val * 128 + d.val, by omega⟩) := congrArg _ ei
  rw [e1, e2]
  refine (outAt_at m c hQ hK u hu h r d).trans (Eq.trans ?_ (Cert.ReferenceIdeal.Value.REF_at _ _ _ b h R d).symm)
  refine weighted_congr _ _ _ _ (funext fun k => ?_) (funext fun k => ?_)
  · unfold scoresAt
    rw [← hbv, ← hR]
    exact scores_eq _ _ b h R k
  · unfold valuesAt
    rw [← hbv]
    exact value_eq _ b h d k

/-- The output is never fetched. -/
theorem fetch_out : ∀ t : Fin cfg0.N, (cfg0.win 3).fetch t = false := (by decide +kernel : ∀ t : Fin grid0.N, win0_3.fetch t = false)

/-- The diagonal point of a query block. -/
def diag (t : Fin cfg0.N) : Fin cfg0.N := ⟨t.val / 8 * 8 + t.val / 8 % 8, by have := t.isLt; have : cfg0.N = 128 := N_0; omega⟩

/-- From the diagonal point on, the output buffer holds the diagonal point's block. -/
theorem leaves_out (c : Dev nD) : ∀ (n : ℕ) (t : Fin cfg0.N), t.val = n → t.val / 8 % 8 ≤ t.val % 8 → ∀ X, (rdat m c).Leaves 3 t X → X = outAt m c (diag t) := by
  intro n
  induction n with
  | zero =>
    intro t hn ht X hX
    obtain ⟨Y, _, hX⟩ := hX
    have e : diag t = t := Fin.ext (by show t.val / 8 * 8 + t.val / 8 % 8 = t.val; omega)
    rw [e]
    exact hX.1 ((onDiag_iff t).mpr (by omega))
  | succ n ih =>
    intro t hn ht X hX
    obtain ⟨Y, hY, hX⟩ := hX
    by_cases he : t.val % 8 = t.val / 8 % 8
    · have e : diag t = t := Fin.ext (by show t.val / 8 * 8 + t.val / 8 % 8 = t.val; omega)
      rw [e]
      exact hX.1 ((onDiag_iff t).mpr he)
    · have hXY : X = Y := hX.2 fun h => he ((onDiag_iff t).mp h)
      rw [hXY]
      have hf := ((rdat m c).finds_of_pos (fetch_out t) (by omega) Y).mp hY
      have ep : (⟨t.val - 1, Nat.lt_of_le_of_lt (Nat.sub_le _ _) t.isLt⟩ : Fin cfg0.N).val = n := by show t.val - 1 = n; omega
      rcases hf with hf | hf
      · have := (flush0_3 _).mp hf
        rw [ep] at this; omega
      · have e : diag ⟨t.val - 1, Nat.lt_of_le_of_lt (Nat.sub_le _ _) t.isLt⟩ = diag t := Fin.ext (by
          show (t.val - 1) / 8 * 8 + (t.val - 1) / 8 % 8 = t.val / 8 * 8 + t.val / 8 % 8
          rw [show (t.val - 1) / 8 = t.val / 8 by omega])
        rw [← e]
        exact ih _ ep (by rw [ep]; omega) Y hf

/-- The output array at the end, whatever contents the buffers were left at. -/
theorem arr_out (c : Dev nD) (hQ : Real' (qArr m c)) (hK : Real' (kArr m c)) (after : (w : Fin cfg0.W) → Fin cfg0.N → (cfg0.win w).block.Idx → Elt Ideal (cfg0.win w).elt)
    (ha : ∀ (w : Fin cfg0.W) (u : Fin cfg0.N), (cfg0.win w).flush u = true → (rdat m c).Leaves w u (after w u)) :
    ((rdat m c).withAfter after).arrAt 3 cfg0.N = refOut m c := by
  refine ((rdat m c).withAfter after).arrAt_eq_of_covers 3 _ (by decide +kernel) fun t hf y => ?_
  have hm : t.val % 8 = 7 := (flush0_3 t).mp hf
  have hd : (diag t).val = t.val / 8 * 8 + t.val / 8 % 8 := rfl
  have hq : (diag t).val / 8 = t.val / 8 := by rw [hd]; generalize t.val / 8 = q; have := Nat.mod_lt q (show 0 < 8 by decide); omega
  have hr : (diag t).val % 8 = t.val / 8 % 8 := by rw [hd]; generalize t.val / 8 = q; have := Nat.mod_lt q (show 0 < 8 by decide); omega
  have hs : (diag t).val / 64 = t.val / 64 := by rw [show (diag t).val / 64 = (diag t).val / 8 / 8 by omega, hq]; omega
  have e : after 3 t = outAt m c (diag t) := leaves_out m c t.val t rfl (by omega) _ (ha 3 t hf)
  have hi := (idx_all t).2.2.2.1
  rw [RDat.withAfter_after, e]
  blk_simp
  refine out_ref m c hQ hK (diag t) (by rw [hr, hq]) y _ ?_ ?_
  · rw [hs, hq]; blk_simp [idx_all t]; omega
  · blk_simp [idx_all t]

variable (ρ : Dev nD → PrngReg)

/-- The kernel's run: its result is the reference's attention of the arguments, which end as they were. -/
theorem value_run (hQ : ∀ c, Real' (qArr m c)) (hK : ∀ c, Real' (kArr m c)) :
    θ_run defs (onTc (τ := τ) (main (F := Ideal))) ⟨m, fun _ => 0, ρ⟩ (fun r => ∀ c : Dev nD,
      r.2.mem ((c.tc : Thread nD τ).loc main_v0) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, ha, hA⟩ := RDat.FramePost.exists_exact h.1 c
    refine ⟨(hA 3).trans (arr_out m c (hQ c) (hK c) after ha), ?_, ?_, ?_⟩
    · exact (Pipeline.RDat.FramePost.arr_in h.1 c 0 rfl).trans ((rdat_A m c 0).trans (V_main_arg0 m c))
    · exact (Pipeline.RDat.FramePost.arr_in h.1 c 1 rfl).trans ((rdat_A m c 1).trans (V_main_arg1 m c))
    · exact (Pipeline.RDat.FramePost.arr_in h.1 c 2 rfl).trans ((rdat_A m c 2).trans (V_main_arg2 m c))) (grid_run m ρ)

end Cert.Proof.Flash

end
-- ==== Proof.Flash.Pre.lean ====
module

public import proofs.«01_k».proof.Proof.Flash.Inv
public import proofs.«01_k».proof.Pre_finite
public import Idealize.ShloMosaic.Lib.ReduceAll

@[expose] public section

/-! The precondition: its side conditions, and what it says of the queries and keys. -/

set_option maxRecDepth 16384

noncomputable section

namespace Cert.Pre_finite

open Idealize.ShloMosaic

/-- The side conditions of the precondition's operations. -/
instance facts : Facts where
  bitsLt_bf16_f32 := by decide
  bcast_S_S8192x2048 := by decide
  reducesTo_S8192x2048_S_d0_1 := by decide
  h_S_ := by decide

/-- The word of plus infinity. -/
theorem posInf : Ideal.ofBits .f32 0x7F800000#32 = ⊤ := by simp [Ideal.ofBits, Ideal.ieee]

/-- An extended real whose absolute value is below plus infinity is a real number. -/
theorem real_of_abs (x : EReal) (h : Ideal.cmp .olt (max x (-x)) (Ideal.ofBits .f32 0x7F800000#32) = 1) : x ≠ ⊤ ∧ x ≠ ⊥ := by
  rw [Ideal.cmp_olt_eq_one, posInf] at h
  refine ⟨fun e => ?_, fun e => ?_⟩ <;> subst e <;> simp at h

/-- One array: if the conjunction over its entries is 1, every entry is a real number. -/
theorem real_of_all {F : Facts} (X : FVec Ideal S8192x2048 .bf16)
    (e : Host.reduce IntOp.andi (cmpf .olt (Host.absf (extf .f32 X F.bitsLt_bf16_f32)) (broadcastInDim S8192x2048 ![] F.bcast_S_S8192x2048 (constant (F := Ideal) S_ .f32 0x7F800000#32)))
      (constantI S_ 1 1#1) F.reducesTo_S8192x2048_S_d0_1 F.h_S_ ix0 = 1#1) : Cert.Proof.Flash.Real' X := fun i => by
  haveI : Subsingleton S_.Idx := ⟨fun a b => by funext k; exact k.elim0⟩
  exact real_of_abs (X i) (Host.reduce_andi_all _ _ _ _ ix0 e i)

/-- Where the precondition holds, every query and key entry is a real number. -/
theorem real {F : Facts} (Q K : FVec Ideal S8192x2048 .bf16) (V : FVec Ideal S8192x1024 .bf16) (h : fn (F := Ideal) Q K V = fun _ => 1#1) :
    Cert.Proof.Flash.Real' Q ∧ Cert.Proof.Flash.Real' K := by
  have h0 := congrFun h ix0
  have h1 := IntOp.andi_eq_one.mp h0
  exact ⟨real_of_all (F := F) Q h1.1, real_of_all (F := F) K h1.2⟩

end Cert.Pre_finite

end
-- ==== Proof.Flash.Claims.lean ====
module

public import proofs.«01_k».proof.Defs
public import proofs.«01_k».proof.Proof.Gen.Kernel.Frame
public import proofs.«01_k».proof.Proof.Flash.Val
public import proofs.«01_k».proof.Proof.Flash.Pre
public import Idealize.ShloMosaic.Lib.Quiescent

@[expose] public section

set_option maxRecDepth 16384

noncomputable section

open Idealize.ShloMosaic Idealize.SL.Sem

namespace Cert.Proof.FlashClaims

/-- A named constant read at the bits: its literal. -/
@[reducible] def literal : Named Bits := ⟨fun _ _ {φ} bits => Scalar.ofBits φ bits⟩

/-- With its constant read so, the body over the extended reals is the body at the bits. -/
theorem same_body (i) (a3) (h3) (a4) (h4) (a5) (h5) (a6) (h6) (a7) (h7) (a8) (h8) (a9) (h9) : letI := literal; Cert.KernelIdeal.cc0__mla_flash_kernel (F := Bits) i a3 h3 a4 h4 a5 h5 a6 h6 a7 h7 a8 h8 a9 h9 = Cert.Kernel.cc0__mla_flash_kernel (F := Bits) i a3 h3 a4 h4 a5 h5 a6 h6 a7 h7 a8 h8 a9 h9 := rfl

/-- The same of the kernels' body table. -/
theorem same_table : letI := literal; Cert.KernelIdeal.defs₀ (F := Bits) = Cert.Kernel.defs₀ (F := Bits) := by
  unfold Cert.KernelIdeal.defs₀ Cert.Kernel.defs₀
  refine congrArg _ (funext fun l => funext fun a => ?_)
  match l, a with
  | 0, (t, s) => exact same_body _ _ _ _ _ _ _ _ _ _ _ _ _ _ _

/-- The same of the whole body table. -/
theorem same_defs : letI := literal; Cert.KernelIdeal.defs (F := Bits) = Cert.Kernel.defs (F := Bits) := by
  unfold Cert.KernelIdeal.defs Cert.Kernel.defs
  rw [same_table]
  rfl

/-- The kernel runs at the bits, leaves its arguments and ends with every semaphore at zero: its program at the bits is the one over the
    extended reals, whose run holds at every reading of the floats. -/
theorem frame_p : Cert.quiescent_Kernel := fun m ρ _ => by
  letI := literal
  have h := Cert.Proof.Flash.frame_any (F := Bits) m ρ
  rw [same_defs] at h
  exact h

/-- The same of the kernel over the extended reals. -/
theorem frame_pi : Cert.quiescent_KernelIdeal := fun m ρ _ => Cert.Proof.Flash.frame_any (F := Ideal) m ρ

/-- The same under the precondition. -/
theorem frame_pi_pre : Cert.quiescent_KernelIdeal_pre_finite := fun m ρ _ => Cert.Proof.Flash.frame_any (F := Ideal) m ρ

/-- The same of the reference over the extended reals. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_finite := fun m ρ _ => frame_ri m ρ trivial

/-- The mask's constant is named. -/
theorem preserves : Cert.preserves_Kernel_KernelIdeal :=
  IdealRules.named_const.statement Cert.KernelIdeal.κ "mask" .f32 0xF149F2CA#32 ⊥ rfl

/-- From equal arguments, queries and keys real numbers, the kernel and the reference end with equal results. -/
theorem algebraic : Cert.algebraic_KernelIdeal_ReferenceIdeal_pre_finite := by
  intro m ρ m' ρ' hpre hagree
  have hr := fun c => Cert.Pre_finite.real _ _ _ (hpre c)
  refine ⟨_, Cert.Proof.Flash.value_run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  rw [Cert.ReferenceIdeal.Value.res_eq, h0, h1, h2]

end Cert.Proof.FlashClaims

end
-- ==== Proof.Project.Ref.lean ====
module

public import proofs.«01_k».proof.Proof.Gen.ProjectRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectRefIdeal.Value
open Cert.ProjectRefIdeal Cert.ProjectRefIdeal.Gen

/-- The normalised rows: each row times the reciprocal root of its mean square, times the gain. -/
def H (X : FVec Ideal S2x4096x2048 .f32) (G : FVec Ideal S1x2048 .f32) : FVec Ideal S2x4096x2048 .f32 :=
  mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ G shapeCasts_S1x2048_S2048)))

/-- The rows through the combined input projection, its columns in the weight's order. -/
def proj (A : FVec Ideal S2x4096x2048 .f32) (W : FVec Ideal S1x2048x11152 .f32) : FVec Ideal S2x4096x11152 .f32 :=
  Host.dotGeneral dot_S2x4096x2048_S2048x11152_S2x4096x11152_2_0_01_1_n_n none A (shapeCast _ W shapeCasts_S1x2048x11152_S2048x11152)

/-- The column groups laid out in the order in which the later calls read them, with a group of zeros before the gates. -/
def lay (Z : FVec Ideal S2x4096x11152 .f32) : FVec Ideal S2x4096x11264 .f32 :=
  concatenate S2x4096x11264 2 [⟨S2x4096x768, extractStridedSlice S2x4096x768 ![0, 0, 0] Z slices_S2x4096x11152_S2x4096x768_0_0_0⟩,
    ⟨S2x4096x512, extractStridedSlice S2x4096x512 ![0, 0, 768] Z slices_S2x4096x11152_S2x4096x512_0_0_768⟩,
    ⟨S2x4096x1024, extractStridedSlice S2x4096x1024 ![0, 0, 1344] Z slices_S2x4096x11152_S2x4096x1024_0_0_1344⟩,
    ⟨S2x4096x256, extractStridedSlice S2x4096x256 ![0, 0, 2368] Z slices_S2x4096x11152_S2x4096x256_0_0_2368⟩,
    ⟨S2x4096x256, extractStridedSlice S2x4096x256 ![0, 0, 2624] Z slices_S2x4096x11152_S2x4096x256_0_0_2624⟩,
    ⟨S2x4096x1024, extractStridedSlice S2x4096x1024 ![0, 0, 2880] Z slices_S2x4096x11152_S2x4096x1024_0_0_2880⟩,
    ⟨S2x4096x1024, extractStridedSlice S2x4096x1024 ![0, 0, 3984] Z slices_S2x4096x11152_S2x4096x1024_0_0_3984⟩,
    ⟨S2x4096x64, extractStridedSlice S2x4096x64 ![0, 0, 1280] Z slices_S2x4096x11152_S2x4096x64_0_0_1280⟩,
    ⟨S2x4096x64, extractStridedSlice S2x4096x64 ![0, 0, 3920] Z slices_S2x4096x11152_S2x4096x64_0_0_3920⟩,
    ⟨S2x4096x16, extractStridedSlice S2x4096x16 ![0, 0, 3904] Z slices_S2x4096x11152_S2x4096x16_0_0_3904⟩,
    ⟨S2x4096x112, broadcastInDim S2x4096x112 ![] bcast_S_S2x4096x112 (constant S_ .f32 0x00000000#32)⟩,
    ⟨S2x4096x6144, extractStridedSlice S2x4096x6144 ![0, 0, 5008] Z slices_S2x4096x11152_S2x4096x6144_0_0_5008⟩]
    concatenates_S2x4096x768_S2x4096x512_S2x4096x1024_S2x4096x256_S2x4096x256_S2x4096x1024_S2x4096x1024_S2x4096x64_S2x4096x64_S2x4096x16_S2x4096x112_S2x4096x6144_S2x4096x11264_d2

/-- The whole projection. -/
def REF (X : FVec Ideal S2x4096x2048 .f32) (G : FVec Ideal S1x2048 .f32) (W : FVec Ideal S1x2048x11152 .f32) : FVec Ideal S8192x11264 .f32 :=
  shapeCast _ (lay (proj (H X G) W)) shapeCasts_S2x4096x11264_S8192x11264

/-- The column of the weights that a column of the layout holds. -/
def src (n : ℕ) : ℕ :=
  if n < 1280 then n else if n < 3840 then n + 64 else if n < 4864 then n + 144 else if n < 4928 then n - 3584
  else if n < 4992 then n - 1008 else if n < 5008 then n - 1088 else n - 112

/-- The source of a column is a column of the weights. -/
theorem src_lt (n : ℕ) (h : n < 11264) : src n < 11152 := by
  unfold src; split_ifs <;> omega

/-- A value chosen by whether a column lies in the group of `w` columns from `a` on is `v` where both choices are. -/
theorem of_step {n : ℕ} (a w : ℕ) {x : n - a < w → EReal} {y : ¬n - a < w → EReal} {v : EReal} (ha : a ≤ n)
    (hx : ∀ h, n < a + w → x h = v) (hy : ∀ h, a + w ≤ n → y h = v) : dite (n - a < w) x y = v := by
  by_cases h : n - a < w
  · rw [dif_pos h]; exact hx h (by omega)
  · rw [dif_neg h]; exact hy h (by omega)

/-- A chain of choices between the column groups is one reading at the column's source, zero in the padding. -/
theorem ladder (z : Fin 11152 → EReal) (n : ℕ) (hn : n < 11264) :
    (if h : n < 768 then z ⟨n, by omega⟩ else if h : n - 768 < 512 then z ⟨768 + (n - 768), by omega⟩ else if h : n - 1280 < 1024 then z ⟨1344 + (n - 1280), by omega⟩ else if h : n - 2304 < 256 then z ⟨2368 + (n - 2304), by omega⟩ else if h : n - 2560 < 256 then z ⟨2624 + (n - 2560), by omega⟩ else if h : n - 2816 < 1024 then z ⟨2880 + (n - 2816), by omega⟩ else if h : n - 3840 < 1024 then z ⟨3984 + (n - 3840), by omega⟩ else if h : n - 4864 < 64 then z ⟨1280 + (n - 4864), by omega⟩ else if h : n - 4928 < 64 then z ⟨3920 + (n - 4928), by omega⟩ else if h : n - 4992 < 16 then z ⟨3904 + (n - 4992), by omega⟩ else if h : n - 5008 < 112 then 0 else z ⟨5008 + (n - 5120), by omega⟩)
      = if 5008 ≤ n ∧ n < 5120 then (0 : EReal) else z ⟨src n, src_lt _ hn⟩ := by
  have key : ∀ (p : ℕ) (hp : p < 11152) , p = src n → z ⟨p, hp⟩ = z ⟨src n, src_lt _ hn⟩ := by
    intro p hp e; subst e; rfl
  refine of_step 0 768 (Nat.zero_le _) (fun _ h => ?_) fun _ g => of_step 768 512 g (fun _ h => ?_) fun _ g => of_step 1280 1024 g (fun _ h => ?_) fun _ g => of_step 2304 256 g (fun _ h => ?_) fun _ g => of_step 2560 256 g (fun _ h => ?_) fun _ g => of_step 2816 1024 g (fun _ h => ?_) fun _ g => of_step 3840 1024 g (fun _ h => ?_) fun _ g => of_step 4864 64 g (fun _ h => ?_) fun _ g => of_step 4928 64 g (fun _ h => ?_) fun _ g => of_step 4992 16 g (fun _ h => ?_) fun _ g => of_step 5008 112 g (fun _ h => ?_) fun _ g => ?_
  rotate_left 10
  · exact (if_pos ⟨g, h⟩).symm
  all_goals
    refine (key _ _ ?_).trans (if_neg ?_).symm
    · unfold src
      simp (disch := omega) only [if_pos, if_neg]
      try omega
    · omega

/-- The layout at an index: zero in the padding, else the projection at the column's source. -/
theorem lay_at (Z : FVec Ideal S2x4096x11152 .f32) (b : Fin 2) (r : Fin 4096) (n : Fin 11264) :
    lay Z (ix3 b r n) = if 5008 ≤ (n : ℕ) ∧ (n : ℕ) < 5120 then (0 : EReal) else Z (ix3 b r ⟨src n, src_lt _ n.isLt⟩) := by
  pointwise [lay]
  simp only [Nat.sub_sub, Nat.reduceAdd]
  exact ladder (fun p => Z (ix3 b r p)) n n.isLt

/-- The flattened layout at an index. -/
theorem flat_at (Z : FVec Ideal S2x4096x11264 .f32) (j : S8192x11264.Idx) (b : Fin 2) (r : Fin 4096)
    (hb : (b : ℕ) = (j 0 : ℕ) / 4096) (hr : (r : ℕ) = (j 0 : ℕ) % 4096) :
    shapeCast S8192x11264 Z shapeCasts_S2x4096x11264_S8192x11264 j = Z (ix3 b r (j 1)) := by
  pointwise []
  blk_point []

/-- A weight at a column of the layout: zero in the padding, else the weight at the column's source. -/
def wcol (W : FVec Ideal S1x2048x11152 .f32) (k : Fin 2048) (n : Fin 11264) : EReal :=
  if 5008 ≤ (n : ℕ) ∧ (n : ℕ) < 5120 then 0 else W (ix3 0 k ⟨src n, src_lt _ n.isLt⟩)

/-- The projection at an index: the contraction of a row with a column of the weights. -/
theorem proj_at (A : FVec Ideal S2x4096x2048 .f32) (W : FVec Ideal S1x2048x11152 .f32) (i : S2x4096x11152.Idx) :
    proj A W i = ∑ k : Fin 2048, A (ix3 (i 0) (i 1) k) * W (ix3 0 k (i 2)) := by
  pointwise [proj]

/-- The laid out projection at an index: the contraction of a normalised row with the layout's column. -/
theorem ref_at (X : FVec Ideal S2x4096x2048 .f32) (G : FVec Ideal S1x2048 .f32) (W : FVec Ideal S1x2048x11152 .f32) (j : S8192x11264.Idx)
    (b : Fin 2) (r : Fin 4096) (hb : (b : ℕ) = (j 0 : ℕ) / 4096) (hr : (r : ℕ) = (j 0 : ℕ) % 4096) :
    REF X G W j = ∑ k : Fin 2048, H X G (ix3 b r k) * wcol W k (j 1) := by
  refine (flat_at _ j b r hb hr).trans ((lay_at _ b r (j 1)).trans ?_)
  unfold wcol
  split_ifs
  · simp only [mul_zero, Finset.sum_const_zero]
  · exact proj_at _ _ _

end Cert.ProjectRefIdeal.Value
end
-- ==== Proof.Project.Val.lean ====
module

public import proofs.«01_k».proof.Proof.Gen.ProjectIdeal.Value
public import proofs.«01_k».proof.Proof.Project.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjectIdeal.Value
open Cert.ProjectIdeal Cert.ProjectIdeal.Gen

variable (m : (ℓ : Loc nD τ sig) → Buf (Elt Ideal) ℓ)

/-- Every window's block index at a point: the row block is the point over twenty-two, the column block its remainder. -/
theorem idx_all : ∀ t : Fin cfg0.N, win0_0.index t = ![t.val / 22, 0] ∧ win0_1.index t = ![0, 0]
    ∧ win0_2.index t = ![t.val % 22, 0] ∧ win0_3.index t = ![t.val / 22, t.val % 22] ∧ t.val / 22 < 8 :=
  (by decide +kernel : ∀ t : Fin grid0.N, _)

/-- The row block's number is below eight. -/
theorem row_lt (t : Fin cfg0.N) : t.val / 22 < 8 := (idx_all t).2.2.2.2

/-- The normalised rows of the whole input, cut to the row block of a point. -/
def hblk (c : Dev nD) (t : Fin cfg0.N) : Vec Ideal S1024x2048 .bf16 := fun y =>
  Cert.ProjectRefIdeal.Value.H (m ((c : Thread nD τ).loc main_arg0)) (m ((c : Thread nD τ).loc main_arg1))
    (ix3 ⟨(1024 * (t.val / 22) + (y 0 : ℕ)) / 4096, by have := row_lt t; have : (y 0 : ℕ) < 1024 := (y 0).isLt; omega⟩
      ⟨(1024 * (t.val / 22) + (y 0 : ℕ)) % 4096, Nat.mod_lt _ (by decide)⟩ (y 1))

/-- What the first point of a run stores in the scratch is the normalised row block. -/
theorem pay1_eq (c : Dev nD) (t : Fin cfg0.N) : k0_pay1 (iblk m c 0 t) (iblk m c 1 t) = hblk m c t := by
  funext y
  have hb := row_lt t
  pointwise [k0_pay1, hblk, Cert.ProjectRefIdeal.Value.H]
  blk_point [iblk, V, idx_all t]

/-- The row block depends on the run only. -/
theorem hblk_congr (c : Dev nD) (t s : Fin cfg0.N) (h : t.val / 22 = s.val / 22) : hblk m c t = hblk m c s := by
  funext y
  unfold hblk
  congr 2 <;> simp only [h]

/-- After every point the scratch holds the normalised rows of the point's row block. -/
theorem sc_eq (c : Dev nD) : ∀ (n : ℕ) (hn : n < cfg0.N), (outsAt0 m c n hn).2 = hblk m c ⟨n, hn⟩
  | 0, hn => by
      rw [outsAt0_A m c ⟨0, hn⟩ (Nat.zero_mod _), ← pay1_eq m c ⟨0, hn⟩]; funext y; frame_out
  | n + 1, hn => by
      by_cases h : (n + 1) % 22 = 0
      · rw [outsAt0_A m c ⟨n + 1, hn⟩ h, ← pay1_eq m c ⟨n + 1, hn⟩]; funext y; frame_out
      · rw [outsAt0_B m c ⟨n + 1, hn⟩ h]
        exact (sc_eq c n (Nat.lt_of_succ_lt hn)).trans (hblk_congr m c _ _ (by show n / 22 = (n + 1) / 22; omega))

/-- The product of two blocks at an index. -/
theorem pay2_at (h : Vec Ideal S1024x2048 .bf16) (w : Vec Ideal S512x2048 .bf16) (y : S1024x512.Idx) :
    (k0_pay2 h w y : EReal) = ∑ k : Fin 2048, (h (ix2 (y 0) k) : EReal) * (w (ix2 (y 1) k) : EReal) := by
  pointwise [k0_pay2]

/-- What the output holds after a point: the product of the normalised row block and the point's block of weights. -/
theorem out_at (c : Dev nD) (t : Fin cfg0.N) (y : S1024x512.Idx) :
    ((outsAt0 m c t.val t.isLt).1 y : EReal) = k0_pay2 (hblk m c t) (iblk m c 2 t) y := by
  by_cases h : t.val % 22 = 0
  · rw [outsAt0_A m c t h, ← pay1_eq m c t]; frame_out
  · have e := hblk_congr m c ⟨t.val - 1, Nat.lt_of_le_of_lt (Nat.sub_le _ _) t.isLt⟩ t (by show (t.val - 1) / 22 = t.val / 22; omega)
    rw [outsAt0_B m c t h]
    frame_out
    have hr := (Memref.isWhole_whole (cc0_scratch0)).read_unread (Val := Elt Ideal) (outsAt0 m c (t.val - 1) (Nat.lt_of_le_of_lt (Nat.sub_le _ _) t.isLt)).2
    exact congrFun (congrArg (fun h => k0_pay2 h (iblk m c 2 t)) (hr.trans ((sc_eq m c _ _).trans e))) y

/-- The rows of the transposed weights laid out in the kernel's order, with a group of zeros before the gates. -/
def rows (T : FVec Ideal S11152x2048 .f32) : FVec Ideal S11264x2048 .f32 :=
  concatenate S11264x2048 0 [⟨S768x2048, extractStridedSlice S768x2048 ![0, 0] T slices_S11152x2048_S768x2048_0_0⟩,
    ⟨S512x2048, extractStridedSlice S512x2048 ![768, 0] T slices_S11152x2048_S512x2048_768_0⟩,
    ⟨S1024x2048, extractStridedSlice S1024x2048 ![1344, 0] T slices_S11152x2048_S1024x2048_1344_0⟩,
    ⟨S256x2048, extractStridedSlice S256x2048 ![2368, 0] T slices_S11152x2048_S256x2048_2368_0⟩,
    ⟨S256x2048, extractStridedSlice S256x2048 ![2624, 0] T slices_S11152x2048_S256x2048_2624_0⟩,
    ⟨S1024x2048, extractStridedSlice S1024x2048 ![2880, 0] T slices_S11152x2048_S1024x2048_2880_0⟩,
    ⟨S1024x2048, extractStridedSlice S1024x2048 ![3984, 0] T slices_S11152x2048_S1024x2048_3984_0⟩,
    ⟨S64x2048, extractStridedSlice S64x2048 ![1280, 0] T slices_S11152x2048_S64x2048_1280_0⟩,
    ⟨S64x2048, extractStridedSlice S64x2048 ![3920, 0] T slices_S11152x2048_S64x2048_3920_0⟩,
    ⟨S16x2048, extractStridedSlice S16x2048 ![3904, 0] T slices_S11152x2048_S16x2048_3904_0⟩,
    ⟨S112x2048, broadcastInDim S112x2048 ![] bcast_S_S112x2048 (constant S_ .f32 0x00000000#32)⟩,
    ⟨S6144x2048, extractStridedSlice S6144x2048 ![5008, 0] T slices_S11152x2048_S6144x2048_5008_0⟩]
    concatenates_S768x2048_S512x2048_S1024x2048_S256x2048_S256x2048_S1024x2048_S1024x2048_S64x2048_S64x2048_S16x2048_S112x2048_S6144x2048_S11264x2048_d0

/-- The weights transposed. -/
def turned (W : FVec Ideal S1x2048x11152 .f32) : FVec Ideal S11152x2048 .f32 :=
  transpose S11152x2048 [1, 0] (shapeCast S2048x11152 W shapeCasts_S1x2048x11152_S2048x11152) transposes_S2048x11152_S11152x2048_1_0

/-- The laid out rows at an index: zero in the padding, else the row's source. -/
theorem rows_at (T : FVec Ideal S11152x2048 .f32) (n : Fin 11264) (k : Fin 2048) :
    rows T (ix2 n k) = if 5008 ≤ (n : ℕ) ∧ (n : ℕ) < 5120 then (0 : EReal)
      else T (ix2 ⟨Cert.ProjectRefIdeal.Value.src n, Cert.ProjectRefIdeal.Value.src_lt _ n.isLt⟩ k) := by
  pointwise [rows]
  simp only [Nat.sub_sub, Nat.reduceAdd]
  exact Cert.ProjectRefIdeal.Value.ladder (fun p => T (ix2 p k)) n n.isLt

/-- The transposed weights at an index. -/
theorem turned_at (W : FVec Ideal S1x2048x11152 .f32) (p : Fin 11152) (k : Fin 2048) : turned W (ix2 p k) = W (ix3 0 k p) := by
  pointwise [turned]

/-- What the host puts in the weights' window: the laid out rows of the transposed weights. -/
theorem host_w (c : Dev nD) : (V m c main_v18 : FVec Ideal S11264x2048 .bf16)
    = truncf .bf16 (rows (turned (m ((c : Thread nD τ).loc main_arg2)))) bitsLt_bf16_f32 := by
  show StableHlo.after hostOps0 (fun b => m (c, b)) (Proc.tc.devRef main_v18) = _
  after_results_simp <;> (try dsimp only [Matrix.cons_val]) <;> (try after_results_simp) <;> rfl

/-- A point's block of weights, read off the weights: the columns of the layout. -/
theorem w_eq (c : Dev nD) (t : Fin cfg0.N) (a : Fin 512) (k : Fin 2048) :
    (iblk m c 2 t (ix2 a k) : EReal) = Cert.ProjectRefIdeal.Value.wcol (m ((c : Thread nD τ).loc main_arg2)) k ⟨t.val % 22 * 512 + a.val, by omega⟩ := by
  have e : (iblk m c 2 t (ix2 a k) : EReal) = (V m c main_v18 : FVec Ideal S11264x2048 .bf16) (ix2 ⟨t.val % 22 * 512 + a.val, by omega⟩ k) := by
    show (V m c main_v18 : FVec Ideal S11264x2048 .bf16) _ = _
    congr 1
    blk_ext [idx_all t]
  rw [e, host_w]
  refine (rows_at _ _ k).trans ?_
  unfold Cert.ProjectRefIdeal.Value.wcol
  simp only [turned_at]

/-- The array after the run is the reference's projection of the arguments. -/
theorem final (c : Dev nD) : (dats m 0 c).arrAt 3 cfg0.N
    = Cert.ProjectRefIdeal.Value.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hb := row_lt t
  blk_simp
  rw [after0_3]
  refine (out_at m c t y).trans ((pay2_at _ _ y).trans ?_)
  have hy : (y 0 : ℕ) < 1024 := (y 0).isLt
  refine Eq.trans ?_ (Cert.ProjectRefIdeal.Value.ref_at _ _ _ _
    ⟨(1024 * (t.val / 22) + (y 0 : ℕ)) / 4096, by omega⟩ ⟨(1024 * (t.val / 22) + (y 0 : ℕ)) % 4096, Nat.mod_lt _ (by decide)⟩ ?_ ?_).symm
  · refine Finset.sum_congr rfl fun k _ => ?_
    refine congrArg₂ (fun a b : EReal => a * b) rfl ((w_eq m c t (y 1) k).trans (congrArg _ (Fin.ext ?_)))
    blk_simp [idx_all t] <;> try omega
  · show (1024 * (t.val / 22) + (y 0 : ℕ)) / 4096 = _
    blk_simp [idx_all t] <;> omega
  · show (1024 * (t.val / 22) + (y 0 : ℕ)) % 4096 = _
    blk_simp [idx_all t] <;> omega

end Cert.ProjectIdeal.Value
end
-- ==== Proof.Project.Claims.lean ====
module

public import proofs.«01_k».proof.Defs
public import proofs.«01_k».proof.Proof.Gen.Project.Frame
public import proofs.«01_k».proof.Proof.Project.Val
public import Idealize.ShloMosaic.Lib.Quiescent

@[expose] public section

set_option maxRecDepth 16384

noncomputable section

open Idealize.ShloMosaic Idealize.SL.Sem

namespace Cert.Proof.ProjectClaims

/-- The kernel runs at the bits, leaves its arguments and ends with every semaphore at zero. -/
theorem frame_p : Cert.quiescent_Project := fun m ρ _ => Cert.Project.Gen.frame m ρ

/-- The same of the kernel over the extended reals. -/
theorem frame_pi : Cert.quiescent_ProjectIdeal := fun m ρ _ => Cert.ProjectIdeal.Gen.frame m ρ

/-- The same of the reference over the extended reals. -/
theorem frame_ri : Cert.quiescent_ProjectRefIdeal := fun m ρ _ =>
  (θ_run Cert.ProjectRefIdeal.defs _ _).mono (fun r h => ⟨fun c => (h c).2,
      Idealize.ShloMosaic.sem_eq_zero_of_no_sems (by decide) r.2⟩)
    (Cert.ProjectRefIdeal.Value.run (F := Ideal) m ρ)

/-- No rewriting rule is used. -/
theorem preserves : Cert.preserves_Project_ProjectIdeal := trivial

/-- From equal arguments the kernel and the reference end with equal results. -/
theorem algebraic : Cert.algebraic_ProjectIdeal_ProjectRefIdeal := by
  intro m ρ m' ρ' _ hagree
  refine ⟨_, Cert.ProjectIdeal.Value.run_blocks (F := Ideal) m ρ, ?_⟩
  refine (θ_run Cert.ProjectRefIdeal.defs _ _).mono (fun _ h c => ⟨(h c).1.trans ?_, (h c).2⟩)
    (Cert.ProjectRefIdeal.Value.run (F := Ideal) m' ρ')
  obtain ⟨h0, h1, h2⟩ := hagree c
  rw [Cert.ProjectIdeal.Value.final m c, ← h0, ← h1, ← h2]
  rfl

end Cert.Proof.ProjectClaims

end
-- ==== Proof.Epi.Rot.lean ====
module

public import Idealize.ShloMosaic.Lib.Pointwise

@[expose] public section

noncomputable section

open Idealize.ShloMosaic

namespace Cert.Epi

/-- The rotation angle of a position and a column, `c` the literal the column is divided by. -/
def theta (c : BitVec 32) (t n : ℕ) : EReal :=
  FloatOps.sitofp (F := Ideal) FTy.f32 (BitVec.ofNat 32 t) * Ideal.pow (Ideal.ofBits .f32 0x48F42400#32)
    (Ideal.div (-FloatOps.sitofp (F := Ideal) FTy.f32 (BitVec.ofNat 32 n)) (Ideal.ofBits .f32 c))

/-- A row with its first two groups of `h` columns rotated by the angles `θ`. -/
def rot (h : ℕ) (θ : ℕ → EReal) (x : ℕ → EReal) (l : ℕ) : EReal :=
  if l < h then x l * Ideal.cos (θ l) - x (h + l) * Ideal.sin (θ l)
  else if l - h < h then x (l - h) * Ideal.sin (θ (l - h)) + x l * Ideal.cos (θ (l - h))
  else x l

/-- The cosine table of a rotated row: one past the rotated columns. -/
def tc (h : ℕ) (θ : ℕ → EReal) (l : ℕ) : EReal :=
  if l < h then Ideal.cos (θ l) else if l - h < h then Ideal.cos (θ (l - h)) else 1

/-- The sine table of the first group, negated, and zero elsewhere. -/
def ta (h : ℕ) (θ : ℕ → EReal) (l : ℕ) : EReal := if l < h then -Ideal.sin (θ l) else 0

/-- The sine table of the second group, and zero elsewhere. -/
def tb (h : ℕ) (θ : ℕ → EReal) (l : ℕ) : EReal := if l < h then 0 else if l - h < h then Ideal.sin (θ (l - h)) else 0

/-- Three tables and two shifted rows make the rotation. -/
theorem rot_of_tables (h : ℕ) (θ x : ℕ → EReal) (l : ℕ) (u v : EReal) (hu : l < h → u = x (h + l)) (hv : h ≤ l → l - h < h → v = x (l - h)) :
    x l * tc h θ l + u * ta h θ l + v * tb h θ l = rot h θ x l := by
  unfold rot tc ta tb
  by_cases h1 : l < h
  · simp only [if_pos h1, mul_zero, add_zero, hu h1]
    rw [mul_neg, ← sub_eq_add_neg]
  · by_cases h2 : l - h < h
    · simp only [if_neg h1, if_pos h2, mul_zero, add_zero, hv (by omega) h2]
      rw [add_comm]
    · simp only [if_neg h1, if_neg h2, mul_zero, add_zero, mul_one]

/-- The scale of a row of `w` columns: the inverse root of its mean square and the literal added to it, `c` the literal divided by. -/
def scale (w : ℕ) (c : BitVec 32) (x : ℕ → EReal) : EReal :=
  Ideal.rsqrt (Ideal.div (∑ i : Fin w, x i * x i) (Ideal.ofBits .f32 c) + Ideal.ofBits .f32 0x358637BD#32)

/-- A matrix read at a row and any column, zero past the last. -/
def cell {R C : ℕ} (X : FVec Ideal ⟨2, ![R, C]⟩ .f32) (r : Fin R) (n : ℕ) : EReal := if h : n < C then X (ix2 r ⟨n, h⟩) else 0

/-- A matrix at an index is its reading at that row and column. -/
theorem cell_mk {R C : ℕ} (X : FVec Ideal ⟨2, ![R, C]⟩ .f32) (r : Fin R) (n : ℕ) (h : n < C) : X (ix2 r ⟨n, h⟩) = cell X r n := by unfold cell; rw [dif_pos h]

/-- A row's scale depends on the row's columns only. -/
theorem scale_congr (w : ℕ) (b : BitVec 32) (x y : ℕ → EReal) (h : ∀ n, n < w → x n = y n) : scale w b x = scale w b y := by
  unfold scale
  rw [Finset.sum_congr rfl fun i _ => by rw [h i i.isLt]]

/-- The normalised rotary key of a projected row. -/
def krow {R : ℕ} (X : FVec Ideal ⟨2, ![R, 11264]⟩ .f32) (G : FVec Ideal ⟨2, ![1, 64]⟩ .f32) (r : Fin R) (n : ℕ) : EReal :=
  cell X r (4864 + n) * scale 64 0x42800000#32 (fun n => cell X r (4864 + n)) * cell G 0 n

/-- The normalised key of a head of the sparse attention, of a projected row. -/
def drow {R : ℕ} (X : FVec Ideal ⟨2, ![R, 11264]⟩ .f32) (G : FVec Ideal ⟨2, ![1, 128]⟩ .f32) (r : Fin R) (g n : ℕ) : EReal :=
  cell X r (2304 + 128 * g + n) * scale 128 0x43000000#32 (fun n => cell X r (2304 + 128 * g + n)) * cell G 0 n

/-- The indexer's key of a projected row. -/
def irow {R : ℕ} (X : FVec Ideal ⟨2, ![R, 11264]⟩ .f32) (r : Fin R) (n : ℕ) : EReal := cell X r (4928 + n)

end Cert.Epi
end
-- ==== Proof.Epi.Ref.lean ====
module

public import proofs.«01_k».proof.Proof.Gen.EpilogueRefIdeal.Run
public import Idealize.ShloMosaic.Lib.Pipeline.ValueKit
public import Idealize.ShloMosaic.Lib.Pointwise
public import proofs.«01_k».proof.Proof.Epi.Rot

@[expose] public section

set_option maxRecDepth 16384

noncomputable section

open Idealize.ShloMosaic Idealize.ShloMosaic.TcCoe Idealize.SL.Sem

namespace Cert.EpilogueRefIdeal.Value
open Cert.EpilogueRefIdeal Cert.EpilogueRefIdeal.Gen

/-- The projected rows by batch and position. -/
def cube (X : FVec Ideal S8192x11264 .f32) : FVec Ideal S2x4096x11264 .f32 := shapeCast _ X shapeCasts_S8192x11264_S2x4096x11264

/-- The rotation angles of a rotary part of 64 columns. -/
def ang32 : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x48F42400#32)) (Host.divf (Host.negf (sitofp .f32 (iotaInDim S32 32 0))) (broadcastInDim S32 ![] bcast_S_S32 (constant S_ .f32 0x42000000#32))))))

/-- The rotation angles of a rotary part of 32 columns. -/
def ang16 : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The rotation angles of a rotary part of 16 columns. -/
def ang8 : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The latent rows, normalised. -/
def REFckv (X : FVec Ideal S8192x11264 .f32) (G : FVec Ideal S1x512 .f32) : FVec Ideal S8192x512 .f32 :=
  shapeCast _ (mulf (mulf (extractStridedSlice S2x4096x512 ![0, 0, 768] (cube X) slices_S2x4096x11264_S2x4096x512_0_0_768) (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf (extractStridedSlice S2x4096x512 ![0, 0, 768] (cube X) slices_S2x4096x11264_S2x4096x512_0_0_768) (extractStridedSlice S2x4096x512 ![0, 0, 768] (cube X) slices_S2x4096x11264_S2x4096x512_0_0_768)) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 (shapeCast _ G shapeCasts_S1x512_S512)))) shapeCasts_S2x4096x512_S8192x512

/-- The shared rotary key, normalised. -/
def krn (X : FVec Ideal S8192x11264 .f32) (G : FVec Ideal S1x64 .f32) : FVec Ideal S2x4096x64 .f32 :=
  (mulf (mulf (extractStridedSlice S2x4096x64 ![0, 0, 4864] (cube X) slices_S2x4096x11264_S2x4096x64_0_0_4864) (broadcastInDim S2x4096x64 ![0, 1, 2] bcast_S2x4096x1_S2x4096x64_0_1_2 (Host.rsqrt (addf (Host.divf (broadcastInDim S2x4096x1 ![0, 1] bcast_S2x4096_S2x4096x1_0_1 (Host.reduceAdd (mulf (extractStridedSlice S2x4096x64 ![0, 0, 4864] (cube X) slices_S2x4096x11264_S2x4096x64_0_0_4864) (extractStridedSlice S2x4096x64 ![0, 0, 4864] (cube X) slices_S2x4096x11264_S2x4096x64_0_0_4864)) (constant S_ .f32 0x00000000#32) reducesTo_S2x4096x64_S2x4096_d2 h_S_)) (broadcastInDim S2x4096x1 ![] bcast_S_S2x4096x1 (constant S_ .f32 0x42800000#32))) (broadcastInDim S2x4096x1 ![] bcast_S_S2x4096x1 (constant S_ .f32 0x358637BD#32)))))) (broadcastInDim S2x4096x64 ![0, 1, 2] bcast_S1x1x64_S2x4096x64_0_1_2 (broadcastInDim S1x1x64 ![2] bcast_S64_S1x1x64_2 (shapeCast _ G shapeCasts_S1x64_S64))))

/-- The shared rotary key, normalised and rotated. -/
def REFkr (X : FVec Ideal S8192x11264 .f32) (G : FVec Ideal S1x64 .f32) : FVec Ideal S8192x64 .f32 :=
  shapeCast _ (shapeCast _ ((concatenate S2x4096x1x64 3 [⟨S2x4096x1x32, ((subf (mulf (extractStridedSlice S2x4096x1x32 ![0, 0, 0, 0] (broadcastInDim S2x4096x1x64 ![0, 1, 3] bcast_S2x4096x64_S2x4096x1x64_0_1_3 (krn X G)) slices_S2x4096x1x64_S2x4096x1x32_0_0_0_0) (broadcastInDim S2x4096x1x32 ![0, 1, 2, 3] bcast_S1x4096x1x32_S2x4096x1x32_0_1_2_3 (broadcastInDim S1x4096x1x32 ![1, 3] bcast_S4096x32_S1x4096x1x32_1_3 (Host.cos ang32)))) (mulf (extractStridedSlice S2x4096x1x32 ![0, 0, 0, 32] (broadcastInDim S2x4096x1x64 ![0, 1, 3] bcast_S2x4096x64_S2x4096x1x64_0_1_3 (krn X G)) slices_S2x4096x1x64_S2x4096x1x32_0_0_0_32) (broadcastInDim S2x4096x1x32 ![0, 1, 2, 3] bcast_S1x4096x1x32_S2x4096x1x32_0_1_2_3 (broadcastInDim S1x4096x1x32 ![1, 3] bcast_S4096x32_S1x4096x1x32_1_3 (Host.sin ang32))))) : (⟨S2x4096x1x32, .f32⟩ : BufTy).Contents (Elt Ideal))⟩, ⟨S2x4096x1x32, ((addf (mulf (extractStridedSlice S2x4096x1x32 ![0, 0, 0, 0] (broadcastInDim S2x4096x1x64 ![0, 1, 3] bcast_S2x4096x64_S2x4096x1x64_0_1_3 (krn X G)) slices_S2x4096x1x64_S2x4096x1x32_0_0_0_0) (broadcastInDim S2x4096x1x32 ![0, 1, 2, 3] bcast_S1x4096x1x32_S2x4096x1x32_0_1_2_3 (broadcastInDim S1x4096x1x32 ![1, 3] bcast_S4096x32_S1x4096x1x32_1_3 (Host.sin ang32)))) (mulf (extractStridedSlice S2x4096x1x32 ![0, 0, 0, 32] (broadcastInDim S2x4096x1x64 ![0, 1, 3] bcast_S2x4096x64_S2x4096x1x64_0_1_3 (krn X G)) slices_S2x4096x1x64_S2x4096x1x32_0_0_0_32) (broadcastInDim S2x4096x1x32 ![0, 1, 2, 3] bcast_S1x4096x1x32_S2x4096x1x32_0_1_2_3 (broadcastInDim S1x4096x1x32 ![1, 3] bcast_S4096x32_S1x4096x1x32_1_3 (Host.cos ang32))))) : (⟨S2x4096x1x32, .f32⟩ : BufTy).Contents (Elt Ideal))⟩, ⟨S2x4096x1x0, ((extractStridedSlice S2x4096x1x0 ![0, 0, 0, 64] (broadcastInDim S2x4096x1x64 ![0, 1, 3] bcast_S2x4096x64_S2x4096x1x64_0_1_3 (krn X G)) slices_S2x4096x1x64_S2x4096x1x0_0_0_0_64) : (⟨S2x4096x1x0, .f32⟩ : BufTy).Contents (Elt Ideal))⟩] concatenates_S2x4096x1x32_S2x4096x1x32_S2x4096x1x0_S2x4096x1x64_d3 : (⟨S2x4096x1x64, .f32⟩ : BufTy).Contents (Elt Ideal))) shapeCasts_S2x4096x1x64_S2x4096x64) shapeCasts_S2x4096x64_S8192x64

/-- The sparse attention's keys, normalised. -/
def dkn (X : FVec Ideal S8192x11264 .f32) (G : FVec Ideal S1x128 .f32) : FVec Ideal S2x4096x2x128 .f32 :=
  (mulf (mulf (shapeCast _ (extractStridedSlice S2x4096x256 ![0, 0, 2304] (cube X) slices_S2x4096x11264_S2x4096x256_0_0_2304) shapeCasts_S2x4096x256_S2x4096x2x128) (broadcastInDim S2x4096x2x128 ![0, 1, 2, 3] bcast_S2x4096x2x1_S2x4096x2x128_0_1_2_3 (Host.rsqrt (addf (Host.divf (broadcastInDim S2x4096x2x1 ![0, 1, 2] bcast_S2x4096x2_S2x4096x2x1_0_1_2 (Host.reduceAdd (mulf (shapeCast _ (extractStridedSlice S2x4096x256 ![0, 0, 2304] (cube X) slices_S2x4096x11264_S2x4096x256_0_0_2304) shapeCasts_S2x4096x256_S2x4096x2x128) (shapeCast _ (extractStridedSlice S2x4096x256 ![0, 0, 2304] (cube X) slices_S2x4096x11264_S2x4096x256_0_0_2304) shapeCasts_S2x4096x256_S2x4096x2x128)) (constant S_ .f32 0x00000000#32) reducesTo_S2x4096x2x128_S2x4096x2_d3 h_S_)) (broadcastInDim S2x4096x2x1 ![] bcast_S_S2x4096x2x1 (constant S_ .f32 0x43000000#32))) (broadcastInDim S2x4096x2x1 ![] bcast_S_S2x4096x2x1 (constant S_ .f32 0x358637BD#32)))))) (broadcastInDim S2x4096x2x128 ![0, 1, 2, 3] bcast_S1x1x1x128_S2x4096x2x128_0_1_2_3 (broadcastInDim S1x1x1x128 ![3] bcast_S128_S1x1x1x128_3 (shapeCast _ G shapeCasts_S1x128_S128))))

/-- The sparse attention's keys, normalised and rotated. -/
def REFdk (X : FVec Ideal S8192x11264 .f32) (G : FVec Ideal S1x128 .f32) : FVec Ideal S8192x256 .f32 :=
  shapeCast _ ((concatenate S2x4096x2x128 3 [⟨S2x4096x2x16, ((subf (mulf (extractStridedSlice S2x4096x2x16 ![0, 0, 0, 0] (dkn X G) slices_S2x4096x2x128_S2x4096x2x16_0_0_0_0) (broadcastInDim S2x4096x2x16 ![0, 1, 2, 3] bcast_S1x4096x1x16_S2x4096x2x16_0_1_2_3 (broadcastInDim S1x4096x1x16 ![1, 3] bcast_S4096x16_S1x4096x1x16_1_3 (Host.cos ang16)))) (mulf (extractStridedSlice S2x4096x2x16 ![0, 0, 0, 16] (dkn X G) slices_S2x4096x2x128_S2x4096x2x16_0_0_0_16) (broadcastInDim S2x4096x2x16 ![0, 1, 2, 3] bcast_S1x4096x1x16_S2x4096x2x16_0_1_2_3 (broadcastInDim S1x4096x1x16 ![1, 3] bcast_S4096x16_S1x4096x1x16_1_3 (Host.sin ang16))))) : (⟨S2x4096x2x16, .f32⟩ : BufTy).Contents (Elt Ideal))⟩, ⟨S2x4096x2x16, ((addf (mulf (extractStridedSlice S2x4096x2x16 ![0, 0, 0, 0] (dkn X G) slices_S2x4096x2x128_S2x4096x2x16_0_0_0_0) (broadcastInDim S2x4096x2x16 ![0, 1, 2, 3] bcast_S1x4096x1x16_S2x4096x2x16_0_1_2_3 (broadcastInDim S1x4096x1x16 ![1, 3] bcast_S4096x16_S1x4096x1x16_1_3 (Host.sin ang16)))) (mulf (extractStridedSlice S2x4096x2x16 ![0, 0, 0, 16] (dkn X G) slices_S2x4096x2x128_S2x4096x2x16_0_0_0_16) (broadcastInDim S2x4096x2x16 ![0, 1, 2, 3] bcast_S1x4096x1x16_S2x4096x2x16_0_1_2_3 (broadcastInDim S1x4096x1x16 ![1, 3] bcast_S4096x16_S1x4096x1x16_1_3 (Host.cos ang16))))) : (⟨S2x4096x2x16, .f32⟩ : BufTy).Contents (Elt Ideal))⟩, ⟨S2x4096x2x96, ((extractStridedSlice S2x4096x2x96 ![0, 0, 0, 32] (dkn X G) slices_S2x4096x2x128_S2x4096x2x96_0_0_0_32) : (⟨S2x4096x2x96, .f32⟩ : BufTy).Contents (Elt Ideal))⟩] concatenates_S2x4096x2x16_S2x4096x2x16_S2x4096x2x96_S2x4096x2x128_d3 : (⟨S2x4096x2x128, .f32⟩ : BufTy).Contents (Elt Ideal))) shapeCasts_S2x4096x2x128_S8192x256

/-- The sparse attention's values. -/
def REFdv (X : FVec Ideal S8192x11264 .f32) : FVec Ideal S8192x256 .f32 :=
  shapeCast _ (extractStridedSlice S2x4096x256 ![0, 0, 2560] (cube X) slices_S2x4096x11264_S2x4096x256_0_0_2560) shapeCasts_S2x4096x256_S8192x256

/-- The indexer's key before the rotation. -/
def ikn (X : FVec Ideal S8192x11264 .f32) : FVec Ideal S2x4096x1x64 .f32 :=
  (broadcastInDim S2x4096x1x64 ![0, 1, 3] bcast_S2x4096x64_S2x4096x1x64_0_1_3 (extractStridedSlice S2x4096x64 ![0, 0, 4928] (cube X) slices_S2x4096x11264_S2x4096x64_0_0_4928))

/-- The indexer's key, rotated. -/
def REFik (X : FVec Ideal S8192x11264 .f32) : FVec Ideal S8192x64 .f32 :=
  shapeCast _ (shapeCast _ ((concatenate S2x4096x1x64 3 [⟨S2x4096x1x8, ((subf (mulf (extractStridedSlice S2x4096x1x8 ![0, 0, 0, 0] (ikn X) slices_S2x4096x1x64_S2x4096x1x8_0_0_0_0) (broadcastInDim S2x4096x1x8 ![0, 1, 2, 3] bcast_S1x4096x1x8_S2x4096x1x8_0_1_2_3 (broadcastInDim S1x4096x1x8 ![1, 3] bcast_S4096x8_S1x4096x1x8_1_3 (Host.cos ang8)))) (mulf (extractStridedSlice S2x4096x1x8 ![0, 0, 0, 8] (ikn X) slices_S2x4096x1x64_S2x4096x1x8_0_0_0_8) (broadcastInDim S2x4096x1x8 ![0, 1, 2, 3] bcast_S1x4096x1x8_S2x4096x1x8_0_1_2_3 (broadcastInDim S1x4096x1x8 ![1, 3] bcast_S4096x8_S1x4096x1x8_1_3 (Host.sin ang8))))) : (⟨S2x4096x1x8, .f32⟩ : BufTy).Contents (Elt Ideal))⟩, ⟨S2x4096x1x8, ((addf (mulf (extractStridedSlice S2x4096x1x8 ![0, 0, 0, 0] (ikn X) slices_S2x4096x1x64_S2x4096x1x8_0_0_0_0) (broadcastInDim S2x4096x1x8 ![0, 1, 2, 3] bcast_S1x4096x1x8_S2x4096x1x8_0_1_2_3 (broadcastInDim S1x4096x1x8 ![1, 3] bcast_S4096x8_S1x4096x1x8_1_3 (Host.sin ang8)))) (mulf (extractStridedSlice S2x4096x1x8 ![0, 0, 0, 8] (ikn X) slices_S2x4096x1x64_S2x4096x1x8_0_0_0_8) (broadcastInDim S2x4096x1x8 ![0, 1, 2, 3] bcast_S1x4096x1x8_S2x4096x1x8_0_1_2_3 (broadcastInDim S1x4096x1x8 ![1, 3] bcast_S4096x8_S1x4096x1x8_1_3 (Host.cos ang8))))) : (⟨S2x4096x1x8, .f32⟩ : BufTy).Contents (Elt Ideal))⟩, ⟨S2x4096x1x48, ((extractStridedSlice S2x4096x1x48 ![0, 0, 0, 16] (ikn X) slices_S2x4096x1x64_S2x4096x1x48_0_0_0_16) : (⟨S2x4096x1x48, .f32⟩ : BufTy).Contents (Elt Ideal))⟩] concatenates_S2x4096x1x8_S2x4096x1x8_S2x4096x1x48_S2x4096x1x64_d3 : (⟨S2x4096x1x64, .f32⟩ : BufTy).Contents (Elt Ideal))) shapeCasts_S2x4096x1x64_S2x4096x64) shapeCasts_S2x4096x64_S8192x64

open Cert.Epi

/-- The rotation angles of a rotary part of 64 columns, at an index. -/
theorem ang32_at (t : Fin 4096) (n : ℕ) (h : n < 32) : ang32 (ix2 t ⟨n, h⟩) = theta 0x42000000#32 t n := by
  pointwise [ang32]
  rfl

/-- The rotation angles of a rotary part of 32 columns, at an index. -/
theorem ang16_at (t : Fin 4096) (n : ℕ) (h : n < 16) : ang16 (ix2 t ⟨n, h⟩) = theta 0x41800000#32 t n := by
  pointwise [ang16]
  rfl

/-- The rotation angles of a rotary part of 16 columns, at an index. -/
theorem ang8_at (t : Fin 4096) (n : ℕ) (h : n < 8) : ang8 (ix2 t ⟨n, h⟩) = theta 0x41000000#32 t n := by
  pointwise [ang8]
  rfl

/-- The latent rows at an index. -/
theorem ckv_at (X : FVec Ideal S8192x11264 .f32) (G : FVec Ideal S1x512 .f32) (r : Fin 8192) (l : Fin 512) :
    REFckv X G (ix2 r l) = cell X r (768 + l) * scale 512 0x44000000#32 (fun n => cell X r (768 + n)) * cell G 0 l := by
  pointwise [REFckv, cube]
  simp only [cell_mk, scale]

/-- The normalised rotary key at an index. -/
theorem krn_at (X : FVec Ideal S8192x11264 .f32) (G : FVec Ideal S1x64 .f32) (r : Fin 8192) (n : ℕ) (h : n < 64) :
    krn X G (ix3 ⟨(r : ℕ) / 4096, by omega⟩ ⟨(r : ℕ) % 4096, by omega⟩ ⟨n, h⟩) = krow X G r n := by
  have e : (r : ℕ) / 4096 * 4096 + (r : ℕ) % 4096 = r := by omega
  pointwise [krn, cube]
  simp only [e, Fin.eta, cell_mk]
  rfl

/-- The rotated rotary key at an index. -/
theorem kr_at (X : FVec Ideal S8192x11264 .f32) (G : FVec Ideal S1x64 .f32) (r : Fin 8192) (l : Fin 64) :
    REFkr X G (ix2 r l) = rot 32 (theta 0x42000000#32 ((r : ℕ) % 4096)) (krow X G r) l := by
  have e : krn X G (ix3 ⟨(r : ℕ) / 4096, by omega⟩ ⟨(r : ℕ) % 4096, by omega⟩ l) = krow X G r l := krn_at X G r l l.isLt
  pointwise [REFkr]
  simp only [ang32_at, krn_at, e]
  unfold rot
  split_ifs with h1 h2
  · rfl
  · rw [show 32 + ((l : ℕ) - 32) = l by omega]
  · omega

/-- The normalised key of a head at an index. -/
theorem dkn_at (X : FVec Ideal S8192x11264 .f32) (G : FVec Ideal S1x128 .f32) (r : Fin 8192) (g : ℕ) (hg : g < 2) (n : ℕ) (h : n < 128) :
    dkn X G (ix4 ⟨(r : ℕ) / 4096, by omega⟩ ⟨(r : ℕ) % 4096, by omega⟩ ⟨g, hg⟩ ⟨n, h⟩) = drow X G r g n := by
  have e : (r : ℕ) / 4096 * 4096 + (r : ℕ) % 4096 = r := by omega
  have e2 : ∀ n : ℕ, 2304 + (g * 128 + n) = 2304 + 128 * g + n := fun n => by omega
  pointwise [dkn, cube]
  simp only [e, e2, Fin.eta, cell_mk]
  rfl

/-- The rotated keys of the sparse attention at an index. -/
theorem dk_at (X : FVec Ideal S8192x11264 .f32) (G : FVec Ideal S1x128 .f32) (r : Fin 8192) (l : Fin 256) :
    REFdk X G (ix2 r l) = rot 16 (theta 0x41800000#32 ((r : ℕ) % 4096)) (drow X G r ((l : ℕ) / 128)) ((l : ℕ) % 128) := by
  pointwise [REFdk]
  simp only [ang16_at, dkn_at]
  unfold rot
  split_ifs with h1 h2
  · rfl
  · rw [show 16 + ((l : ℕ) % 128 - 16) = (l : ℕ) % 128 by omega]
  · rw [show 32 + ((l : ℕ) % 128 - 16 - 16) = (l : ℕ) % 128 by omega]

/-- The sparse attention's values at an index. -/
theorem dv_at (X : FVec Ideal S8192x11264 .f32) (r : Fin 8192) (l : Fin 256) : REFdv X (ix2 r l) = cell X r (2560 + l) := by
  pointwise [REFdv, cube]
  simp only [cell_mk]

/-- The indexer's key at an index. -/
theorem ikn_at (X : FVec Ideal S8192x11264 .f32) (r : Fin 8192) (n : ℕ) (h : n < 64) :
    ikn X (ix4 ⟨(r : ℕ) / 4096, by omega⟩ ⟨(r : ℕ) % 4096, by omega⟩ 0 ⟨n, h⟩) = irow X r n := by
  have e : (r : ℕ) / 4096 * 4096 + (r : ℕ) % 4096 = r := by omega
  pointwise [ikn, cube]
  simp only [e, Fin.eta, cell_mk]
  rfl

/-- The indexer's rotated key at an index. -/
theorem ik_at (X : FVec Ideal S8192x11264 .f32) (r : Fin 8192) (l : Fin 64) :
    REFik X (ix2 r l) = rot 8 (theta 0x41000000#32 ((r : ℕ) % 4096)) (irow X r) l := by
  have e : ikn X (ix4 ⟨(r : ℕ) / 4096, by omega⟩ ⟨(r : ℕ) % 4096, by omega⟩ 0 l) = irow X r l := ikn_at X r l l.isLt
  have a1 : ¬(l : ℕ) < 8 → 8 + ((l : ℕ) - 8) = l := by omega
  have a2 : ¬(l : ℕ) < 8 → ¬(l : ℕ) - 8 < 8 → 16 + ((l : ℕ) - 8 - 8) = l := by omega
  pointwise [REFik]
  simp only [ang8_at, ikn_at, e]
  unfold rot
  by_cases h1 : (l : ℕ) < 8
  · rw [dif_pos h1, if_pos h1]
  · by_cases h2 : (l : ℕ) - 8 < 8
    · rw [dif_neg h1, if_neg h1, dif_pos h2, if_pos h2, a1 h1]
    · rw [dif_neg h1, if_neg h1, dif_neg h2, if_neg h2, a2 h1 h2]

end Cert.EpilogueRefIdeal.Value
end
-- ==== Proof.Epi.Table.lean ====
module

public import proofs.«01_k».proof.Proof.Gen.EpilogueIdeal.Value
public import proofs.«01_k».proof.Proof.Epi.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.EpilogueIdeal.Value
open Cert.EpilogueIdeal Cert.EpilogueIdeal.Gen Cert.Epi

/-- A constant matrix. -/
abbrev con (s : Shape) (h : S_.BroadcastsInDim s ![]) (b : BitVec 32) : FVec Ideal s .f32 := broadcastInDim s ![] h (constant S_ .f32 b)

/-- The cosines of the shared rotary key. -/
def mc : FVec Ideal S4096x64 .f32 :=
  concatenate S4096x64 1 [⟨S4096x32, (Host.cos Cert.EpilogueRefIdeal.Value.ang32)⟩, ⟨S4096x32, (Host.cos Cert.EpilogueRefIdeal.Value.ang32)⟩, ⟨S4096x0, con S4096x0 bcast_S_S4096x0 0x3F800000#32⟩] concatenates_S4096x32_S4096x32_S4096x0_S4096x64_d1

/-- The cosines of the shared rotary key, at an index. -/
theorem mc_at (t : Fin 4096) (l : Fin 64) : mc (ix2 t l) = tc 32 (theta 0x42000000#32 t) l := by
  have hl := l.isLt
  pointwise [mc]
  simp only [Cert.EpilogueRefIdeal.Value.ang32_at]
  unfold tc
  split_ifs <;> first | rfl | (exfalso; omega) | simp

/-- The negated sines of the shared rotary key. -/
def ma : FVec Ideal S4096x64 .f32 :=
  concatenate S4096x64 1 [⟨S4096x32, (Host.negf (Host.sin Cert.EpilogueRefIdeal.Value.ang32))⟩, ⟨S4096x32, (con S4096x32 bcast_S_S4096x32 0x00000000#32)⟩, ⟨S4096x0, con S4096x0 bcast_S_S4096x0 0x00000000#32⟩] concatenates_S4096x32_S4096x32_S4096x0_S4096x64_d1

/-- The negated sines of the shared rotary key, at an index. -/
theorem ma_at (t : Fin 4096) (l : Fin 64) : ma (ix2 t l) = ta 32 (theta 0x42000000#32 t) l := by
  have hl := l.isLt
  pointwise [ma]
  simp only [Cert.EpilogueRefIdeal.Value.ang32_at]
  unfold ta
  split_ifs <;> first | rfl | (exfalso; omega) | simp

/-- The sines of the shared rotary key. -/
def mb : FVec Ideal S4096x64 .f32 :=
  concatenate S4096x64 1 [⟨S4096x32, (con S4096x32 bcast_S_S4096x32 0x00000000#32)⟩, ⟨S4096x32, (Host.sin Cert.EpilogueRefIdeal.Value.ang32)⟩, ⟨S4096x0, con S4096x0 bcast_S_S4096x0 0x00000000#32⟩] concatenates_S4096x32_S4096x32_S4096x0_S4096x64_d1

/-- The sines of the shared rotary key, at an index. -/
theorem mb_at (t : Fin 4096) (l : Fin 64) : mb (ix2 t l) = tb 32 (theta 0x42000000#32 t) l := by
  have hl := l.isLt
  pointwise [mb]
  simp only [Cert.EpilogueRefIdeal.Value.ang32_at]
  unfold tb
  split_ifs <;> first | rfl | (exfalso; omega) | simp

/-- The cosines of the sparse attention. -/
def dc : FVec Ideal S4096x128 .f32 :=
  concatenate S4096x128 1 [⟨S4096x16, (Host.cos Cert.EpilogueRefIdeal.Value.ang16)⟩, ⟨S4096x16, (Host.cos Cert.EpilogueRefIdeal.Value.ang16)⟩, ⟨S4096x96, con S4096x96 bcast_S_S4096x96 0x3F800000#32⟩] concatenates_S4096x16_S4096x16_S4096x96_S4096x128_d1

/-- The cosines of the sparse attention, at an index. -/
theorem dc_at (t : Fin 4096) (l : Fin 128) : dc (ix2 t l) = tc 16 (theta 0x41800000#32 t) l := by
  have hl := l.isLt
  pointwise [dc]
  simp only [Cert.EpilogueRefIdeal.Value.ang16_at]
  unfold tc
  split_ifs <;> first | rfl | (exfalso; omega) | simp

/-- The negated sines of the sparse attention. -/
def da : FVec Ideal S4096x128 .f32 :=
  concatenate S4096x128 1 [⟨S4096x16, (Host.negf (Host.sin Cert.EpilogueRefIdeal.Value.ang16))⟩, ⟨S4096x16, (con S4096x16 bcast_S_S4096x16 0x00000000#32)⟩, ⟨S4096x96, con S4096x96 bcast_S_S4096x96 0x00000000#32⟩] concatenates_S4096x16_S4096x16_S4096x96_S4096x128_d1

/-- The negated sines of the sparse attention, at an index. -/
theorem da_at (t : Fin 4096) (l : Fin 128) : da (ix2 t l) = ta 16 (theta 0x41800000#32 t) l := by
  have hl := l.isLt
  pointwise [da]
  simp only [Cert.EpilogueRefIdeal.Value.ang16_at]
  unfold ta
  split_ifs <;> first | rfl | (exfalso; omega) | simp

/-- The sines of the sparse attention. -/
def db : FVec Ideal S4096x128 .f32 :=
  concatenate S4096x128 1 [⟨S4096x16, (con S4096x16 bcast_S_S4096x16 0x00000000#32)⟩, ⟨S4096x16, (Host.sin Cert.EpilogueRefIdeal.Value.ang16)⟩, ⟨S4096x96, con S4096x96 bcast_S_S4096x96 0x00000000#32⟩] concatenates_S4096x16_S4096x16_S4096x96_S4096x128_d1

/-- The sines of the sparse attention, at an index. -/
theorem db_at (t : Fin 4096) (l : Fin 128) : db (ix2 t l) = tb 16 (theta 0x41800000#32 t) l := by
  have hl := l.isLt
  pointwise [db]
  simp only [Cert.EpilogueRefIdeal.Value.ang16_at]
  unfold tb
  split_ifs <;> first | rfl | (exfalso; omega) | simp

/-- The cosines of the indexer. -/
def ic : FVec Ideal S4096x64 .f32 :=
  concatenate S4096x64 1 [⟨S4096x8, (Host.cos Cert.EpilogueRefIdeal.Value.ang8)⟩, ⟨S4096x8, (Host.cos Cert.EpilogueRefIdeal.Value.ang8)⟩, ⟨S4096x48, con S4096x48 bcast_S_S4096x48 0x3F800000#32⟩] concatenates_S4096x8_S4096x8_S4096x48_S4096x64_d1

/-- The cosines of the indexer, at an index. -/
theorem ic_at (t : Fin 4096) (l : Fin 64) : ic (ix2 t l) = tc 8 (theta 0x41000000#32 t) l := by
  have hl := l.isLt
  pointwise [ic]
  simp only [Cert.EpilogueRefIdeal.Value.ang8_at]
  unfold tc
  split_ifs <;> first | rfl | (exfalso; omega) | simp

/-- The negated sines of the indexer. -/
def ia : FVec Ideal S4096x64 .f32 :=
  concatenate S4096x64 1 [⟨S4096x8, (Host.negf (Host.sin Cert.EpilogueRefIdeal.Value.ang8))⟩, ⟨S4096x8, (con S4096x8 bcast_S_S4096x8 0x00000000#32)⟩, ⟨S4096x48, con S4096x48 bcast_S_S4096x48 0x00000000#32⟩] concatenates_S4096x8_S4096x8_S4096x48_S4096x64_d1

/-- The negated sines of the indexer, at an index. -/
theorem ia_at (t : Fin 4096) (l : Fin 64) : ia (ix2 t l) = ta 8 (theta 0x41000000#32 t) l := by
  have hl := l.isLt
  pointwise [ia]
  simp only [Cert.EpilogueRefIdeal.Value.ang8_at]
  unfold ta
  split_ifs <;> first | rfl | (exfalso; omega) | simp

/-- The sines of the indexer. -/
def ib : FVec Ideal S4096x64 .f32 :=
  concatenate S4096x64 1 [⟨S4096x8, (con S4096x8 bcast_S_S4096x8 0x00000000#32)⟩, ⟨S4096x8, (Host.sin Cert.EpilogueRefIdeal.Value.ang8)⟩, ⟨S4096x48, con S4096x48 bcast_S_S4096x48 0x00000000#32⟩] concatenates_S4096x8_S4096x8_S4096x48_S4096x64_d1

/-- The sines of the indexer, at an index. -/
theorem ib_at (t : Fin 4096) (l : Fin 64) : ib (ix2 t l) = tb 8 (theta 0x41000000#32 t) l := by
  have hl := l.isLt
  pointwise [ib]
  simp only [Cert.EpilogueRefIdeal.Value.ang8_at]
  unfold tb
  split_ifs <;> first | rfl | (exfalso; omega) | simp

/-- A table of 64 columns twice. -/
def rep64 (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128

/-- A table of 128 columns once. -/
def rep128 (x : FVec Ideal S4096x128 .f32) : FVec Ideal S4096x128 .f32 :=
  shapeCast S4096x128 (broadcastInDim S1x4096x1x128 ![0, 1, 2, 3] bcast_S1x4096x1x128_S1x4096x1x128_0_1_2_3 (shapeCast S1x4096x1x128 x shapeCasts_S4096x128_S1x4096x1x128)) shapeCasts_S1x4096x1x128_S4096x128

/-- A table of 128 columns once is the table. -/
theorem rep128_at (x : FVec Ideal S4096x128 .f32) (t : Fin 4096) (l : Fin 128) : rep128 x (ix2 t l) = x (ix2 t l) := by
  pointwise [rep128]

/-- Two tables of 64 columns side by side. -/
def two (x y : FVec Ideal S4096x64 .f32) : FVec Ideal S4096x128 .f32 :=
  concatenate S4096x128 1 [⟨S4096x64, x⟩, ⟨S4096x64, y⟩] concatenates_S4096x64_S4096x64_S4096x128_d1

/-- The left one's columns. -/
theorem two_left (x y : FVec Ideal S4096x64 .f32) (t : Fin 4096) (l : Fin 128) (h : l.val < 64) : two x y (ix2 t l) = x (ix2 t ⟨l, h⟩) := by
  pointwise [two]
  rw [dif_pos h]

/-- The right one's columns. -/
theorem two_right (x y : FVec Ideal S4096x64 .f32) (t : Fin 4096) (l : Fin 128) (h : ¬ l.val < 64) : two x y (ix2 t l) = y (ix2 t ⟨l - 64, by omega⟩) := by
  pointwise [two]
  rw [dif_neg h]

/-- Zeros. -/
abbrev zed : FVec Ideal S4096x64 .f32 := con S4096x64 bcast_S_S4096x64 0x00000000#32

/-- The zeros at an index. -/
theorem zed_at (t : Fin 4096) (l : Fin 64) : zed (ix2 t l) = (0 : EReal) := by
  pointwise [zed, con]

/-- The host's fourteen tables side by side. -/
def RT : FVec Ideal S4096x1792 .f32 :=
  concatenate S4096x1792 1 [⟨S4096x128, rep64 mc⟩,
    ⟨S4096x128, rep64 ma⟩,
    ⟨S4096x128, rep64 mb⟩,
    ⟨S4096x128, rep128 dc⟩,
    ⟨S4096x128, rep128 da⟩,
    ⟨S4096x128, rep128 db⟩,
    ⟨S4096x128, rep64 ic⟩,
    ⟨S4096x128, rep64 ia⟩,
    ⟨S4096x128, rep64 ib⟩,
    ⟨S4096x128, two mc ic⟩,
    ⟨S4096x128, two ma zed⟩,
    ⟨S4096x128, two mb zed⟩,
    ⟨S4096x128, two zed ia⟩,
    ⟨S4096x128, two zed ib⟩]
    concatenates_S4096x128_S4096x128_S4096x128_S4096x128_S4096x128_S4096x128_S4096x128_S4096x128_S4096x128_S4096x128_S4096x128_S4096x128_S4096x128_S4096x128_S4096x1792_d1

set_option maxHeartbeats 4000000 in
/-- The table's window holds the fourteen tables. -/
theorem host_rt (m : (ℓ : Loc nD τ sig) → Buf (Elt Ideal) ℓ) (c : Dev nD) : (V m c main_v95 : FVec Ideal S4096x1792 .f32) = RT := by
  show StableHlo.after hostOps0 (fun b => m (c, b)) (Proc.tc.devRef main_v95) = _
  after_results_simp <;> (try dsimp only [Matrix.cons_val]) <;> (try after_results_simp) <;> rfl

/-- Table 3 of the fourteen. -/
theorem slot3 (t : Fin 4096) (l : Fin 128) : RT (ix2 t ⟨384 + l, by omega⟩) = (rep128 dc) (ix2 t l) := by
  unfold RT
  exact concatenate_apply_piece (1 : Fin S4096x1792.rank) _ _ _ 3 (by decide) S4096x128 (rep128 dc) rfl rfl 384 rfl (ix2 t l) (by intro b hb; fin_cases b <;> first | rfl | (exact absurd rfl hb)) rfl

/-- Table 4 of the fourteen. -/
theorem slot4 (t : Fin 4096) (l : Fin 128) : RT (ix2 t ⟨512 + l, by omega⟩) = (rep128 da) (ix2 t l) := by
  unfold RT
  exact concatenate_apply_piece (1 : Fin S4096x1792.rank) _ _ _ 4 (by decide) S4096x128 (rep128 da) rfl rfl 512 rfl (ix2 t l) (by intro b hb; fin_cases b <;> first | rfl | (exact absurd rfl hb)) rfl

/-- Table 5 of the fourteen. -/
theorem slot5 (t : Fin 4096) (l : Fin 128) : RT (ix2 t ⟨640 + l, by omega⟩) = (rep128 db) (ix2 t l) := by
  unfold RT
  exact concatenate_apply_piece (1 : Fin S4096x1792.rank) _ _ _ 5 (by decide) S4096x128 (rep128 db) rfl rfl 640 rfl (ix2 t l) (by intro b hb; fin_cases b <;> first | rfl | (exact absurd rfl hb)) rfl

/-- Table 9 of the fourteen. -/
theorem slot9 (t : Fin 4096) (l : Fin 128) : RT (ix2 t ⟨1152 + l, by omega⟩) = (two mc ic) (ix2 t l) := by
  unfold RT
  exact concatenate_apply_piece (1 : Fin S4096x1792.rank) _ _ _ 9 (by decide) S4096x128 (two mc ic) rfl rfl 1152 rfl (ix2 t l) (by intro b hb; fin_cases b <;> first | rfl | (exact absurd rfl hb)) rfl

/-- Table 10 of the fourteen. -/
theorem slot10 (t : Fin 4096) (l : Fin 128) : RT (ix2 t ⟨1280 + l, by omega⟩) = (two ma zed) (ix2 t l) := by
  unfold RT
  exact concatenate_apply_piece (1 : Fin S4096x1792.rank) _ _ _ 10 (by decide) S4096x128 (two ma zed) rfl rfl 1280 rfl (ix2 t l) (by intro b hb; fin_cases b <;> first | rfl | (exact absurd rfl hb)) rfl

/-- Table 11 of the fourteen. -/
theorem slot11 (t : Fin 4096) (l : Fin 128) : RT (ix2 t ⟨1408 + l, by omega⟩) = (two mb zed) (ix2 t l) := by
  unfold RT
  exact concatenate_apply_piece (1 : Fin S4096x1792.rank) _ _ _ 11 (by decide) S4096x128 (two mb zed) rfl rfl 1408 rfl (ix2 t l) (by intro b hb; fin_cases b <;> first | rfl | (exact absurd rfl hb)) rfl

/-- Table 12 of the fourteen. -/
theorem slot12 (t : Fin 4096) (l : Fin 128) : RT (ix2 t ⟨1536 + l, by omega⟩) = (two zed ia) (ix2 t l) := by
  unfold RT
  exact concatenate_apply_piece (1 : Fin S4096x1792.rank) _ _ _ 12 (by decide) S4096x128 (two zed ia) rfl rfl 1536 rfl (ix2 t l) (by intro b hb; fin_cases b <;> first | rfl | (exact absurd rfl hb)) rfl

/-- Table 13 of the fourteen. -/
theorem slot13 (t : Fin 4096) (l : Fin 128) : RT (ix2 t ⟨1664 + l, by omega⟩) = (two zed ib) (ix2 t l) := by
  unfold RT
  exact concatenate_apply_piece (1 : Fin S4096x1792.rank) _ _ _ 13 (by decide) S4096x128 (two zed ib) rfl rfl 1664 rfl (ix2 t l) (by intro b hb; fin_cases b <;> first | rfl | (exact absurd rfl hb)) rfl

end Cert.EpilogueIdeal.Value
end
-- ==== Proof.Epi.Pay.lean ====
module

public import proofs.«01_k».proof.Proof.Gen.EpilogueIdeal.Skeleton
public import Idealize.ShloMosaic.Lib.Pipeline.ValueKit
public import Idealize.ShloMosaic.Lib.Pointwise
public import proofs.«01_k».proof.Proof.Epi.Rot

@[expose] public section

set_option maxRecDepth 16384

noncomputable section

open Idealize.ShloMosaic Idealize.ShloMosaic.TcCoe Idealize.SL.Sem

namespace Cert.EpilogueIdeal.Value
open Cert.EpilogueIdeal Cert.EpilogueIdeal.Gen Cert.Epi

/-- The latent rows of a block at an index. -/
theorem pay58_at (x : Vec Ideal S256x512 .f32) (g : Vec Ideal S1x512 .f32) (a : Fin 256) (l : Fin 512) :
    (k0_pay58 x g (ix2 a l) : EReal) = cell (C := 512) x a l * scale 512 0x44000000#32 (cell (C := 512) x a) * cell (C := 512) g 0 l := by
  pointwise [k0_pay58]
  simp only [cell_mk, scale]

/-- A normalised row of the sparse attention's keys. -/
def nrm (x : Vec Ideal S256x128 .f32) (g : Vec Ideal S1x128 .f32) (a : Fin 256) (n : ℕ) : EReal :=
  cell (C := 128) x a n * scale 128 0x43000000#32 (cell (C := 128) x a) * cell (C := 128) g 0 n

/-- A block of the sparse attention's keys at an index: the normalised row, and it shifted both ways, by the tables. -/
theorem pay98_at (x : Vec Ideal S256x128 .f32) (g : Vec Ideal S1x128 .f32) (p q r : Vec Ideal S256x128 .f32) (a : Fin 256) (l : Fin 128) :
    (k0_pay98 x g p q r (ix2 a l) : EReal) = nrm x g a l * p (ix2 a l) + nrm x g a ((l + 128 - 112) % 128) * q (ix2 a l)
      + nrm x g a ((l + 128 - 16) % 128) * r (ix2 a l) := by
  pointwise [k0_pay98]
  simp only [nrm, cell_mk, scale]

/-- The other group's block is made as the first's. -/
theorem pay100_eq : @k0_pay100 Ideal _ = @k0_pay98 Ideal _ := rfl

/-- The mask's word at a lane. -/
theorem lane_lt (l : Fin 128) : IntOp.cmpi CmpIPredicate.slt (BitVec.ofNat 32 (l : ℕ)) 64#32 = if (l : ℕ) < 64 then 1#1 else 0#1 := by
  revert l
  decide +kernel

/-- A choice by the mask's word is the choice by the lane. -/
theorem pick (l : Fin 128) (a b : EReal) :
    Scalar.select (IntOp.cmpi CmpIPredicate.slt (BitVec.ofNat 32 (l : ℕ)) 64#32) a b = if (l : ℕ) < 64 then a else b := by
  rw [lane_lt]
  by_cases h : (l : ℕ) < 64 <;> simp [h, Scalar.select]

/-- The sum of a row's 128 lanes with all but 64 of them zero. -/
theorem sum_half (f : ℕ → EReal) : (∑ l : Fin 128, if (l : ℕ) < 64 then f l else 0) = ∑ i : Fin 64, f i := by
  rw [Fin.sum_univ_add (M := EReal) (a := 64) (b := 64) fun l : Fin (64 + 64) => if (l : ℕ) < 64 then f l else 0]
  simp

/-- The product with a sixty-fourth is the quotient by sixty-four. -/
theorem mul_inv64 (x : EReal) : x * Ideal.ofBits .f32 0x3C800000#32 = Ideal.div x (Ideal.ofBits .f32 0x42800000#32) := by
  have e : Ideal.ofBits .f32 0x42800000#32 = ((64 : ℝ) : EReal) := by simp [Ideal.ofBits, Ideal.ieee, -EReal.coe_mul]; norm_num
  have e' : Ideal.ofBits .f32 0x3C800000#32 = (((64 : ℝ)⁻¹ : ℝ) : EReal) := by simp [Ideal.ofBits, Ideal.ieee, -EReal.coe_mul]; norm_num
  have h0 : ((64 : ℝ) : EReal) ≠ 0 := EReal.coe_ne_zero.mpr (by norm_num)
  rw [e, e', EReal.coe_inv, Ideal.div, if_neg h0]

/-- The rotary key normalised in the first 64 columns, the indexer's key as it is in the others. -/
theorem pay59_at (x : Vec Ideal S256x128 .f32) (g : Vec Ideal S1x128 .f32) (a : Fin 256) (l : Fin 128) :
    (k0_pay59 k0_pay1 x g (ix2 a l) : EReal) = if (l : ℕ) < 64 then cell (C := 128) x a l * scale 64 0x42800000#32 (cell (C := 128) x a) * cell (C := 128) g 0 l
      else cell (C := 128) x a l := by
  pointwise [k0_pay59, k0_pay1]
  simp only [pick, cell_mk]
  rw [sum_half fun n => cell (C := 128) x a n * cell (C := 128) x a n, mul_inv64]
  rfl

/-- The two rotated keys at an index: the row, and it shifted by 32 and by 8 both ways, by the tables. -/
theorem pay62_at (T q r s u : Vec Ideal S256x128 .f32) (x : Vec Ideal S256x128 .f32) (g : Vec Ideal S1x128 .f32) (a : Fin 256) (l : Fin 128) :
    (k0_pay62 (k0_pay59 k0_pay1 x g) (k0_pay60 k0_pay1 x g T) (k0_pay61 k0_pay1 x g) q r s u (ix2 a l) : EReal)
      = cell (C := 128) (k0_pay59 k0_pay1 x g) a l * T (ix2 a l) + cell (C := 128) (k0_pay59 k0_pay1 x g) a ((l + 128 - 96) % 128) * q (ix2 a l)
        + cell (C := 128) (k0_pay59 k0_pay1 x g) a ((l + 128 - 32) % 128) * r (ix2 a l) + cell (C := 128) (k0_pay59 k0_pay1 x g) a ((l + 128 - 120) % 128) * s (ix2 a l)
        + cell (C := 128) (k0_pay59 k0_pay1 x g) a ((l + 128 - 8) % 128) * u (ix2 a l) := by
  unfold k0_pay62 k0_pay60 k0_pay61
  generalize k0_pay59 k0_pay1 x g = B
  pointwise []
  simp only [cell_mk]

end Cert.EpilogueIdeal.Value
end
-- ==== Proof.Epi.Block.lean ====
module

public import proofs.«01_k».proof.Proof.Epi.Pay

@[expose] public section

set_option maxRecDepth 16384

noncomputable section

open Idealize.ShloMosaic Idealize.ShloMosaic.TcCoe Idealize.SL.Sem

namespace Cert.EpilogueIdeal.Value
open Cert.EpilogueIdeal Cert.EpilogueIdeal.Gen Cert.Epi

/-- A row of a block holds the first 5120 columns of a row of the projected array. -/
def OfRow {R : ℕ} (X : FVec Ideal ⟨2, ![R, 11264]⟩ .f32) (B : FVec Ideal S256x5120 .f32) (a : Fin 256) (r : Fin R) : Prop :=
  ∀ p : ℕ, p < 5120 → cell B a p = cell X r p

/-- A row of a block of tables holds the rotations' cosines and sines at a position: the sparse attention's three tables, and the
    five of the two keys. -/
def Tables (T : FVec Ideal S256x1792 .f32) (a : Fin 256) (p : ℕ) : Prop := ∀ l : Fin 128,
  T (ix2 a ⟨384 + l, by omega⟩) = tc 16 (theta 0x41800000#32 p) l
  ∧ T (ix2 a ⟨512 + l, by omega⟩) = ta 16 (theta 0x41800000#32 p) l
  ∧ T (ix2 a ⟨640 + l, by omega⟩) = tb 16 (theta 0x41800000#32 p) l
  ∧ T (ix2 a ⟨1152 + l, by omega⟩) = (if (l : ℕ) < 64 then tc 32 (theta 0x42000000#32 p) l else tc 8 (theta 0x41000000#32 p) (l - 64 : ℕ))
  ∧ T (ix2 a ⟨1280 + l, by omega⟩) = (if (l : ℕ) < 64 then ta 32 (theta 0x42000000#32 p) l else 0)
  ∧ T (ix2 a ⟨1408 + l, by omega⟩) = (if (l : ℕ) < 64 then tb 32 (theta 0x42000000#32 p) l else 0)
  ∧ T (ix2 a ⟨1536 + l, by omega⟩) = (if (l : ℕ) < 64 then 0 else ta 8 (theta 0x41000000#32 p) (l - 64 : ℕ))
  ∧ T (ix2 a ⟨1664 + l, by omega⟩) = (if (l : ℕ) < 64 then 0 else tb 8 (theta 0x41000000#32 p) (l - 64 : ℕ))

variable {R : ℕ} {X : FVec Ideal ⟨2, ![R, 11264]⟩ .f32} {B : FVec Ideal S256x5120 .f32} {T : FVec Ideal S256x1792 .f32}
  {a : Fin 256} {r : Fin R} {p : ℕ}

/-- A cut of columns of a block's row. -/
theorem ld_row (hB : OfRow X B a r) (o w : ℕ) (h) (n : ℕ) (hn : n < w) :
    cell (R := 256) (C := w) (View.ld (Val := Elt Ideal) (e' := .f32) B (Rect.unit (s := S256x5120) ![0, o] ![256, w] h)) a n = cell X r (o + n) := by
  have hw : o + w ≤ 5120 := h 1
  rw [← cell_mk _ a n hn, ← hB _ (by omega : o + n < 5120), ← cell_mk B a (o + n) (by omega)]
  show B _ = _
  congr 1
  blk_ext [] <;> rw [Rect.idx_unit_val] <;> simp

/-- A cut of 128 columns of a block of tables. -/
theorem ld_tab (T : FVec Ideal S256x1792 .f32) (o : ℕ) (h) (a : Fin 256) (l : Fin 128) (ho : o + l.val < 1792) :
    (View.ld (Val := Elt Ideal) (e' := .f32) T (Rect.unit (s := S256x1792) ![0, o] ![256, 128] h) (ix2 a l) : EReal) = T (ix2 a ⟨o + l, ho⟩) := by
  show T _ = _
  congr 1
  blk_ext [] <;> rw [Rect.idx_unit_val] <;> simp

/-- The latent rows of a block. -/
theorem ckv_block (hB : OfRow X B a r) (G' G : FVec Ideal S1x512 .f32) (hG : ∀ l : Fin 512, cell G' 0 l = cell G 0 l) (h) (l : Fin 512) :
    (k0_pay58 (View.ld (Val := Elt Ideal) (e' := .f32) B (Rect.unit (s := S256x5120) ![0, 768] ![256, 512] h)) G' (ix2 a l) : EReal)
      = cell X r (768 + l) * scale 512 0x44000000#32 (fun n => cell X r (768 + n)) * cell G 0 l := by
  refine (pay58_at _ _ a l).trans ?_
  rw [ld_row hB 768 512 _ l l.isLt, hG l, scale_congr 512 _ _ _ fun k hk => ld_row hB 768 512 _ k hk]

/-- A block's normalised key of a head. -/
theorem nrm_eq (hB : OfRow X B a r) (G' G : FVec Ideal S1x128 .f32) (hG : ∀ l : Fin 128, cell G' 0 l = cell G 0 l)
    (g o : ℕ) (ho : o = 2304 + 128 * g) (h) (n : ℕ) (hn : n < 128) :
    nrm (View.ld (Val := Elt Ideal) (e' := .f32) B (Rect.unit (s := S256x5120) ![0, o] ![256, 128] h)) G' a n = drow X G r g n := by
  subst ho
  unfold nrm drow
  rw [ld_row hB _ 128 h n hn, hG ⟨n, hn⟩, scale_congr 128 _ _ _ fun k hk => ld_row hB _ 128 h k hk]

/-- A head's rotated keys over a block: the tables' sum is the rotation. -/
theorem dk_block (hB : OfRow X B a r) (hT : Tables T a p) (G' G : FVec Ideal S1x128 .f32) (hG : ∀ l : Fin 128, cell G' 0 l = cell G 0 l)
    (g o : ℕ) (ho : o = 2304 + 128 * g) (h h3 h4 h5) (l : Fin 128) :
    (k0_pay98 (View.ld (Val := Elt Ideal) (e' := .f32) B (Rect.unit (s := S256x5120) ![0, o] ![256, 128] h)) G'
      (View.ld (Val := Elt Ideal) (e' := .f32) T (Rect.unit (s := S256x1792) ![0, 384] ![256, 128] h3))
      (View.ld (Val := Elt Ideal) (e' := .f32) T (Rect.unit (s := S256x1792) ![0, 512] ![256, 128] h4))
      (View.ld (Val := Elt Ideal) (e' := .f32) T (Rect.unit (s := S256x1792) ![0, 640] ![256, 128] h5)) (ix2 a l) : EReal)
    = rot 16 (theta 0x41800000#32 p) (drow X G r g) l := by
  have hl := l.isLt
  obtain ⟨e3, e4, e5, _⟩ := hT l
  rw [pay98_at, ld_tab T 384 h3 a l (by omega), ld_tab T 512 h4 a l (by omega), ld_tab T 640 h5 a l (by omega), e3, e4, e5,
    nrm_eq hB G' G hG g o ho h l hl, nrm_eq hB G' G hG g o ho h _ (Nat.mod_lt _ (by decide)), nrm_eq hB G' G hG g o ho h _ (Nat.mod_lt _ (by decide))]
  refine rot_of_tables 16 _ _ _ _ _ (fun h => congrArg _ (by omega)) (fun h h' => congrArg _ (by omega))

/-- The two keys of a row: the normalised rotary key in the first 64 lanes, the indexer's in the others. -/
def both (X : FVec Ideal ⟨2, ![R, 11264]⟩ .f32) (G : FVec Ideal S1x64 .f32) (r : Fin R) (n : ℕ) : EReal :=
  if n < 64 then krow X G r n else irow X r (n - 64)

/-- A block's row of the two keys. -/
theorem both_eq (hB : OfRow X B a r) (G' : FVec Ideal S1x128 .f32) (G : FVec Ideal S1x64 .f32) (hG : ∀ l : Fin 64, cell G' 0 l = cell G 0 l)
    (h) (n : ℕ) (hn : n < 128) :
    cell (R := 256) (C := 128) (k0_pay59 k0_pay1 (View.ld (Val := Elt Ideal) (e' := .f32) B (Rect.unit (s := S256x5120) ![0, 4864] ![256, 128] h)) G') a n = both X G r n := by
  rw [← cell_mk _ a n hn, pay59_at]
  unfold both krow irow
  simp only [ld_row hB _ 128 h n hn, scale_congr 64 _ _ _ fun k hk => ld_row hB 4864 128 h k (by omega)]
  by_cases h1 : n < 64
  · rw [if_pos h1, if_pos h1, hG ⟨n, h1⟩]
  · rw [if_neg h1, if_neg h1]
    exact congrArg _ (by omega)

/-- The two rotated keys over a block. -/
theorem both_block (hB : OfRow X B a r) (hT : Tables T a p) (G' : FVec Ideal S1x128 .f32) (G : FVec Ideal S1x64 .f32)
    (hG : ∀ l : Fin 64, cell G' 0 l = cell G 0 l) (h h9 h10 h11 h12 h13) (l : Fin 128) :
    (k0_pay62 (k0_pay59 k0_pay1 (View.ld (Val := Elt Ideal) (e' := .f32) B (Rect.unit (s := S256x5120) ![0, 4864] ![256, 128] h)) G')
      (k0_pay60 k0_pay1 (View.ld (Val := Elt Ideal) (e' := .f32) B (Rect.unit (s := S256x5120) ![0, 4864] ![256, 128] h)) G'
        (View.ld (Val := Elt Ideal) (e' := .f32) T (Rect.unit (s := S256x1792) ![0, 1152] ![256, 128] h9)))
      (k0_pay61 k0_pay1 (View.ld (Val := Elt Ideal) (e' := .f32) B (Rect.unit (s := S256x5120) ![0, 4864] ![256, 128] h)) G')
      (View.ld (Val := Elt Ideal) (e' := .f32) T (Rect.unit (s := S256x1792) ![0, 1280] ![256, 128] h10))
      (View.ld (Val := Elt Ideal) (e' := .f32) T (Rect.unit (s := S256x1792) ![0, 1408] ![256, 128] h11))
      (View.ld (Val := Elt Ideal) (e' := .f32) T (Rect.unit (s := S256x1792) ![0, 1536] ![256, 128] h12))
      (View.ld (Val := Elt Ideal) (e' := .f32) T (Rect.unit (s := S256x1792) ![0, 1664] ![256, 128] h13)) (ix2 a l) : EReal)
    = if (l : ℕ) < 64 then rot 32 (theta 0x42000000#32 p) (krow X G r) l else rot 8 (theta 0x41000000#32 p) (irow X r) (l - 64 : ℕ) := by
  have hl := l.isLt
  have hm : ∀ k : ℕ, k % 128 < 128 := fun k => Nat.mod_lt _ (by decide)
  obtain ⟨_, _, _, e9, e10, e11, e12, e13⟩ := hT l
  rw [pay62_at, ld_tab T 1152 h9 a l (by omega), ld_tab T 1280 h10 a l (by omega), ld_tab T 1408 h11 a l (by omega),
    ld_tab T 1536 h12 a l (by omega), ld_tab T 1664 h13 a l (by omega), e9, e10, e11, e12, e13,
    both_eq hB G' G hG h l hl, both_eq hB G' G hG h _ (hm _), both_eq hB G' G hG h _ (hm _), both_eq hB G' G hG h _ (hm _), both_eq hB G' G hG h _ (hm _)]
  by_cases h1 : (l : ℕ) < 64
  · simp only [if_pos h1, mul_zero, add_zero]
    rw [show both X G r l = _ from if_pos h1]
    refine rot_of_tables 32 _ _ _ _ _ (fun h => ?_) (fun h h' => ?_)
    · have e : ((l : ℕ) + 128 - 96) % 128 = 32 + l := by omega
      rw [e, both, if_pos (by omega)]
    · have e : ((l : ℕ) + 128 - 32) % 128 = l - 32 := by omega
      rw [e, both, if_pos (by omega)]
  · simp only [if_neg h1, mul_zero, add_zero]
    rw [show both X G r l = _ from if_neg h1]
    refine rot_of_tables 8 _ _ _ _ _ (fun h => ?_) (fun h h' => ?_)
    · have h : (l : ℕ) - 64 < 8 := h
      have e : ((l : ℕ) + 128 - 120) % 128 = 72 + (l - 64) := by omega
      rw [e, both, if_neg (by omega)]
      exact congrArg _ (show 72 + ((l : ℕ) - 64) - 64 = 8 + (l - 64) by omega)
    · have h : 8 ≤ (l : ℕ) - 64 := h
      have e : ((l : ℕ) + 128 - 8) % 128 = l - 8 := by omega
      rw [e, both, if_neg (by omega)]
      exact congrArg _ (show (l : ℕ) - 8 - 64 = l - 64 - 8 by omega)

/-- The rotary keys of a block. -/
theorem kr_block (hB : OfRow X B a r) (hT : Tables T a p) (G' : FVec Ideal S1x128 .f32) (G : FVec Ideal S1x64 .f32)
    (hG : ∀ l : Fin 64, cell G' 0 l = cell G 0 l) (h h9 h10 h11 h12 h13) (l : Fin 64) :
    (k0_pay63 (k0_pay59 k0_pay1 (View.ld (Val := Elt Ideal) (e' := .f32) B (Rect.unit (s := S256x5120) ![0, 4864] ![256, 128] h)) G')
      (k0_pay60 k0_pay1 (View.ld (Val := Elt Ideal) (e' := .f32) B (Rect.unit (s := S256x5120) ![0, 4864] ![256, 128] h)) G'
        (View.ld (Val := Elt Ideal) (e' := .f32) T (Rect.unit (s := S256x1792) ![0, 1152] ![256, 128] h9)))
      (k0_pay61 k0_pay1 (View.ld (Val := Elt Ideal) (e' := .f32) B (Rect.unit (s := S256x5120) ![0, 4864] ![256, 128] h)) G')
      (View.ld (Val := Elt Ideal) (e' := .f32) T (Rect.unit (s := S256x1792) ![0, 1280] ![256, 128] h10))
      (View.ld (Val := Elt Ideal) (e' := .f32) T (Rect.unit (s := S256x1792) ![0, 1408] ![256, 128] h11))
      (View.ld (Val := Elt Ideal) (e' := .f32) T (Rect.unit (s := S256x1792) ![0, 1536] ![256, 128] h12))
      (View.ld (Val := Elt Ideal) (e' := .f32) T (Rect.unit (s := S256x1792) ![0, 1664] ![256, 128] h13)) (ix2 a l) : EReal)
    = rot 32 (theta 0x42000000#32 p) (krow X G r) l := by
  refine Eq.trans ?_ ((both_block hB hT G' G hG h h9 h10 h11 h12 h13 ⟨l, by omega⟩).trans (if_pos l.isLt))
  unfold k0_pay63
  pointwise []

/-- The indexer's keys of a block. -/
theorem ik_block (hB : OfRow X B a r) (hT : Tables T a p) (G' : FVec Ideal S1x128 .f32) (G : FVec Ideal S1x64 .f32)
    (hG : ∀ l : Fin 64, cell G' 0 l = cell G 0 l) (h h9 h10 h11 h12 h13) (l : Fin 64) :
    (k0_pay64 (k0_pay59 k0_pay1 (View.ld (Val := Elt Ideal) (e' := .f32) B (Rect.unit (s := S256x5120) ![0, 4864] ![256, 128] h)) G')
      (k0_pay60 k0_pay1 (View.ld (Val := Elt Ideal) (e' := .f32) B (Rect.unit (s := S256x5120) ![0, 4864] ![256, 128] h)) G'
        (View.ld (Val := Elt Ideal) (e' := .f32) T (Rect.unit (s := S256x1792) ![0, 1152] ![256, 128] h9)))
      (k0_pay61 k0_pay1 (View.ld (Val := Elt Ideal) (e' := .f32) B (Rect.unit (s := S256x5120) ![0, 4864] ![256, 128] h)) G')
      (View.ld (Val := Elt Ideal) (e' := .f32) T (Rect.unit (s := S256x1792) ![0, 1280] ![256, 128] h10))
      (View.ld (Val := Elt Ideal) (e' := .f32) T (Rect.unit (s := S256x1792) ![0, 1408] ![256, 128] h11))
      (View.ld (Val := Elt Ideal) (e' := .f32) T (Rect.unit (s := S256x1792) ![0, 1536] ![256, 128] h12))
      (View.ld (Val := Elt Ideal) (e' := .f32) T (Rect.unit (s := S256x1792) ![0, 1664] ![256, 128] h13)) (ix2 a l) : EReal)
    = rot 8 (theta 0x41000000#32 p) (irow X r) l := by
  refine Eq.trans ?_ ((both_block hB hT G' G hG h h9 h10 h11 h12 h13 ⟨64 + l, by omega⟩).trans ((if_neg (by simp)).trans
    (congrArg _ (show 64 + (l : ℕ) - 64 = l by omega))))
  unfold k0_pay64
  pointwise []

end Cert.EpilogueIdeal.Value
end
-- ==== Proof.Epi.Val.lean ====
module

public import proofs.«01_k».proof.Proof.Gen.EpilogueIdeal.Value
public import proofs.«01_k».proof.Proof.Epi.Table
public import proofs.«01_k».proof.Proof.Epi.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EpilogueIdeal.Value
open Cert.EpilogueIdeal Cert.EpilogueIdeal.Gen Cert.Epi

variable (m : (ℓ : Loc nD τ sig) → Buf (Elt Ideal) ℓ)

/-- The windows' block indices at a point: the rows' block is the point, the tables' its remainder by sixteen. -/
theorem idx_all : ∀ t : Fin cfg0.N, win0_0.index t = ![t.val, 0] ∧ win0_1.index t = ![t.val % 16, 0]
    ∧ win0_5.index t = ![0, 0] ∧ win0_6.index t = ![0, 0] ∧ win0_8.index t = ![0, 0]
    ∧ win0_12.index t = ![t.val, 0] ∧ win0_13.index t = ![t.val, 0] ∧ win0_14.index t = ![t.val, 0]
    ∧ win0_15.index t = ![t.val, 0] ∧ win0_16.index t = ![t.val, 0] ∧ t.val < 32 :=
  (by decide +kernel : ∀ t : Fin grid0.N, _)

/-- The point is below 32. -/
theorem pt_lt (t : Fin cfg0.N) : t.val < 32 := (idx_all t).2.2.2.2.2.2.2.2.2.2

/-- The row of the array a block's row is. -/
abbrev row (t : Fin cfg0.N) (a : Fin 256) : Fin 8192 := ⟨t.val * 256 + a, by have := pt_lt t; omega⟩

/-- The position of a block's row. -/
abbrev pos (t : Fin cfg0.N) (a : Fin 256) : Fin 4096 := ⟨t.val % 16 * 256 + a, by omega⟩

/-- The position is the row's remainder. -/
theorem pos_row (t : Fin cfg0.N) (a : Fin 256) : (row t a : ℕ) % 4096 = pos t a := by
  show (t.val * 256 + a) % 4096 = t.val % 16 * 256 + a
  omega

/-- The projected rows. -/
abbrev XX (c : Dev nD) : FVec Ideal S8192x11264 .f32 := m ((c : Thread nD τ).loc main_arg0)

/-- The rows' block at an index. -/
theorem x_at (c : Dev nD) (t : Fin cfg0.N) (a : Fin 256) (p : Fin 5120) : (X0_0 m c t (ix2 a p) : EReal) = cell (XX m c) (row t a) p := by
  unfold X0_0 Pipeline.Window.fill
  rw [dif_pos (moved0_0 t _), ← cell_mk (XX m c) (row t a) p (by omega)]
  blk_point [iblk, V, idx_all t]

/-- A block's rows are the array's. -/
theorem rows_of (c : Dev nD) (t : Fin cfg0.N) (a : Fin 256) : OfRow (XX m c) (X0_0 m c t) a (row t a) := fun p hp => by
  rw [← cell_mk (R := 256) (C := 5120) (X0_0 m c t) a p hp]
  exact x_at m c t a ⟨p, hp⟩

/-- The tables' block at an index. -/
theorem t_at (c : Dev nD) (t : Fin cfg0.N) (a : Fin 256) (p : ℕ) (hp : p < 1792) :
    ((show FVec Ideal S256x1792 .f32 from iblk m c 1 t) (ix2 a ⟨p, hp⟩) : EReal) = RT (ix2 (pos t a) ⟨p, hp⟩) := by
  rw [← host_rt m c]
  show (V m c main_v95 : FVec Ideal S4096x1792 .f32) _ = _
  congr 1
  blk_ext [idx_all t]

/-- A block's tables are the rotations' at the rows' positions. -/
theorem tables_of (c : Dev nD) (t : Fin cfg0.N) (a : Fin 256) : Tables (iblk m c 1 t) a (pos t a) := fun l => by
  refine ⟨(t_at m c t a _ _).trans ?_, (t_at m c t a _ _).trans ?_, (t_at m c t a _ _).trans ?_, (t_at m c t a _ _).trans ?_,
    (t_at m c t a _ _).trans ?_, (t_at m c t a _ _).trans ?_, (t_at m c t a _ _).trans ?_, (t_at m c t a _ _).trans ?_⟩
  · rw [slot3, rep128_at, dc_at]
  · rw [slot4, rep128_at, da_at]
  · rw [slot5, rep128_at, db_at]
  all_goals
    by_cases h : (l : ℕ) < 64
  · rw [slot9, two_left _ _ _ _ h, mc_at, if_pos h]
  · rw [slot9, two_right _ _ _ _ h, ic_at, if_neg h]
  · rw [slot10, two_left _ _ _ _ h, ma_at, if_pos h]
  · rw [slot10, two_right _ _ _ _ h, zed_at, if_neg h]
  · rw [slot11, two_left _ _ _ _ h, mb_at, if_pos h]
  · rw [slot11, two_right _ _ _ _ h, zed_at, if_neg h]
  · rw [slot12, two_left _ _ _ _ h, zed_at, if_pos h]
  · rw [slot12, two_right _ _ _ _ h, ia_at, if_neg h]
  · rw [slot13, two_left _ _ _ _ h, zed_at, if_pos h]
  · rw [slot13, two_right _ _ _ _ h, ib_at, if_neg h]

/-- The latent rows' gain. -/
theorem g5 (c : Dev nD) (t : Fin cfg0.N) (l : Fin 512) :
    cell (R := 1) (C := 512) (iblk m c 5 t) 0 l = cell (R := 1) (C := 512) (m ((c : Thread nD τ).loc main_arg6)) 0 l := by
  have e : (V m c main_v107 : FVec Ideal S1x512 .f32) = shapeCast _ (shapeCast S512 (m ((c : Thread nD τ).loc main_arg6)) shapeCasts_S1x512_S512) shapeCasts_S512_S1x512 := by
    show StableHlo.after hostOps0 (fun b => m (c, b)) (Proc.tc.devRef main_v107) = _
    after_results_simp <;> (try dsimp only [Matrix.cons_val]) <;> (try after_results_simp) <;> rfl
  rw [← cell_mk _ _ _ l.isLt, ← cell_mk _ _ _ l.isLt]
  trans (V m c main_v107 : FVec Ideal S1x512 .f32) (ix2 0 l)
  · show (V m c main_v107 : FVec Ideal S1x512 .f32) _ = _
    congr 1
    blk_ext [idx_all t]
  · rw [e]
    pointwise []

/-- The rotary key's gain, in the first 64 lanes. -/
theorem g6 (c : Dev nD) (t : Fin cfg0.N) (l : Fin 64) :
    cell (R := 1) (C := 128) (iblk m c 6 t) 0 l = cell (R := 1) (C := 64) (m ((c : Thread nD τ).loc main_arg7)) 0 l := by
  have e : (V m c main_v111 : FVec Ideal S1x128 .f32) = shapeCast _ (concatenate S128 0 [⟨S64, shapeCast S64 (m ((c : Thread nD τ).loc main_arg7)) shapeCasts_S1x64_S64⟩,
      ⟨S64, con S64 bcast_S_S64 0x3F800000#32⟩] concatenates_S64_S64_S128_d0) shapeCasts_S128_S1x128 := by
    show StableHlo.after hostOps0 (fun b => m (c, b)) (Proc.tc.devRef main_v111) = _
    after_results_simp <;> (try dsimp only [Matrix.cons_val]) <;> (try after_results_simp) <;> rfl
  rw [← cell_mk _ _ _ (by omega : (l : ℕ) < 128), ← cell_mk _ _ _ l.isLt]
  trans (V m c main_v111 : FVec Ideal S1x128 .f32) (ix2 0 ⟨l, by omega⟩)
  · show (V m c main_v111 : FVec Ideal S1x128 .f32) _ = _
    congr 1
    blk_ext [idx_all t]
  · rw [e]
    have hl := l.isLt
    pointwise []

/-- The sparse attention's keys' gain. -/
theorem g8 (c : Dev nD) (t : Fin cfg0.N) (l : Fin 128) :
    cell (R := 1) (C := 128) (iblk m c 8 t) 0 l = cell (R := 1) (C := 128) (m ((c : Thread nD τ).loc main_arg9)) 0 l := by
  have e : (V m c main_v115 : FVec Ideal S1x128 .f32) = shapeCast _ (shapeCast S128 (m ((c : Thread nD τ).loc main_arg9)) shapeCasts_S1x128_S128) shapeCasts_S128_S1x128 := by
    show StableHlo.after hostOps0 (fun b => m (c, b)) (Proc.tc.devRef main_v115) = _
    after_results_simp <;> (try dsimp only [Matrix.cons_val]) <;> (try after_results_simp) <;> rfl
  rw [← cell_mk _ _ _ l.isLt, ← cell_mk _ _ _ l.isLt]
  trans (V m c main_v115 : FVec Ideal S1x128 .f32) (ix2 0 l)
  · show (V m c main_v115 : FVec Ideal S1x128 .f32) _ = _
    congr 1
    blk_ext [idx_all t]
  · rw [e]
    pointwise []

/-- The latent rows a point stores. -/
theorem out12 (c : Dev nD) (t : Fin cfg0.N) (a : Fin 256) (l : Fin 512) : ((dats m 0 c).after 12 t (ix2 a l) : EReal)
    = Cert.EpilogueRefIdeal.Value.REFckv (XX m c) (m ((c : Thread nD τ).loc main_arg6)) (ix2 (row t a) l) := by
  rw [after0_12]
  unfold outsAt0
  dsimp only
  frame_out
  exact (ckv_block (rows_of m c t a) _ _ (g5 m c t) _ l).trans (Cert.EpilogueRefIdeal.Value.ckv_at _ _ (row t a) l).symm

/-- The rotary keys a point stores. -/
theorem out13 (c : Dev nD) (t : Fin cfg0.N) (a : Fin 256) (l : Fin 64) : ((dats m 0 c).after 13 t (ix2 a l) : EReal)
    = Cert.EpilogueRefIdeal.Value.REFkr (XX m c) (m ((c : Thread nD τ).loc main_arg7)) (ix2 (row t a) l) := by
  rw [after0_13]
  unfold outsAt0
  dsimp only
  frame_out
  refine (kr_block (rows_of m c t a) (tables_of m c t a) _ _ (g6 m c t) _ _ _ _ _ _ l).trans ?_
  rw [Cert.EpilogueRefIdeal.Value.kr_at, pos_row]

/-- The indexer's keys a point stores. -/
theorem out16 (c : Dev nD) (t : Fin cfg0.N) (a : Fin 256) (l : Fin 64) : ((dats m 0 c).after 16 t (ix2 a l) : EReal)
    = Cert.EpilogueRefIdeal.Value.REFik (XX m c) (ix2 (row t a) l) := by
  rw [after0_16]
  unfold outsAt0
  dsimp only
  frame_out
  refine (ik_block (rows_of m c t a) (tables_of m c t a) _ _ (g6 m c t) _ _ _ _ _ _ l).trans ?_
  rw [Cert.EpilogueRefIdeal.Value.ik_at, pos_row]

/-- The reference's keys of a head at a block's row. -/
theorem dk_tile (c : Dev nD) (t : Fin cfg0.N) (g : ℕ) (a : Fin 256) (l : Fin 128) (a' : Fin 256) (l' : Fin 256) (ha : (a' : ℕ) = a) (hl : (l' : ℕ) = 128 * g + l) :
    (Cert.EpilogueRefIdeal.Value.REFdk (XX m c) (m ((c : Thread nD τ).loc main_arg9)) (ix2 (row t a') l') : EReal)
      = rot 16 (theta 0x41800000#32 (pos t a)) (drow (XX m c) (m ((c : Thread nD τ).loc main_arg9)) (row t a) g) l := by
  obtain rfl : a' = a := Fin.ext ha
  have hl2 := l.isLt
  rw [Cert.EpilogueRefIdeal.Value.dk_at, pos_row, show (l' : ℕ) / 128 = g by omega, show (l' : ℕ) % 128 = l by omega]

/-- The sparse attention's keys a point stores. -/
theorem out14 (c : Dev nD) (t : Fin cfg0.N) (y : S256x256.Idx) : ((dats m 0 c).after 14 t y : EReal)
    = Cert.EpilogueRefIdeal.Value.REFdk (XX m c) (m ((c : Thread nD τ).loc main_arg9)) (ix2 (row t (y 0)) (y 1)) := by
  rw [after0_14]
  unfold outsAt0
  dsimp only
  frame_out
  rw [pay100_eq]
  canon_tiles x h
  · exact (congrArg _ (eq_ix2 (n0 := 256) (n1 := 128) x)).trans ((dk_block (rows_of m c t (x 0)) (tables_of m c t (x 0)) _ _ (g8 m c t) 1 2432 rfl _ _ _ _ (x 1)).trans
      (dk_tile m c t 1 (x 0) (x 1) (y 0) (y 1) h0 (by omega)).symm)
  · exact (congrArg _ (eq_ix2 (n0 := 256) (n1 := 128) x)).trans ((dk_block (rows_of m c t (x 0)) (tables_of m c t (x 0)) _ _ (g8 m c t) 0 2304 rfl _ _ _ _ (x 1)).trans
      (dk_tile m c t 0 (x 0) (x 1) (y 0) (y 1) h0 (by omega)).symm)

/-- The sparse attention's values a point stores. -/
theorem out15 (c : Dev nD) (t : Fin cfg0.N) (a : Fin 256) (l : Fin 256) : ((dats m 0 c).after 15 t (ix2 a l) : EReal)
    = Cert.EpilogueRefIdeal.Value.REFdv (XX m c) (ix2 (row t a) l) := by
  rw [after0_15]
  unfold outsAt0
  dsimp only
  frame_out
  rw [Cert.EpilogueRefIdeal.Value.dv_at]
  exact (cell_mk (R := 256) (C := 256) _ a l l.isLt).trans (ld_row (rows_of m c t a) 2560 256 _ l l.isLt)

/-- The array of the latent rows after the run. -/
theorem final12 (c : Dev nD) : (dats m 0 c).arrAt 12 cfg0.N = Cert.EpilogueRefIdeal.Value.REFckv (XX m c) (m ((c : Thread nD τ).loc main_arg6)) := by
  refine (dats m 0 c).arrAt_eq_of_covers 12 _ (by decide +kernel) fun t hf y => ?_
  blk_simp
  rw [eq_ix2 y]
  refine (out12 m c t (y 0) (y 1)).trans (congrArg _ ?_)
  blk_ext [idx_all t]

/-- The array of the rotary keys after the run. -/
theorem final13 (c : Dev nD) : (dats m 0 c).arrAt 13 cfg0.N = Cert.EpilogueRefIdeal.Value.REFkr (XX m c) (m ((c : Thread nD τ).loc main_arg7)) := by
  refine (dats m 0 c).arrAt_eq_of_covers 13 _ (by decide +kernel) fun t hf y => ?_
  blk_simp
  rw [eq_ix2 y]
  refine (out13 m c t (y 0) (y 1)).trans (congrArg _ ?_)
  blk_ext [idx_all t]

/-- The array of the sparse attention's keys after the run. -/
theorem final14 (c : Dev nD) : (dats m 0 c).arrAt 14 cfg0.N = Cert.EpilogueRefIdeal.Value.REFdk (XX m c) (m ((c : Thread nD τ).loc main_arg9)) := by
  refine (dats m 0 c).arrAt_eq_of_covers 14 _ (by decide +kernel) fun t hf y => ?_
  blk_simp
  refine (out14 m c t y).trans (congrArg _ ?_)
  blk_ext [idx_all t]

/-- The array of the sparse attention's values after the run. -/
theorem final15 (c : Dev nD) : (dats m 0 c).arrAt 15 cfg0.N = Cert.EpilogueRefIdeal.Value.REFdv (XX m c) := by
  refine (dats m 0 c).arrAt_eq_of_covers 15 _ (by decide +kernel) fun t hf y => ?_
  blk_simp
  rw [eq_ix2 y]
  refine (out15 m c t (y 0) (y 1)).trans (congrArg _ ?_)
  blk_ext [idx_all t]

/-- The array of the indexer's keys after the run. -/
theorem final16 (c : Dev nD) : (dats m 0 c).arrAt 16 cfg0.N = Cert.EpilogueRefIdeal.Value.REFik (XX m c) := by
  refine (dats m 0 c).arrAt_eq_of_covers 16 _ (by decide +kernel) fun t hf y => ?_
  blk_simp
  rw [eq_ix2 y]
  refine (out16 m c t (y 0) (y 1)).trans (congrArg _ ?_)
  blk_ext [idx_all t]

end Cert.EpilogueIdeal.Value
end
-- ==== Proof.Epi.Claims.lean ====
module

public import proofs.«01_k».proof.Defs
public import proofs.«01_k».proof.Proof.Gen.Epilogue.Frame
public import proofs.«01_k».proof.Proof.Epi.Val
public import Idealize.ShloMosaic.Lib.Quiescent

@[expose] public section

set_option maxRecDepth 16384

noncomputable section

open Idealize.ShloMosaic Idealize.SL.Sem

namespace Cert.Proof.EpiClaims

/-- The kernel runs at the bits, leaves its arguments and ends with every semaphore at zero. -/
theorem frame_p : Cert.quiescent_Epilogue := fun m ρ _ => Cert.Epilogue.Gen.frame m ρ

/-- The same of the kernel over the extended reals. -/
theorem frame_pi : Cert.quiescent_EpilogueIdeal := fun m ρ _ => Cert.EpilogueIdeal.Gen.frame m ρ

/-- The same of the reference over the extended reals. -/
theorem frame_ri : Cert.quiescent_EpilogueRefIdeal := fun m ρ _ =>
  (θ_run Cert.EpilogueRefIdeal.defs _ _).mono (fun r h => ⟨fun c => (h c).2.2.2.2.2,
      Idealize.ShloMosaic.sem_eq_zero_of_no_sems (by decide) r.2⟩)
    (Cert.EpilogueRefIdeal.Value.run (F := Ideal) m ρ)

/-- No rewriting rule is used. -/
theorem preserves : Cert.preserves_Epilogue_EpilogueIdeal := trivial

section
open Cert.EpilogueRefIdeal

/-- The reference ends with its results' formulas and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144) = Value.REFckv (m ((c.tc : Thread nD τ).loc main_arg0)) (m ((c.tc : Thread nD τ).loc main_arg6))
      ∧ r.2.mem ((c.tc : Thread nD τ).loc main_v145) = Value.REFkr (m ((c.tc : Thread nD τ).loc main_arg0)) (m ((c.tc : Thread nD τ).loc main_arg7))
      ∧ r.2.mem ((c.tc : Thread nD τ).loc main_v146) = Value.REFdk (m ((c.tc : Thread nD τ).loc main_arg0)) (m ((c.tc : Thread nD τ).loc main_arg9))
      ∧ r.2.mem ((c.tc : Thread nD τ).loc main_v147) = Value.REFdv (m ((c.tc : Thread nD τ).loc main_arg0))
      ∧ r.2.mem ((c.tc : Thread nD τ).loc main_v148) = Value.REFik (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run (F := Ideal) m ρ

end

section
open Cert.EpilogueIdeal

/-- The kernel ends with the same formulas and its arguments as they were. -/
theorem ker_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134_0) = Cert.EpilogueRefIdeal.Value.REFckv (m ((c.tc : Thread nD τ).loc main_arg0)) (m ((c.tc : Thread nD τ).loc main_arg6))
      ∧ r.2.mem ((c.tc : Thread nD τ).loc main_v134_1) = Cert.EpilogueRefIdeal.Value.REFkr (m ((c.tc : Thread nD τ).loc main_arg0)) (m ((c.tc : Thread nD τ).loc main_arg7))
      ∧ r.2.mem ((c.tc : Thread nD τ).loc main_v134_2) = Cert.EpilogueRefIdeal.Value.REFdk (m ((c.tc : Thread nD τ).loc main_arg0)) (m ((c.tc : Thread nD τ).loc main_arg9))
      ∧ r.2.mem ((c.tc : Thread nD τ).loc main_v134_3) = Cert.EpilogueRefIdeal.Value.REFdv (m ((c.tc : Thread nD τ).loc main_arg0))
      ∧ r.2.mem ((c.tc : Thread nD τ).loc main_v134_4) = Cert.EpilogueRefIdeal.Value.REFik (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1, h2, h3, h4, _, _, _, _, _, _, _, _, _, _, ha⟩ := h c
    exact ⟨h0.trans (Value.final12 m c), h1.trans (Value.final13 m c), h2.trans (Value.final14 m c), h3.trans (Value.final15 m c),
      h4.trans (Value.final16 m c), ha⟩) (Value.run_blocks (F := Ideal) m ρ)

end

/-- From equal arguments the kernel and the reference end with equal results. -/
theorem algebraic : Cert.algebraic_EpilogueIdeal_EpilogueRefIdeal := by
  intro m ρ m' ρ' _ hagree
  refine ⟨_, _, _, _, _, ker_run m ρ, (θ_run Cert.EpilogueRefIdeal.defs _ _).mono (fun _ h c => ?_) (ref_run m' ρ')⟩
  obtain ⟨h0, h1, h2, h3, h4, ha⟩ := h c
  obtain ⟨e0, _, _, _, _, _, e6, e7, _, e9, _⟩ := hagree c
  rw [e0, e6] at h0
  rw [e0, e7] at h1
  rw [e0, e9] at h2
  rw [e0] at h3 h4
  exact ⟨h0, h1, h2, h3, h4, ha⟩

end Cert.Proof.EpiClaims

end
-- ==== Proof.Step.Ffn.lean ====
module

public import proofs.«01_k».proof.Proof.Gen.FfnStepIdeal.Value
public import proofs.«01_k».proof.Proof.Gen.FfnStepRefIdeal.Run
public import proofs.«01_k».proof.Proof.Ffn.Val

@[expose] public section

set_option maxRecDepth 16384

noncomputable section

open Idealize.ShloMosaic Idealize.ShloMosaic.TcCoe Idealize.SL.Sem

namespace Cert.FfnStepRefIdeal.Value
open Cert.FfnStepRefIdeal Cert.FfnStepRefIdeal.Gen

/-- The normalised rows: each row times the reciprocal root of its mean square, times the gain. -/
def H (X : FVec Ideal S128x4x2048 .f32) (G : FVec Ideal S1x2048 .f32) : FVec Ideal S128x4x2048 .f32 :=
  mulf (mulf X (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf X X) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (shapeCast _ G shapeCasts_S1x2048_S2048)))

/-- A projection of the normalised rows. -/
def D (A : FVec Ideal S128x4x2048 .f32) (W : FVec Ideal S1x2048x5632 .f32) : FVec Ideal S128x4x5632 .f32 :=
  Host.dotGeneral dot_S128x4x2048_S2048x5632_S128x4x5632_2_0_01_1_n_n none A (shapeCast _ W shapeCasts_S1x2048x5632_S2048x5632)

/-- The gated activation of two projections. -/
def U (A B : FVec Ideal S128x4x5632 .f32) : FVec Ideal S128x4x5632 .f32 :=
  mulf (mulf A (Host.divf (broadcastInDim S128x4x5632 ![] bcast_S_S128x4x5632 (constant S_ .f32 0x3F800000#32)) (addf (broadcastInDim S128x4x5632 ![] bcast_S_S128x4x5632 (constant S_ .f32 0x3F800000#32)) (Host.exp (Host.negf A))))) B

/-- The whole half step. -/
def REF (X : FVec Ideal S128x4x2048 .f32) (G : FVec Ideal S1x2048 .f32) (Wg Wu : FVec Ideal S1x2048x5632 .f32)
    (Wd : FVec Ideal S1x5632x2048 .f32) : FVec Ideal S512x2048 .f32 :=
  shapeCast _ (addf X (mulf (broadcastInDim S128x4x2048 ![] bcast_S_S128x4x2048 (constant S_ .f32 0x3F000000#32)) (Host.dotGeneral dot_S128x4x5632_S5632x2048_S128x4x2048_2_0_01_1_n_n none (U (D (H X G) Wg) (D (H X G) Wu)) (shapeCast _ Wd shapeCasts_S1x5632x2048_S5632x2048)))) shapeCasts_S128x4x2048_S512x2048

/-- The half step at an index: the input there plus half the contraction of the activation with the last weights. -/
theorem ref_at (X : FVec Ideal S128x4x2048 .f32) (G : FVec Ideal S1x2048 .f32) (Wg Wu : FVec Ideal S1x2048x5632 .f32)
    (Wd : FVec Ideal S1x5632x2048 .f32) (r : Fin 512) (l : Fin 2048) :
    REF X G Wg Wu Wd (ix2 r l) = X (ix3 ⟨(r : ℕ) / 4, by omega⟩ ⟨(r : ℕ) % 4, by omega⟩ l) + Ideal.ofBits .f32 0x3F000000#32 *
      ∑ k : Fin 5632, U (D (H X G) Wg) (D (H X G) Wu) (ix3 ⟨(r : ℕ) / 4, by omega⟩ ⟨(r : ℕ) % 4, by omega⟩ k) * Wd (ix3 0 k l) := by
  pointwise [REF]

end Cert.FfnStepRefIdeal.Value

namespace Cert.FfnStepIdeal.Value
open Cert.FfnStepIdeal Cert.FfnStepIdeal.Gen
open Cert.FfnStepRefIdeal.Value (H D U REF)

variable (m : (ℓ : Loc nD τ sig) → Buf (Elt Ideal) ℓ)

/-- Every window's block index at a point: one row block, and the point's block of the hidden axis. -/
theorem idx_all : ∀ t : Fin cfg0.N, win0_0.index t = ![0, 0] ∧ win0_1.index t = ![0, 0]
    ∧ win0_2.index t = ![0, t.val] ∧ win0_3.index t = ![0, t.val] ∧ win0_4.index t = ![t.val, 0]
    ∧ win0_5.index t = ![0, 0] ∧ t.val < 11 :=
  (by decide +kernel : ∀ t : Fin grid0.N, _)

/-- The normalised rows by row and column. -/
def rows (c : Dev nD) : Vec Ideal S512x2048 .bf16 := fun y =>
  H (m ((c : Thread nD τ).loc main_arg0)) (m ((c : Thread nD τ).loc main_arg1))
    (ix3 ⟨(y 0 : ℕ) / 4, by have : (y 0 : ℕ) < 512 := (y 0).isLt; omega⟩ ⟨(y 0 : ℕ) % 4, Nat.mod_lt _ (by decide)⟩ (y 1))

/-- What the first point stores in the scratch is the normalised rows. -/
theorem pay2_eq (c : Dev nD) (t : Fin cfg0.N) : k0_pay2 (iblk m c 0 t) (iblk m c 1 t) = rows m c := by
  funext y
  pointwise [k0_pay2, k0_pay1, rows, H]
  blk_point [iblk, V, idx_all t]

/-- After every point the scratch holds the normalised rows. -/
theorem sc_eq (c : Dev nD) : ∀ (n : ℕ) (hn : n < cfg0.N), (outsAt0 m c n hn).2 = rows m c
  | 0, hn => by
      rw [outsAt0_A m c ⟨0, hn⟩ rfl, ← pay2_eq m c ⟨0, hn⟩]; funext y; frame_out
  | n + 1, hn => by
      have h : n + 1 < 11 := (idx_all ⟨n + 1, hn⟩).2.2.2.2.2.2
      rw [outsAt0_B m c ⟨n + 1, hn⟩ (show ¬(n + 1) % 11 = 0 by omega)]
      exact sc_eq c n (Nat.lt_of_succ_lt hn)

/-- The activation of the reference, over the kernel's argument arrays. -/
def act (c : Dev nD) : FVec Ideal Cert.FfnStepRefIdeal.S128x4x5632 .f32 :=
  U (D (H (m ((c : Thread nD τ).loc main_arg0)) (m ((c : Thread nD τ).loc main_arg1))) (m ((c : Thread nD τ).loc main_arg2)))
    (D (H (m ((c : Thread nD τ).loc main_arg0)) (m ((c : Thread nD τ).loc main_arg1))) (m ((c : Thread nD τ).loc main_arg3)))

/-- What a point adds: half the contraction over the point's slice of the hidden axis. -/
def part (c : Dev nD) (t : Fin cfg0.N) (y : S512x2048.Idx) : EReal :=
  Ideal.ofBits .f32 0x3F000000#32 * ∑ k : Fin 512,
    act m c (ix3 ⟨(y 0 : ℕ) / 4, by have : (y 0 : ℕ) < 512 := (y 0).isLt; omega⟩ ⟨(y 0 : ℕ) % 4, Nat.mod_lt _ (by decide)⟩
      ⟨t.val * 512 + k.val, by have := (idx_all t).2.2.2.2.2.2; omega⟩)
    * (show FVec Ideal Cert.FfnStepRefIdeal.S1x5632x2048 .f32 from m ((c : Thread nD τ).loc main_arg4))
      (ix3 0 ⟨t.val * 512 + k.val, by have := (idx_all t).2.2.2.2.2.2; omega⟩ (y 1))

/-- One step: the output before plus the point's part. -/
theorem pay3_eq (c : Dev nD) (t : Fin cfg0.N) (o : Vec Ideal S512x2048 .f32) (y : S512x2048.Idx) :
    k0_pay3 (rows m c) (iblk m c 2 t) (iblk m c 3 t) o (iblk m c 4 t) y = (o y : EReal) + part m c t y := by
  pointwise [k0_pay3, rows, part, act, U, D]
  simp only [Ideal.logistic]
  blk_point [iblk, V, idx_all t]

/-- The input by row and column. -/
def inp (c : Dev nD) (_ : ℕ) (y : S512x2048.Idx) : EReal :=
  (show FVec Ideal Cert.FfnStepRefIdeal.S128x4x2048 .f32 from m ((c : Thread nD τ).loc main_arg0))
    (ix3 ⟨(y 0 : ℕ) / 4, by have : (y 0 : ℕ) < 512 := (y 0).isLt; omega⟩ ⟨(y 0 : ℕ) % 4, Nat.mod_lt _ (by decide)⟩ (y 1))

/-- The input block staged at a point is the input. -/
theorem pay1_eq (c : Dev nD) (t : Fin cfg0.N) (y : S512x2048.Idx) : (k0_pay1 (iblk m c 0 t) y : EReal) = inp m c (t.val / 11) y := by
  unfold inp
  pointwise [k0_pay1]
  blk_point [iblk, V, idx_all t]

/-- After the first point the output holds the input plus that point's part. -/
theorem out_A (c : Dev nD) (t : Fin cfg0.N) (h : t.val % 11 = 0) (y : S512x2048.Idx) :
    ((outsAt0 m c t.val t.isLt).1 y : EReal) = inp m c (t.val / 11) y + part m c t y := by
  rw [outsAt0_A m c t h]
  frame_out
  rw [pay2_eq, pay3_eq, pay1_eq]

/-- After any other point it holds what it held plus the point's part. -/
theorem out_B (c : Dev nD) (t : Fin cfg0.N) (h : ¬t.val % 11 = 0) (y : S512x2048.Idx) :
    ((outsAt0 m c t.val t.isLt).1 y : EReal)
      = (outsAt0 m c (t.val - 1) (Nat.lt_of_le_of_lt (Nat.sub_le _ _) t.isLt)).1 y + part m c t y := by
  rw [outsAt0_B m c t h]
  frame_out
  have hr := (Memref.isWhole_whole (cc0_scratch0)).read_unread (Val := Elt Ideal) (outsAt0 m c (t.val - 1) (Nat.lt_of_le_of_lt (Nat.sub_le _ _) t.isLt)).2
  refine (congrFun (congrArg (fun h => k0_pay3 h (iblk m c 2 t) (iblk m c 3 t) _ (iblk m c 4 t)) (hr.trans (sc_eq m c _ _))) y).trans ?_
  exact pay3_eq m c t _ y

/-- The array after the run is the reference's half step of the arguments. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have hm : t.val % 11 = 10 := (flush0_5 t).mp hf
  blk_simp
  rw [after0_5]
  refine (Cert.Sums.run_sum (fun n h y => ((outsAt0 m c n h).1 y : EReal)) 10 (inp m c) (part m c) (out_A m c) (out_B m c) t hm y).trans ?_
  refine Eq.trans ?_ ((Cert.FfnStepRefIdeal.Value.ref_at _ _ _ _ _ (y 0) (y 1)).symm.trans (congrArg _ ?_))
  · congr 1
    rw [Cert.FfnIdeal.Value.half_eq, ← Fin.sum_mul_add_fin 11 512 _ rfl, Cert.Sums.coe_mul_sum _ (by norm_num)]
    refine Finset.sum_congr rfl fun s _ => ?_
    unfold part
    rw [Cert.FfnIdeal.Value.half_eq]
    congr 1
    refine Finset.sum_congr rfl fun k _ => ?_
    unfold act
    congr 1
    · blk_ext
    · blk_ext
  · blk_ext [idx_all t]

end Cert.FfnStepIdeal.Value
end
-- ==== Proof.Step.FfnClaims.lean ====
module

public import proofs.«01_k».proof.Defs
public import proofs.«01_k».proof.Proof.Gen.FfnStep.Frame
public import proofs.«01_k».proof.Proof.Step.Ffn
public import Idealize.ShloMosaic.Lib.Quiescent

@[expose] public section

set_option maxRecDepth 16384

noncomputable section

open Idealize.ShloMosaic Idealize.SL.Sem

namespace Cert.Proof.FfnStepClaims

/-- The kernel runs at the bits, leaves its arguments and ends with every semaphore at zero. -/
theorem frame_p : Cert.quiescent_FfnStep := fun m ρ _ => Cert.FfnStep.Gen.frame m ρ

/-- The same of the kernel over the extended reals. -/
theorem frame_pi : Cert.quiescent_FfnStepIdeal := fun m ρ _ => Cert.FfnStepIdeal.Gen.frame m ρ

/-- The same of the reference over the extended reals. -/
theorem frame_ri : Cert.quiescent_FfnStepRefIdeal := fun m ρ _ =>
  (θ_run Cert.FfnStepRefIdeal.defs _ _).mono (fun r h => ⟨fun c => (h c).2,
      Idealize.ShloMosaic.sem_eq_zero_of_no_sems (by decide) r.2⟩)
    (Cert.FfnStepRefIdeal.Value.run (F := Ideal) m ρ)

/-- No rewriting rule is used. -/
theorem preserves : Cert.preserves_FfnStep_FfnStepIdeal := trivial

/-- From equal arguments the kernel and the reference end with equal results. -/
theorem algebraic : Cert.algebraic_FfnStepIdeal_FfnStepRefIdeal := by
  intro m ρ m' ρ' _ hagree
  refine ⟨_, Cert.FfnStepIdeal.Value.run_blocks (F := Ideal) m ρ, ?_⟩
  refine (θ_run Cert.FfnStepRefIdeal.defs _ _).mono (fun _ h c => ⟨(h c).1.trans ?_, (h c).2⟩)
    (Cert.FfnStepRefIdeal.Value.run (F := Ideal) m' ρ')
  obtain ⟨h0, h1, h2, h3, h4⟩ := hagree c
  rw [Cert.FfnStepIdeal.Value.final m c, ← h0, ← h1, ← h2, ← h3, ← h4]
  rfl

end Cert.Proof.FfnStepClaims

end
-- ==== Proof.Step.EpiRef.lean ====
module

public import proofs.«01_k».proof.Proof.Gen.EpilogueStepRefIdeal.Run
public import Idealize.ShloMosaic.Lib.Pipeline.ValueKit
public import Idealize.ShloMosaic.Lib.Pointwise
public import proofs.«01_k».proof.Proof.Epi.Rot

@[expose] public section

set_option maxRecDepth 16384

noncomputable section

open Idealize.ShloMosaic Idealize.ShloMosaic.TcCoe Idealize.SL.Sem

namespace Cert.EpilogueStepRefIdeal.Value
open Cert.EpilogueStepRefIdeal Cert.EpilogueStepRefIdeal.Gen

/-- The projected rows by batch and position. -/
def cube (X : FVec Ideal S512x11264 .f32) : FVec Ideal S128x4x11264 .f32 := shapeCast _ X shapeCasts_S512x11264_S128x4x11264

/-- The rotation angles of a rotary part of 64 columns. -/
def ang32 : FVec Ideal S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 8192#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x48F42400#32)) (Host.divf (Host.negf (sitofp .f32 (iotaInDim S32 32 0))) (broadcastInDim S32 ![] bcast_S_S32 (constant S_ .f32 0x42000000#32))))))

/-- The rotation angles of a rotary part of 32 columns. -/
def ang16 : FVec Ideal S4x16 .f32 :=
  mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The rotation angles of a rotary part of 16 columns. -/
def ang8 : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0))))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The latent rows, normalised. -/
def REFckv (X : FVec Ideal S512x11264 .f32) (G : FVec Ideal S1x512 .f32) : FVec Ideal S512x512 .f32 :=
  shapeCast _ (mulf (mulf (extractStridedSlice S128x4x512 ![0, 0, 768] (cube X) slices_S128x4x11264_S128x4x512_0_0_768) (broadcastInDim S128x4x512 ![0, 1, 2] bcast_S128x4x1_S128x4x512_0_1_2 (Host.rsqrt (addf (Host.divf (broadcastInDim S128x4x1 ![0, 1] bcast_S128x4_S128x4x1_0_1 (Host.reduceAdd (mulf (extractStridedSlice S128x4x512 ![0, 0, 768] (cube X) slices_S128x4x11264_S128x4x512_0_0_768) (extractStridedSlice S128x4x512 ![0, 0, 768] (cube X) slices_S128x4x11264_S128x4x512_0_0_768)) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 (shapeCast _ G shapeCasts_S1x512_S512)))) shapeCasts_S128x4x512_S512x512

/-- The shared rotary key, normalised. -/
def krn (X : FVec Ideal S512x11264 .f32) (G : FVec Ideal S1x64 .f32) : FVec Ideal S128x4x64 .f32 :=
  (mulf (mulf (extractStridedSlice S128x4x64 ![0, 0, 4864] (cube X) slices_S128x4x11264_S128x4x64_0_0_4864) (broadcastInDim S128x4x64 ![0, 1, 2] bcast_S128x4x1_S128x4x64_0_1_2 (Host.rsqrt (addf (Host.divf (broadcastInDim S128x4x1 ![0, 1] bcast_S128x4_S128x4x1_0_1 (Host.reduceAdd (mulf (extractStridedSlice S128x4x64 ![0, 0, 4864] (cube X) slices_S128x4x11264_S128x4x64_0_0_4864) (extractStridedSlice S128x4x64 ![0, 0, 4864] (cube X) slices_S128x4x11264_S128x4x64_0_0_4864)) (constant S_ .f32 0x00000000#32) reducesTo_S128x4x64_S128x4_d2 h_S_)) (broadcastInDim S128x4x1 ![] bcast_S_S128x4x1 (constant S_ .f32 0x42800000#32))) (broadcastInDim S128x4x1 ![] bcast_S_S128x4x1 (constant S_ .f32 0x358637BD#32)))))) (broadcastInDim S128x4x64 ![0, 1, 2] bcast_S1x1x64_S128x4x64_0_1_2 (broadcastInDim S1x1x64 ![2] bcast_S64_S1x1x64_2 (shapeCast _ G shapeCasts_S1x64_S64))))

/-- The shared rotary key, normalised and rotated. -/
def REFkr (X : FVec Ideal S512x11264 .f32) (G : FVec Ideal S1x64 .f32) : FVec Ideal S512x64 .f32 :=
  shapeCast _ (shapeCast _ ((concatenate S128x4x1x64 3 [⟨S128x4x1x32, ((subf (mulf (extractStridedSlice S128x4x1x32 ![0, 0, 0, 0] (broadcastInDim S128x4x1x64 ![0, 1, 3] bcast_S128x4x64_S128x4x1x64_0_1_3 (krn X G)) slices_S128x4x1x64_S128x4x1x32_0_0_0_0) (broadcastInDim S128x4x1x32 ![0, 1, 2, 3] bcast_S1x4x1x32_S128x4x1x32_0_1_2_3 (broadcastInDim S1x4x1x32 ![1, 3] bcast_S4x32_S1x4x1x32_1_3 (Host.cos ang32)))) (mulf (extractStridedSlice S128x4x1x32 ![0, 0, 0, 32] (broadcastInDim S128x4x1x64 ![0, 1, 3] bcast_S128x4x64_S128x4x1x64_0_1_3 (krn X G)) slices_S128x4x1x64_S128x4x1x32_0_0_0_32) (broadcastInDim S128x4x1x32 ![0, 1, 2, 3] bcast_S1x4x1x32_S128x4x1x32_0_1_2_3 (broadcastInDim S1x4x1x32 ![1, 3] bcast_S4x32_S1x4x1x32_1_3 (Host.sin ang32))))) : (⟨S128x4x1x32, .f32⟩ : BufTy).Contents (Elt Ideal))⟩, ⟨S128x4x1x32, ((addf (mulf (extractStridedSlice S128x4x1x32 ![0, 0, 0, 0] (broadcastInDim S128x4x1x64 ![0, 1, 3] bcast_S128x4x64_S128x4x1x64_0_1_3 (krn X G)) slices_S128x4x1x64_S128x4x1x32_0_0_0_0) (broadcastInDim S128x4x1x32 ![0, 1, 2, 3] bcast_S1x4x1x32_S128x4x1x32_0_1_2_3 (broadcastInDim S1x4x1x32 ![1, 3] bcast_S4x32_S1x4x1x32_1_3 (Host.sin ang32)))) (mulf (extractStridedSlice S128x4x1x32 ![0, 0, 0, 32] (broadcastInDim S128x4x1x64 ![0, 1, 3] bcast_S128x4x64_S128x4x1x64_0_1_3 (krn X G)) slices_S128x4x1x64_S128x4x1x32_0_0_0_32) (broadcastInDim S128x4x1x32 ![0, 1, 2, 3] bcast_S1x4x1x32_S128x4x1x32_0_1_2_3 (broadcastInDim S1x4x1x32 ![1, 3] bcast_S4x32_S1x4x1x32_1_3 (Host.cos ang32))))) : (⟨S128x4x1x32, .f32⟩ : BufTy).Contents (Elt Ideal))⟩, ⟨S128x4x1x0, ((extractStridedSlice S128x4x1x0 ![0, 0, 0, 64] (broadcastInDim S128x4x1x64 ![0, 1, 3] bcast_S128x4x64_S128x4x1x64_0_1_3 (krn X G)) slices_S128x4x1x64_S128x4x1x0_0_0_0_64) : (⟨S128x4x1x0, .f32⟩ : BufTy).Contents (Elt Ideal))⟩] concatenates_S128x4x1x32_S128x4x1x32_S128x4x1x0_S128x4x1x64_d3 : (⟨S128x4x1x64, .f32⟩ : BufTy).Contents (Elt Ideal))) shapeCasts_S128x4x1x64_S128x4x64) shapeCasts_S128x4x64_S512x64

/-- The sparse attention's keys, normalised. -/
def dkn (X : FVec Ideal S512x11264 .f32) (G : FVec Ideal S1x128 .f32) : FVec Ideal S128x4x2x128 .f32 :=
  (mulf (mulf (shapeCast _ (extractStridedSlice S128x4x256 ![0, 0, 2304] (cube X) slices_S128x4x11264_S128x4x256_0_0_2304) shapeCasts_S128x4x256_S128x4x2x128) (broadcastInDim S128x4x2x128 ![0, 1, 2, 3] bcast_S128x4x2x1_S128x4x2x128_0_1_2_3 (Host.rsqrt (addf (Host.divf (broadcastInDim S128x4x2x1 ![0, 1, 2] bcast_S128x4x2_S128x4x2x1_0_1_2 (Host.reduceAdd (mulf (shapeCast _ (extractStridedSlice S128x4x256 ![0, 0, 2304] (cube X) slices_S128x4x11264_S128x4x256_0_0_2304) shapeCasts_S128x4x256_S128x4x2x128) (shapeCast _ (extractStridedSlice S128x4x256 ![0, 0, 2304] (cube X) slices_S128x4x11264_S128x4x256_0_0_2304) shapeCasts_S128x4x256_S128x4x2x128)) (constant S_ .f32 0x00000000#32) reducesTo_S128x4x2x128_S128x4x2_d3 h_S_)) (broadcastInDim S128x4x2x1 ![] bcast_S_S128x4x2x1 (constant S_ .f32 0x43000000#32))) (broadcastInDim S128x4x2x1 ![] bcast_S_S128x4x2x1 (constant S_ .f32 0x358637BD#32)))))) (broadcastInDim S128x4x2x128 ![0, 1, 2, 3] bcast_S1x1x1x128_S128x4x2x128_0_1_2_3 (broadcastInDim S1x1x1x128 ![3] bcast_S128_S1x1x1x128_3 (shapeCast _ G shapeCasts_S1x128_S128))))

/-- The sparse attention's keys, normalised and rotated. -/
def REFdk (X : FVec Ideal S512x11264 .f32) (G : FVec Ideal S1x128 .f32) : FVec Ideal S512x256 .f32 :=
  shapeCast _ ((concatenate S128x4x2x128 3 [⟨S128x4x2x16, ((subf (mulf (extractStridedSlice S128x4x2x16 ![0, 0, 0, 0] (dkn X G) slices_S128x4x2x128_S128x4x2x16_0_0_0_0) (broadcastInDim S128x4x2x16 ![0, 1, 2, 3] bcast_S1x4x1x16_S128x4x2x16_0_1_2_3 (broadcastInDim S1x4x1x16 ![1, 3] bcast_S4x16_S1x4x1x16_1_3 (Host.cos ang16)))) (mulf (extractStridedSlice S128x4x2x16 ![0, 0, 0, 16] (dkn X G) slices_S128x4x2x128_S128x4x2x16_0_0_0_16) (broadcastInDim S128x4x2x16 ![0, 1, 2, 3] bcast_S1x4x1x16_S128x4x2x16_0_1_2_3 (broadcastInDim S1x4x1x16 ![1, 3] bcast_S4x16_S1x4x1x16_1_3 (Host.sin ang16))))) : (⟨S128x4x2x16, .f32⟩ : BufTy).Contents (Elt Ideal))⟩, ⟨S128x4x2x16, ((addf (mulf (extractStridedSlice S128x4x2x16 ![0, 0, 0, 0] (dkn X G) slices_S128x4x2x128_S128x4x2x16_0_0_0_0) (broadcastInDim S128x4x2x16 ![0, 1, 2, 3] bcast_S1x4x1x16_S128x4x2x16_0_1_2_3 (broadcastInDim S1x4x1x16 ![1, 3] bcast_S4x16_S1x4x1x16_1_3 (Host.sin ang16)))) (mulf (extractStridedSlice S128x4x2x16 ![0, 0, 0, 16] (dkn X G) slices_S128x4x2x128_S128x4x2x16_0_0_0_16) (broadcastInDim S128x4x2x16 ![0, 1, 2, 3] bcast_S1x4x1x16_S128x4x2x16_0_1_2_3 (broadcastInDim S1x4x1x16 ![1, 3] bcast_S4x16_S1x4x1x16_1_3 (Host.cos ang16))))) : (⟨S128x4x2x16, .f32⟩ : BufTy).Contents (Elt Ideal))⟩, ⟨S128x4x2x96, ((extractStridedSlice S128x4x2x96 ![0, 0, 0, 32] (dkn X G) slices_S128x4x2x128_S128x4x2x96_0_0_0_32) : (⟨S128x4x2x96, .f32⟩ : BufTy).Contents (Elt Ideal))⟩] concatenates_S128x4x2x16_S128x4x2x16_S128x4x2x96_S128x4x2x128_d3 : (⟨S128x4x2x128, .f32⟩ : BufTy).Contents (Elt Ideal))) shapeCasts_S128x4x2x128_S512x256

/-- The sparse attention's values. -/
def REFdv (X : FVec Ideal S512x11264 .f32) : FVec Ideal S512x256 .f32 :=
  shapeCast _ (extractStridedSlice S128x4x256 ![0, 0, 2560] (cube X) slices_S128x4x11264_S128x4x256_0_0_2560) shapeCasts_S128x4x256_S512x256

/-- The indexer's key before the rotation. -/
def ikn (X : FVec Ideal S512x11264 .f32) : FVec Ideal S128x4x1x64 .f32 :=
  (broadcastInDim S128x4x1x64 ![0, 1, 3] bcast_S128x4x64_S128x4x1x64_0_1_3 (extractStridedSlice S128x4x64 ![0, 0, 4928] (cube X) slices_S128x4x11264_S128x4x64_0_0_4928))

/-- The indexer's key, rotated. -/
def REFik (X : FVec Ideal S512x11264 .f32) : FVec Ideal S512x64 .f32 :=
  shapeCast _ (shapeCast _ ((concatenate S128x4x1x64 3 [⟨S128x4x1x8, ((subf (mulf (extractStridedSlice S128x4x1x8 ![0, 0, 0, 0] (ikn X) slices_S128x4x1x64_S128x4x1x8_0_0_0_0) (broadcastInDim S128x4x1x8 ![0, 1, 2, 3] bcast_S1x4x1x8_S128x4x1x8_0_1_2_3 (broadcastInDim S1x4x1x8 ![1, 3] bcast_S4x8_S1x4x1x8_1_3 (Host.cos ang8)))) (mulf (extractStridedSlice S128x4x1x8 ![0, 0, 0, 8] (ikn X) slices_S128x4x1x64_S128x4x1x8_0_0_0_8) (broadcastInDim S128x4x1x8 ![0, 1, 2, 3] bcast_S1x4x1x8_S128x4x1x8_0_1_2_3 (broadcastInDim S1x4x1x8 ![1, 3] bcast_S4x8_S1x4x1x8_1_3 (Host.sin ang8))))) : (⟨S128x4x1x8, .f32⟩ : BufTy).Contents (Elt Ideal))⟩, ⟨S128x4x1x8, ((addf (mulf (extractStridedSlice S128x4x1x8 ![0, 0, 0, 0] (ikn X) slices_S128x4x1x64_S128x4x1x8_0_0_0_0) (broadcastInDim S128x4x1x8 ![0, 1, 2, 3] bcast_S1x4x1x8_S128x4x1x8_0_1_2_3 (broadcastInDim S1x4x1x8 ![1, 3] bcast_S4x8_S1x4x1x8_1_3 (Host.sin ang8)))) (mulf (extractStridedSlice S128x4x1x8 ![0, 0, 0, 8] (ikn X) slices_S128x4x1x64_S128x4x1x8_0_0_0_8) (broadcastInDim S128x4x1x8 ![0, 1, 2, 3] bcast_S1x4x1x8_S128x4x1x8_0_1_2_3 (broadcastInDim S1x4x1x8 ![1, 3] bcast_S4x8_S1x4x1x8_1_3 (Host.cos ang8))))) : (⟨S128x4x1x8, .f32⟩ : BufTy).Contents (Elt Ideal))⟩, ⟨S128x4x1x48, ((extractStridedSlice S128x4x1x48 ![0, 0, 0, 16] (ikn X) slices_S128x4x1x64_S128x4x1x48_0_0_0_16) : (⟨S128x4x1x48, .f32⟩ : BufTy).Contents (Elt Ideal))⟩] concatenates_S128x4x1x8_S128x4x1x8_S128x4x1x48_S128x4x1x64_d3 : (⟨S128x4x1x64, .f32⟩ : BufTy).Contents (Elt Ideal))) shapeCasts_S128x4x1x64_S128x4x64) shapeCasts_S128x4x64_S512x64

open Cert.Epi

/-- A position's word is the first position's and the place's. -/
theorem word_add (t : ℕ) : IntOp.addi 8192#32 (BitVec.ofNat 32 t) = BitVec.ofNat 32 (8192 + t) := by
  rw [BitVec.ofNat_add]
  rfl

/-- The rotation angles of a rotary part of 64 columns, at an index. -/
theorem ang32_at (t : Fin 4) (n : ℕ) (h : n < 32) : ang32 (ix2 t ⟨n, h⟩) = theta 0x42000000#32 (8192 + t) n := by
  pointwise [ang32]
  rw [word_add]
  rfl

/-- The rotation angles of a rotary part of 32 columns, at an index. -/
theorem ang16_at (t : Fin 4) (n : ℕ) (h : n < 16) : ang16 (ix2 t ⟨n, h⟩) = theta 0x41800000#32 (8192 + t) n := by
  pointwise [ang16]
  rw [word_add]
  rfl

/-- The rotation angles of a rotary part of 16 columns, at an index. -/
theorem ang8_at (t : Fin 4) (n : ℕ) (h : n < 8) : ang8 (ix2 t ⟨n, h⟩) = theta 0x41000000#32 (8192 + t) n := by
  pointwise [ang8]
  rw [word_add]
  rfl

/-- The latent rows at an index. -/
theorem ckv_at (X : FVec Ideal S512x11264 .f32) (G : FVec Ideal S1x512 .f32) (r : Fin 512) (l : Fin 512) :
    REFckv X G (ix2 r l) = cell X r (768 + l) * scale 512 0x44000000#32 (fun n => cell X r (768 + n)) * cell G 0 l := by
  pointwise [REFckv, cube]
  simp only [cell_mk, scale]

/-- The normalised rotary key at an index. -/
theorem krn_at (X : FVec Ideal S512x11264 .f32) (G : FVec Ideal S1x64 .f32) (r : Fin 512) (n : ℕ) (h : n < 64) :
    krn X G (ix3 ⟨(r : ℕ) / 4, by omega⟩ ⟨(r : ℕ) % 4, by omega⟩ ⟨n, h⟩) = krow X G r n := by
  have e : (r : ℕ) / 4 * 4 + (r : ℕ) % 4 = r := by omega
  pointwise [krn, cube]
  simp only [e, Fin.eta, cell_mk]
  rfl

/-- The rotated rotary key at an index. -/
theorem kr_at (X : FVec Ideal S512x11264 .f32) (G : FVec Ideal S1x64 .f32) (r : Fin 512) (l : Fin 64) :
    REFkr X G (ix2 r l) = rot 32 (theta 0x42000000#32 (8192 + (r : ℕ) % 4)) (krow X G r) l := by
  have e : krn X G (ix3 ⟨(r : ℕ) / 4, by omega⟩ ⟨(r : ℕ) % 4, by omega⟩ l) = krow X G r l := krn_at X G r l l.isLt
  pointwise [REFkr]
  simp only [ang32_at, krn_at, e]
  unfold rot
  split_ifs with h1 h2
  · rfl
  · rw [show 32 + ((l : ℕ) - 32) = l by omega]
  · omega

/-- The normalised key of a head at an index. -/
theorem dkn_at (X : FVec Ideal S512x11264 .f32) (G : FVec Ideal S1x128 .f32) (r : Fin 512) (g : ℕ) (hg : g < 2) (n : ℕ) (h : n < 128) :
    dkn X G (ix4 ⟨(r : ℕ) / 4, by omega⟩ ⟨(r : ℕ) % 4, by omega⟩ ⟨g, hg⟩ ⟨n, h⟩) = drow X G r g n := by
  have e : (r : ℕ) / 4 * 4 + (r : ℕ) % 4 = r := by omega
  have e2 : ∀ n : ℕ, 2304 + (g * 128 + n) = 2304 + 128 * g + n := fun n => by omega
  pointwise [dkn, cube]
  simp only [e, e2, Fin.eta, cell_mk]
  rfl

/-- The rotated keys of the sparse attention at an index. -/
theorem dk_at (X : FVec Ideal S512x11264 .f32) (G : FVec Ideal S1x128 .f32) (r : Fin 512) (l : Fin 256) :
    REFdk X G (ix2 r l) = rot 16 (theta 0x41800000#32 (8192 + (r : ℕ) % 4)) (drow X G r ((l : ℕ) / 128)) ((l : ℕ) % 128) := by
  pointwise [REFdk]
  simp only [ang16_at, dkn_at]
  unfold rot
  split_ifs with h1 h2
  · rfl
  · rw [show 16 + ((l : ℕ) % 128 - 16) = (l : ℕ) % 128 by omega]
  · rw [show 32 + ((l : ℕ) % 128 - 16 - 16) = (l : ℕ) % 128 by omega]

/-- The sparse attention's values at an index. -/
theorem dv_at (X : FVec Ideal S512x11264 .f32) (r : Fin 512) (l : Fin 256) : REFdv X (ix2 r l) = cell X r (2560 + l) := by
  pointwise [REFdv, cube]
  simp only [cell_mk]

/-- The indexer's key at an index. -/
theorem ikn_at (X : FVec Ideal S512x11264 .f32) (r : Fin 512) (n : ℕ) (h : n < 64) :
    ikn X (ix4 ⟨(r : ℕ) / 4, by omega⟩ ⟨(r : ℕ) % 4, by omega⟩ 0 ⟨n, h⟩) = irow X r n := by
  have e : (r : ℕ) / 4 * 4 + (r : ℕ) % 4 = r := by omega
  pointwise [ikn, cube]
  simp only [e, Fin.eta, cell_mk]
  rfl

/-- The indexer's rotated key at an index. -/
theorem ik_at (X : FVec Ideal S512x11264 .f32) (r : Fin 512) (l : Fin 64) :
    REFik X (ix2 r l) = rot 8 (theta 0x41000000#32 (8192 + (r : ℕ) % 4)) (irow X r) l := by
  have e : ikn X (ix4 ⟨(r : ℕ) / 4, by omega⟩ ⟨(r : ℕ) % 4, by omega⟩ 0 l) = irow X r l := ikn_at X r l l.isLt
  have a1 : ¬(l : ℕ) < 8 → 8 + ((l : ℕ) - 8) = l := by omega
  have a2 : ¬(l : ℕ) < 8 → ¬(l : ℕ) - 8 < 8 → 16 + ((l : ℕ) - 8 - 8) = l := by omega
  pointwise [REFik]
  simp only [ang8_at, ikn_at, e]
  unfold rot
  by_cases h1 : (l : ℕ) < 8
  · rw [dif_pos h1, if_pos h1]
  · by_cases h2 : (l : ℕ) - 8 < 8
    · rw [dif_neg h1, if_neg h1, dif_pos h2, if_pos h2, a1 h1]
    · rw [dif_neg h1, if_neg h1, dif_neg h2, if_neg h2, a2 h1 h2]

end Cert.EpilogueStepRefIdeal.Value
end
-- ==== Proof.Step.EpiTable.lean ====
module

public import proofs.«01_k».proof.Proof.Gen.EpilogueStepIdeal.Value
public import proofs.«01_k».proof.Proof.Step.EpiRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.EpilogueStepIdeal.Value
open Cert.EpilogueStepIdeal Cert.EpilogueStepIdeal.Gen Cert.Epi Cert.EpilogueStepRefIdeal.Value

/-- A constant matrix. -/
abbrev con (s : Shape) (h : S_.BroadcastsInDim s ![]) (b : BitVec 32) : FVec Ideal s .f32 := broadcastInDim s ![] h (constant S_ .f32 b)

/-- The zeros at an index. -/
theorem con_zero (s : Shape) (h : S_.BroadcastsInDim s ![]) (i : s.Idx) : (con s h 0x00000000#32 i : EReal) = 0 := by
  show Ideal.ofBits .f32 0x00000000#32 = 0
  simp

/-- The ones at an index. -/
theorem con_one (s : Shape) (h : S_.BroadcastsInDim s ![]) (i : s.Idx) : (con s h 0x3F800000#32 i : EReal) = 1 := by
  show Ideal.ofBits .f32 0x3F800000#32 = 1
  simp

section
variable {h k w : ℕ}

/-- Three tables over the four positions side by side, the first two of one width. -/
def three (x y : FVec Ideal ⟨2, ![4, h]⟩ .f32) (z : FVec Ideal ⟨2, ![4, k]⟩ .f32)
    (hc : Shape.Concatenates [⟨2, ![4, h]⟩, ⟨2, ![4, h]⟩, ⟨2, ![4, k]⟩] ⟨2, ![4, w]⟩ 1) : FVec Ideal ⟨2, ![4, w]⟩ .f32 :=
  concatenate ⟨2, ![4, w]⟩ 1 [⟨⟨2, ![4, h]⟩, x⟩, ⟨⟨2, ![4, h]⟩, y⟩, ⟨⟨2, ![4, k]⟩, z⟩] hc

variable (x y : FVec Ideal ⟨2, ![4, h]⟩ .f32) (z : FVec Ideal ⟨2, ![4, k]⟩ .f32)
  (hc : Shape.Concatenates [⟨2, ![4, h]⟩, ⟨2, ![4, h]⟩, ⟨2, ![4, k]⟩] ⟨2, ![4, w]⟩ 1) (hw : w = h + h + k) (t : Fin 4) (l : Fin w)

/-- The first table's columns. -/
theorem three_fst (h1 : l.val < h) : three x y z hc (ix2 t l) = x (ix2 t ⟨l, h1⟩) := by
  unfold three
  exact concatenate_apply_piece (t := ⟨2, ![4, w]⟩) (1 : Fin 2) [⟨⟨2, ![4, h]⟩, x⟩, ⟨⟨2, ![4, h]⟩, y⟩, ⟨⟨2, ![4, k]⟩, z⟩] hc (ix2 t l) 0 (by simp) ⟨2, ![4, h]⟩ x rfl rfl 0 rfl (ix2 t ⟨l, h1⟩)
    (by intro b hb; fin_cases b <;> first | rfl | (exact absurd rfl hb)) (Nat.zero_add _)

/-- The second table's columns. -/
theorem three_snd (h1 : h ≤ l.val) (h2 : l.val - h < h) : three x y z hc (ix2 t l) = y (ix2 t ⟨l - h, h2⟩) := by
  unfold three
  exact concatenate_apply_piece (t := ⟨2, ![4, w]⟩) (1 : Fin 2) [⟨⟨2, ![4, h]⟩, x⟩, ⟨⟨2, ![4, h]⟩, y⟩, ⟨⟨2, ![4, k]⟩, z⟩] hc (ix2 t l) 1 (by simp) ⟨2, ![4, h]⟩ y rfl rfl h rfl (ix2 t ⟨l - h, h2⟩)
    (by intro b hb; fin_cases b <;> first | rfl | (exact absurd rfl hb)) (show h + (l.val - h) = l.val by omega)

/-- The third table's columns. -/
theorem three_trd (h1 : h + h ≤ l.val) : three x y z hc (ix2 t l) = z (ix2 t ⟨l - (h + h), by omega⟩) := by
  unfold three
  exact concatenate_apply_piece (t := ⟨2, ![4, w]⟩) (1 : Fin 2) [⟨⟨2, ![4, h]⟩, x⟩, ⟨⟨2, ![4, h]⟩, y⟩, ⟨⟨2, ![4, k]⟩, z⟩] hc (ix2 t l) 2 (by simp) ⟨2, ![4, k]⟩ z rfl rfl (h + h) rfl (ix2 t ⟨l - (h + h), by omega⟩)
    (by intro b hb; fin_cases b <;> first | rfl | (exact absurd rfl hb)) (show h + h + (l.val - (h + h)) = l.val by omega)

variable (A : FVec Ideal ⟨2, ![4, h]⟩ .f32) (θ : ℕ → ℕ → EReal) (hA : ∀ (t : Fin 4) (n : ℕ) (hn : n < h), A (ix2 t ⟨n, hn⟩) = θ t n)
  (hx : ∀ i, (x i : EReal) = 0)

include hw hA

/-- Cosines twice and ones make the table of cosines. -/
theorem tc_at (hz : ∀ i, (z i : EReal) = 1) : (three (Host.cos A) (Host.cos A) z hc (ix2 t l) : EReal) = tc h (θ t) l := by
  unfold tc
  split_ifs with h1 h2
  · rw [three_fst _ _ _ _ _ _ h1, ← hA t _ h1]; rfl
  · rw [three_snd _ _ _ _ _ _ (by omega) h2, ← hA t _ h2]; rfl
  · rw [three_trd _ _ _ _ hw _ _ (by omega), hz]

include hx

/-- Negated sines and zeros make the first table of sines. -/
theorem ta_at (hz : ∀ i, (z i : EReal) = 0) : (three (Host.negf (Host.sin A)) x z hc (ix2 t l) : EReal) = ta h (θ t) l := by
  unfold ta
  split_ifs with h1
  · rw [three_fst _ _ _ _ _ _ h1, ← hA t _ h1]; rfl
  · by_cases h2 : l.val - h < h
    · rw [three_snd _ _ _ _ _ _ (by omega) h2, hx]
    · rw [three_trd _ _ _ _ hw _ _ (by omega), hz]

/-- Zeros, sines and zeros make the second table of sines. -/
theorem tb_at (hz : ∀ i, (z i : EReal) = 0) : (three x (Host.sin A) z hc (ix2 t l) : EReal) = tb h (θ t) l := by
  unfold tb
  split_ifs with h1 h2
  · rw [three_fst _ _ _ _ _ _ h1, hx]
  · rw [three_snd _ _ _ _ _ _ (by omega) h2, ← hA t _ h2]; rfl
  · rw [three_trd _ _ _ _ hw _ _ (by omega), hz]

end

/-- A table of 64 columns twice. -/
def rep64 (x : FVec Ideal S4x64 .f32) : FVec Ideal S4x128 .f32 :=
  shapeCast S4x128 (broadcastInDim S1x4x2x64 ![0, 1, 2, 3] bcast_S1x4x1x64_S1x4x2x64_0_1_2_3 (shapeCast S1x4x1x64 x shapeCasts_S4x64_S1x4x1x64)) shapeCasts_S1x4x2x64_S4x128

/-- A table of 128 columns once. -/
def rep128 (x : FVec Ideal S4x128 .f32) : FVec Ideal S4x128 .f32 :=
  shapeCast S4x128 (broadcastInDim S1x4x1x128 ![0, 1, 2, 3] bcast_S1x4x1x128_S1x4x1x128_0_1_2_3 (shapeCast S1x4x1x128 x shapeCasts_S4x128_S1x4x1x128)) shapeCasts_S1x4x1x128_S4x128

/-- A table of 128 columns once is the table. -/
theorem rep128_at (x : FVec Ideal S4x128 .f32) (t : Fin 4) (l : Fin 128) : rep128 x (ix2 t l) = x (ix2 t l) := by
  pointwise [rep128]

/-- Two tables of 64 columns side by side. -/
def two (x y : FVec Ideal S4x64 .f32) : FVec Ideal S4x128 .f32 :=
  concatenate S4x128 1 [⟨S4x64, x⟩, ⟨S4x64, y⟩] concatenates_S4x64_S4x64_S4x128_d1

/-- Each one's columns. -/
theorem two_at (x y : FVec Ideal S4x64 .f32) (t : Fin 4) (l : Fin 128) :
    two x y (ix2 t l) = if h : l.val < 64 then x (ix2 t ⟨l, h⟩) else y (ix2 t ⟨l - 64, by omega⟩) := by
  pointwise [two]

/-- Fourteen tables side by side. -/
def RT (p : Fin 14 → FVec Ideal S4x128 .f32) : FVec Ideal S4x1792 .f32 :=
  concatenate S4x1792 1 [⟨S4x128, p 0⟩, ⟨S4x128, p 1⟩, ⟨S4x128, p 2⟩, ⟨S4x128, p 3⟩, ⟨S4x128, p 4⟩, ⟨S4x128, p 5⟩, ⟨S4x128, p 6⟩,
    ⟨S4x128, p 7⟩, ⟨S4x128, p 8⟩, ⟨S4x128, p 9⟩, ⟨S4x128, p 10⟩, ⟨S4x128, p 11⟩, ⟨S4x128, p 12⟩, ⟨S4x128, p 13⟩]
    concatenates_S4x128_S4x128_S4x128_S4x128_S4x128_S4x128_S4x128_S4x128_S4x128_S4x128_S4x128_S4x128_S4x128_S4x128_S4x1792_d1

/-- The columns before a table. -/
theorem cols_before : ∀ k : Fin 14, (((List.replicate 14 S4x128).take k).map fun s => if h : s.rank = S4x1792.rank then s.size ((1 : Fin S4x1792.rank).cast h.symm) else 0).sum = 128 * k.val := by
  decide +kernel

/-- Each table's columns. -/
theorem slot (p : Fin 14 → FVec Ideal S4x128 .f32) (k : Fin 14) (t : Fin 4) (l : Fin 128) (n : ℕ) (hn : n < 1792) (e : n = 128 * k + l) :
    RT p (ix2 t ⟨n, hn⟩) = p k (ix2 t l) := by
  subst e
  unfold RT
  refine concatenate_apply_piece (1 : Fin S4x1792.rank) _ _ _ k (by exact k.isLt) S4x128 (p k) ?_ rfl (128 * k) ?_ (ix2 t l)
    (by intro b hb; fin_cases b <;> first | rfl | (exact absurd rfl hb)) rfl
  · fin_cases k <;> rfl
  · rw [List.map_take]
    exact cols_before k

/-- A table over the four positions, repeated over the 512 rows. -/
def rows (x : FVec Ideal S4x1792 .f32) : FVec Ideal S512x1792 .f32 :=
  shapeCast S512x1792 (broadcastInDim S128x4x1x1792 ![0, 1, 2, 3] bcast_S1x4x1x1792_S128x4x1x1792_0_1_2_3 (shapeCast S1x4x1x1792 x shapeCasts_S4x1792_S1x4x1x1792)) shapeCasts_S128x4x1x1792_S512x1792

/-- A row's table is its position's. -/
theorem rows_at (x : FVec Ideal S4x1792 .f32) (r : Fin 512) (l : Fin 1792) : rows x (ix2 r l) = x (ix2 ⟨(r : ℕ) % 4, by omega⟩ l) := by
  pointwise [rows]

/-- Zeros. -/
abbrev zed : FVec Ideal S4x64 .f32 := con S4x64 bcast_S_S4x64 0x00000000#32

/-- The cosines of the shared rotary key. -/
abbrev mc : FVec Ideal S4x64 .f32 := three (Host.cos ang32) (Host.cos ang32) (con S4x0 bcast_S_S4x0 0x3F800000#32) concatenates_S4x32_S4x32_S4x0_S4x64_d1

/-- The negated sines of the shared rotary key. -/
abbrev ma : FVec Ideal S4x64 .f32 := three (Host.negf (Host.sin ang32)) (con S4x32 bcast_S_S4x32 0x00000000#32) (con S4x0 bcast_S_S4x0 0x00000000#32) concatenates_S4x32_S4x32_S4x0_S4x64_d1

/-- The sines of the shared rotary key. -/
abbrev mb : FVec Ideal S4x64 .f32 := three (con S4x32 bcast_S_S4x32 0x00000000#32) (Host.sin ang32) (con S4x0 bcast_S_S4x0 0x00000000#32) concatenates_S4x32_S4x32_S4x0_S4x64_d1

/-- The cosines of the sparse attention. -/
abbrev dc : FVec Ideal S4x128 .f32 := three (Host.cos ang16) (Host.cos ang16) (con S4x96 bcast_S_S4x96 0x3F800000#32) concatenates_S4x16_S4x16_S4x96_S4x128_d1

/-- The negated sines of the sparse attention. -/
abbrev da : FVec Ideal S4x128 .f32 := three (Host.negf (Host.sin ang16)) (con S4x16 bcast_S_S4x16 0x00000000#32) (con S4x96 bcast_S_S4x96 0x00000000#32) concatenates_S4x16_S4x16_S4x96_S4x128_d1

/-- The sines of the sparse attention. -/
abbrev db : FVec Ideal S4x128 .f32 := three (con S4x16 bcast_S_S4x16 0x00000000#32) (Host.sin ang16) (con S4x96 bcast_S_S4x96 0x00000000#32) concatenates_S4x16_S4x16_S4x96_S4x128_d1

/-- The cosines of the indexer. -/
abbrev ic : FVec Ideal S4x64 .f32 := three (Host.cos ang8) (Host.cos ang8) (con S4x48 bcast_S_S4x48 0x3F800000#32) concatenates_S4x8_S4x8_S4x48_S4x64_d1

/-- The negated sines of the indexer. -/
abbrev ia : FVec Ideal S4x64 .f32 := three (Host.negf (Host.sin ang8)) (con S4x8 bcast_S_S4x8 0x00000000#32) (con S4x48 bcast_S_S4x48 0x00000000#32) concatenates_S4x8_S4x8_S4x48_S4x64_d1

/-- The sines of the indexer. -/
abbrev ib : FVec Ideal S4x64 .f32 := three (con S4x8 bcast_S_S4x8 0x00000000#32) (Host.sin ang8) (con S4x48 bcast_S_S4x48 0x00000000#32) concatenates_S4x8_S4x8_S4x48_S4x64_d1

/-- The host's fourteen tables. -/
abbrev tabs : Fin 14 → FVec Ideal S4x128 .f32 := ![rep64 mc, rep64 ma, rep64 mb, rep128 dc, rep128 da, rep128 db, rep64 ic, rep64 ia, rep64 ib,
  two mc ic, two ma zed, two mb zed, two zed ia, two zed ib]

set_option maxHeartbeats 4000000 in
/-- The table's window holds the fourteen tables, over the rows. -/
theorem host_rt (m : (ℓ : Loc nD τ sig) → Buf (Elt Ideal) ℓ) (c : Dev nD) : (V m c main_v100 : FVec Ideal S512x1792 .f32) = rows (RT tabs) := by
  show StableHlo.after hostOps0 (fun b => m (c, b)) (Proc.tc.devRef main_v100) = _
  after_results_simp <;> (try dsimp only [Matrix.cons_val]) <;> (try after_results_simp) <;> rfl

end Cert.EpilogueStepIdeal.Value
end
-- ==== Proof.Step.EpiVal.lean ====
module

public import proofs.«01_k».proof.Proof.Gen.EpilogueStepIdeal.Value
public import proofs.«01_k».proof.Proof.Step.EpiTable
public import proofs.«01_k».proof.Proof.Epi.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EpilogueStepIdeal.Value
open Cert.EpilogueStepIdeal Cert.EpilogueStepIdeal.Gen Cert.Epi Cert.EpilogueStepRefIdeal.Value
open Cert.EpilogueIdeal.Value (OfRow Tables ld_row ckv_block dk_block kr_block ik_block)

variable (m : (ℓ : Loc nD τ sig) → Buf (Elt Ideal) ℓ)

/-- The windows' block indices at a point: the rows' block is the point, the tables' its remainder by two. -/
theorem idx_all : ∀ t : Fin cfg0.N, win0_0.index t = ![t.val, 0] ∧ win0_1.index t = ![t.val % 2, 0]
    ∧ win0_5.index t = ![0, 0] ∧ win0_6.index t = ![0, 0] ∧ win0_8.index t = ![0, 0]
    ∧ win0_12.index t = ![t.val, 0] ∧ win0_13.index t = ![t.val, 0] ∧ win0_14.index t = ![t.val, 0]
    ∧ win0_15.index t = ![t.val, 0] ∧ win0_16.index t = ![t.val, 0] ∧ t.val < 2 :=
  (by decide +kernel : ∀ t : Fin grid0.N, _)

/-- The point is below two. -/
theorem pt_lt (t : Fin cfg0.N) : t.val < 2 := (idx_all t).2.2.2.2.2.2.2.2.2.2

/-- The row of the array a block's row is. -/
abbrev row (t : Fin cfg0.N) (a : Fin 256) : Fin 512 := ⟨t.val * 256 + a, by have := pt_lt t; omega⟩

/-- The position of a block's row. -/
abbrev pos (t : Fin cfg0.N) (a : Fin 256) : ℕ := 8192 + (row t a : ℕ) % 4

/-- The projected rows. -/
abbrev XX (c : Dev nD) : FVec Ideal S512x11264 .f32 := m ((c : Thread nD τ).loc main_arg0)

/-- The rows' block at an index. -/
theorem x_at (c : Dev nD) (t : Fin cfg0.N) (a : Fin 256) (p : Fin 5120) : (X0_0 m c t (ix2 a p) : EReal) = cell (XX m c) (row t a) p := by
  unfold X0_0 Pipeline.Window.fill
  rw [dif_pos (moved0_0 t _), ← cell_mk (XX m c) (row t a) p (by omega)]
  blk_point [iblk, V, idx_all t]

/-- A block's rows are the array's. -/
theorem rows_of (c : Dev nD) (t : Fin cfg0.N) (a : Fin 256) : OfRow (XX m c) (X0_0 m c t) a (row t a) := fun p hp => by
  rw [← cell_mk (R := 256) (C := 5120) (X0_0 m c t) a p hp]
  exact x_at m c t a ⟨p, hp⟩

/-- The tables' block at an index. -/
theorem t_at (c : Dev nD) (t : Fin cfg0.N) (a : Fin 256) (k : Fin 14) (l : Fin 128) (n : ℕ) (hn : n < 1792) (e : n = 128 * k + l) :
    ((show FVec Ideal S256x1792 .f32 from iblk m c 1 t) (ix2 a ⟨n, hn⟩) : EReal) = tabs k (ix2 ⟨(row t a : ℕ) % 4, by omega⟩ l) := by
  have ht := pt_lt t
  rw [← slot tabs k _ l n hn e, ← rows_at (RT tabs) (row t a), ← host_rt m c]
  show (V m c main_v100 : FVec Ideal S512x1792 .f32) _ = _
  congr 1
  blk_ext [idx_all t]

/-- A block's tables are the rotations' at the rows' positions. -/
theorem tables_of (c : Dev nD) (t : Fin cfg0.N) (a : Fin 256) : Tables (iblk m c 1 t) a (pos t a) := fun l => by
  have z : ∀ (t : Fin 4) (i : Fin 64), (zed (ix2 t i) : EReal) = 0 := fun _ _ => con_zero _ _ _
  refine ⟨(t_at m c t a 3 l _ _ rfl).trans ((rep128_at dc _ _).trans ?_), (t_at m c t a 4 l _ _ rfl).trans ((rep128_at da _ _).trans ?_),
    (t_at m c t a 5 l _ _ rfl).trans ((rep128_at db _ _).trans ?_), (t_at m c t a 9 l _ _ rfl).trans ((two_at _ _ _ _).trans ?_),
    (t_at m c t a 10 l _ _ rfl).trans ((two_at _ _ _ _).trans ?_), (t_at m c t a 11 l _ _ rfl).trans ((two_at _ _ _ _).trans ?_),
    (t_at m c t a 12 l _ _ rfl).trans ((two_at _ _ _ _).trans ?_), (t_at m c t a 13 l _ _ rfl).trans ((two_at _ _ _ _).trans ?_)⟩
  · exact tc_at _ _ rfl _ _ _ (fun t n => theta 0x41800000#32 (8192 + t) n) ang16_at (con_one _ _)
  · exact ta_at _ _ _ rfl _ _ _ (fun t n => theta 0x41800000#32 (8192 + t) n) ang16_at (con_zero _ _) (con_zero _ _)
  · exact tb_at _ _ _ rfl _ _ _ (fun t n => theta 0x41800000#32 (8192 + t) n) ang16_at (con_zero _ _) (con_zero _ _)
  all_goals
    split_ifs
  · exact tc_at _ _ rfl _ _ _ (fun t n => theta 0x42000000#32 (8192 + t) n) ang32_at (con_one _ _)
  · exact tc_at _ _ rfl _ _ _ (fun t n => theta 0x41000000#32 (8192 + t) n) ang8_at (con_one _ _)
  · exact ta_at _ _ _ rfl _ _ _ (fun t n => theta 0x42000000#32 (8192 + t) n) ang32_at (con_zero _ _) (con_zero _ _)
  · exact z _ _
  · exact tb_at _ _ _ rfl _ _ _ (fun t n => theta 0x42000000#32 (8192 + t) n) ang32_at (con_zero _ _) (con_zero _ _)
  · exact z _ _
  · exact z _ _
  · exact ta_at _ _ _ rfl _ _ _ (fun t n => theta 0x41000000#32 (8192 + t) n) ang8_at (con_zero _ _) (con_zero _ _)
  · exact z _ _
  · exact tb_at _ _ _ rfl _ _ _ (fun t n => theta 0x41000000#32 (8192 + t) n) ang8_at (con_zero _ _) (con_zero _ _)

/-- The latent rows' gain. -/
theorem g5 (c : Dev nD) (t : Fin cfg0.N) (l : Fin 512) :
    cell (R := 1) (C := 512) (iblk m c 5 t) 0 l = cell (R := 1) (C := 512) (m ((c : Thread nD τ).loc main_arg5)) 0 l := by
  have e : (V m c main_v112 : FVec Ideal S1x512 .f32) = shapeCast _ (shapeCast S512 (m ((c : Thread nD τ).loc main_arg5)) shapeCasts_S1x512_S512) shapeCasts_S512_S1x512 := by
    show StableHlo.after hostOps0 (fun b => m (c, b)) (Proc.tc.devRef main_v112) = _
    after_results_simp <;> (try dsimp only [Matrix.cons_val]) <;> (try after_results_simp) <;> rfl
  rw [← cell_mk _ _ _ l.isLt, ← cell_mk _ _ _ l.isLt]
  trans (V m c main_v112 : FVec Ideal S1x512 .f32) (ix2 0 l)
  · show (V m c main_v112 : FVec Ideal S1x512 .f32) _ = _
    congr 1
    blk_ext [idx_all t]
  · rw [e]
    pointwise []

/-- The rotary key's gain, in the first 64 lanes. -/
theorem g6 (c : Dev nD) (t : Fin cfg0.N) (l : Fin 64) :
    cell (R := 1) (C := 128) (iblk m c 6 t) 0 l = cell (R := 1) (C := 64) (m ((c : Thread nD τ).loc main_arg6)) 0 l := by
  have e : (V m c main_v116 : FVec Ideal S1x128 .f32) = shapeCast _ (concatenate S128 0 [⟨S64, shapeCast S64 (m ((c : Thread nD τ).loc main_arg6)) shapeCasts_S1x64_S64⟩,
      ⟨S64, con S64 bcast_S_S64 0x3F800000#32⟩] concatenates_S64_S64_S128_d0) shapeCasts_S128_S1x128 := by
    show StableHlo.after hostOps0 (fun b => m (c, b)) (Proc.tc.devRef main_v116) = _
    after_results_simp <;> (try dsimp only [Matrix.cons_val]) <;> (try after_results_simp) <;> rfl
  rw [← cell_mk _ _ _ (by omega : (l : ℕ) < 128), ← cell_mk _ _ _ l.isLt]
  trans (V m c main_v116 : FVec Ideal S1x128 .f32) (ix2 0 ⟨l, by omega⟩)
  · show (V m c main_v116 : FVec Ideal S1x128 .f32) _ = _
    congr 1
    blk_ext [idx_all t]
  · rw [e]
    have hl := l.isLt
    pointwise []

/-- The sparse attention's keys' gain. -/
theorem g8 (c : Dev nD) (t : Fin cfg0.N) (l : Fin 128) :
    cell (R := 1) (C := 128) (iblk m c 8 t) 0 l = cell (R := 1) (C := 128) (m ((c : Thread nD τ).loc main_arg8)) 0 l := by
  have e : (V m c main_v120 : FVec Ideal S1x128 .f32) = shapeCast _ (shapeCast S128 (m ((c : Thread nD τ).loc main_arg8)) shapeCasts_S1x128_S128) shapeCasts_S128_S1x128 := by
    show StableHlo.after hostOps0 (fun b => m (c, b)) (Proc.tc.devRef main_v120) = _
    after_results_simp <;> (try dsimp only [Matrix.cons_val]) <;> (try after_results_simp) <;> rfl
  rw [← cell_mk _ _ _ l.isLt, ← cell_mk _ _ _ l.isLt]
  trans (V m c main_v120 : FVec Ideal S1x128 .f32) (ix2 0 l)
  · show (V m c main_v120 : FVec Ideal S1x128 .f32) _ = _
    congr 1
    blk_ext [idx_all t]
  · rw [e]
    pointwise []

/-- The latent rows a point stores. -/
theorem out12 (c : Dev nD) (t : Fin cfg0.N) (a : Fin 256) (l : Fin 512) : ((dats m 0 c).after 12 t (ix2 a l) : EReal)
    = Cert.EpilogueStepRefIdeal.Value.REFckv (XX m c) (m ((c : Thread nD τ).loc main_arg5)) (ix2 (row t a) l) := by
  rw [after0_12]
  unfold outsAt0
  dsimp only
  frame_out
  exact (ckv_block (rows_of m c t a) _ _ (g5 m c t) _ l).trans (Cert.EpilogueStepRefIdeal.Value.ckv_at _ _ (row t a) l).symm

/-- The rotary keys a point stores. -/
theorem out13 (c : Dev nD) (t : Fin cfg0.N) (a : Fin 256) (l : Fin 64) : ((dats m 0 c).after 13 t (ix2 a l) : EReal)
    = Cert.EpilogueStepRefIdeal.Value.REFkr (XX m c) (m ((c : Thread nD τ).loc main_arg6)) (ix2 (row t a) l) := by
  rw [after0_13]
  unfold outsAt0
  dsimp only
  frame_out
  refine (kr_block (rows_of m c t a) (tables_of m c t a) _ _ (g6 m c t) _ _ _ _ _ _ l).trans ?_
  rw [Cert.EpilogueStepRefIdeal.Value.kr_at]

/-- The indexer's keys a point stores. -/
theorem out16 (c : Dev nD) (t : Fin cfg0.N) (a : Fin 256) (l : Fin 64) : ((dats m 0 c).after 16 t (ix2 a l) : EReal)
    = Cert.EpilogueStepRefIdeal.Value.REFik (XX m c) (ix2 (row t a) l) := by
  rw [after0_16]
  unfold outsAt0
  dsimp only
  frame_out
  refine (ik_block (rows_of m c t a) (tables_of m c t a) _ _ (g6 m c t) _ _ _ _ _ _ l).trans ?_
  rw [Cert.EpilogueStepRefIdeal.Value.ik_at]

/-- The reference's keys of a head at a block's row. -/
theorem dk_tile (c : Dev nD) (t : Fin cfg0.N) (g : ℕ) (a : Fin 256) (l : Fin 128) (a' : Fin 256) (l' : Fin 256) (ha : (a' : ℕ) = a) (hl : (l' : ℕ) = 128 * g + l) :
    (Cert.EpilogueStepRefIdeal.Value.REFdk (XX m c) (m ((c : Thread nD τ).loc main_arg8)) (ix2 (row t a') l') : EReal)
      = rot 16 (theta 0x41800000#32 (pos t a)) (drow (XX m c) (m ((c : Thread nD τ).loc main_arg8)) (row t a) g) l := by
  obtain rfl : a' = a := Fin.ext ha
  have hl2 := l.isLt
  rw [Cert.EpilogueStepRefIdeal.Value.dk_at, show (l' : ℕ) / 128 = g by omega, show (l' : ℕ) % 128 = l by omega]

/-- The sparse attention's keys a point stores. -/
theorem out14 (c : Dev nD) (t : Fin cfg0.N) (y : S256x256.Idx) : ((dats m 0 c).after 14 t y : EReal)
    = Cert.EpilogueStepRefIdeal.Value.REFdk (XX m c) (m ((c : Thread nD τ).loc main_arg8)) (ix2 (row t (y 0)) (y 1)) := by
  rw [after0_14]
  unfold outsAt0
  dsimp only
  frame_out
  canon_tiles x h
  · exact (congrArg _ (eq_ix2 (n0 := 256) (n1 := 128) x)).trans ((dk_block (rows_of m c t (x 0)) (tables_of m c t (x 0)) _ _ (g8 m c t) 1 2432 rfl _ _ _ _ (x 1)).trans
      (dk_tile m c t 1 (x 0) (x 1) (y 0) (y 1) h0 (by omega)).symm)
  · exact (congrArg _ (eq_ix2 (n0 := 256) (n1 := 128) x)).trans ((dk_block (rows_of m c t (x 0)) (tables_of m c t (x 0)) _ _ (g8 m c t) 0 2304 rfl _ _ _ _ (x 1)).trans
      (dk_tile m c t 0 (x 0) (x 1) (y 0) (y 1) h0 (by omega)).symm)

/-- The sparse attention's values a point stores. -/
theorem out15 (c : Dev nD) (t : Fin cfg0.N) (a : Fin 256) (l : Fin 256) : ((dats m 0 c).after 15 t (ix2 a l) : EReal)
    = Cert.EpilogueStepRefIdeal.Value.REFdv (XX m c) (ix2 (row t a) l) := by
  rw [after0_15]
  unfold outsAt0
  dsimp only
  frame_out
  rw [Cert.EpilogueStepRefIdeal.Value.dv_at]
  exact (cell_mk (R := 256) (C := 256) _ a l l.isLt).trans (ld_row (rows_of m c t a) 2560 256 _ l l.isLt)

/-- The array of the latent rows after the run. -/
theorem final12 (c : Dev nD) : (dats m 0 c).arrAt 12 cfg0.N = Cert.EpilogueStepRefIdeal.Value.REFckv (XX m c) (m ((c : Thread nD τ).loc main_arg5)) := by
  refine (dats m 0 c).arrAt_eq_of_covers 12 _ (by decide +kernel) fun t hf y => ?_
  blk_simp
  rw [eq_ix2 y]
  refine (out12 m c t (y 0) (y 1)).trans (congrArg _ ?_)
  blk_ext [idx_all t]

/-- The array of the rotary keys after the run. -/
theorem final13 (c : Dev nD) : (dats m 0 c).arrAt 13 cfg0.N = Cert.EpilogueStepRefIdeal.Value.REFkr (XX m c) (m ((c : Thread nD τ).loc main_arg6)) := by
  refine (dats m 0 c).arrAt_eq_of_covers 13 _ (by decide +kernel) fun t hf y => ?_
  blk_simp
  rw [eq_ix2 y]
  refine (out13 m c t (y 0) (y 1)).trans (congrArg _ ?_)
  blk_ext [idx_all t]

/-- The array of the sparse attention's keys after the run. -/
theorem final14 (c : Dev nD) : (dats m 0 c).arrAt 14 cfg0.N = Cert.EpilogueStepRefIdeal.Value.REFdk (XX m c) (m ((c : Thread nD τ).loc main_arg8)) := by
  refine (dats m 0 c).arrAt_eq_of_covers 14 _ (by decide +kernel) fun t hf y => ?_
  blk_simp
  refine (out14 m c t y).trans (congrArg _ ?_)
  blk_ext [idx_all t]

/-- The array of the sparse attention's values after the run. -/
theorem final15 (c : Dev nD) : (dats m 0 c).arrAt 15 cfg0.N = Cert.EpilogueStepRefIdeal.Value.REFdv (XX m c) := by
  refine (dats m 0 c).arrAt_eq_of_covers 15 _ (by decide +kernel) fun t hf y => ?_
  blk_simp
  rw [eq_ix2 y]
  refine (out15 m c t (y 0) (y 1)).trans (congrArg _ ?_)
  blk_ext [idx_all t]

/-- The array of the indexer's keys after the run. -/
theorem final16 (c : Dev nD) : (dats m 0 c).arrAt 16 cfg0.N = Cert.EpilogueStepRefIdeal.Value.REFik (XX m c) := by
  refine (dats m 0 c).arrAt_eq_of_covers 16 _ (by decide +kernel) fun t hf y => ?_
  blk_simp
  rw [eq_ix2 y]
  refine (out16 m c t (y 0) (y 1)).trans (congrArg _ ?_)
  blk_ext [idx_all t]

end Cert.EpilogueStepIdeal.Value
end
-- ==== Proof.Step.EpiClaims.lean ====
module

public import proofs.«01_k».proof.Defs
public import proofs.«01_k».proof.Proof.Gen.EpilogueStep.Frame
public import proofs.«01_k».proof.Proof.Step.EpiVal
public import Idealize.ShloMosaic.Lib.Quiescent

@[expose] public section

set_option maxRecDepth 16384

noncomputable section

open Idealize.ShloMosaic Idealize.SL.Sem

namespace Cert.Proof.EpiStepClaims

/-- The kernel runs at the bits, leaves its arguments and ends with every semaphore at zero. -/
theorem frame_p : Cert.quiescent_EpilogueStep := fun m ρ _ => Cert.EpilogueStep.Gen.frame m ρ

/-- The same of the kernel over the extended reals. -/
theorem frame_pi : Cert.quiescent_EpilogueStepIdeal := fun m ρ _ => Cert.EpilogueStepIdeal.Gen.frame m ρ

/-- The same of the reference over the extended reals. -/
theorem frame_ri : Cert.quiescent_EpilogueStepRefIdeal := fun m ρ _ =>
  (θ_run Cert.EpilogueStepRefIdeal.defs _ _).mono (fun r h => ⟨fun c => (h c).2.2.2.2.2,
      Idealize.ShloMosaic.sem_eq_zero_of_no_sems (by decide) r.2⟩)
    (Cert.EpilogueStepRefIdeal.Value.run (F := Ideal) m ρ)

/-- No rewriting rule is used. -/
theorem preserves : Cert.preserves_EpilogueStep_EpilogueStepIdeal := trivial

section
open Cert.EpilogueStepRefIdeal

/-- The reference ends with its results' formulas and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = Value.REFckv (m ((c.tc : Thread nD τ).loc main_arg0)) (m ((c.tc : Thread nD τ).loc main_arg5))
      ∧ r.2.mem ((c.tc : Thread nD τ).loc main_v147) = Value.REFkr (m ((c.tc : Thread nD τ).loc main_arg0)) (m ((c.tc : Thread nD τ).loc main_arg6))
      ∧ r.2.mem ((c.tc : Thread nD τ).loc main_v148) = Value.REFdk (m ((c.tc : Thread nD τ).loc main_arg0)) (m ((c.tc : Thread nD τ).loc main_arg8))
      ∧ r.2.mem ((c.tc : Thread nD τ).loc main_v149) = Value.REFdv (m ((c.tc : Thread nD τ).loc main_arg0))
      ∧ r.2.mem ((c.tc : Thread nD τ).loc main_v150) = Value.REFik (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run (F := Ideal) m ρ

end

section
open Cert.EpilogueStepIdeal

/-- The kernel ends with the same formulas and its arguments as they were. -/
theorem ker_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133_0) = Cert.EpilogueStepRefIdeal.Value.REFckv (m ((c.tc : Thread nD τ).loc main_arg0)) (m ((c.tc : Thread nD τ).loc main_arg5))
      ∧ r.2.mem ((c.tc : Thread nD τ).loc main_v133_1) = Cert.EpilogueStepRefIdeal.Value.REFkr (m ((c.tc : Thread nD τ).loc main_arg0)) (m ((c.tc : Thread nD τ).loc main_arg6))
      ∧ r.2.mem ((c.tc : Thread nD τ).loc main_v133_2) = Cert.EpilogueStepRefIdeal.Value.REFdk (m ((c.tc : Thread nD τ).loc main_arg0)) (m ((c.tc : Thread nD τ).loc main_arg8))
      ∧ r.2.mem ((c.tc : Thread nD τ).loc main_v133_3) = Cert.EpilogueStepRefIdeal.Value.REFdv (m ((c.tc : Thread nD τ).loc main_arg0))
      ∧ r.2.mem ((c.tc : Thread nD τ).loc main_v133_4) = Cert.EpilogueStepRefIdeal.Value.REFik (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, h4, _, _, _, _, _, _, ha⟩ := h c
    exact ⟨h0.trans (Value.final12 m c), h1.trans (Value.final13 m c), h2.trans (Value.final14 m c), h3.trans (Value.final15 m c),
      h4.trans (Value.final16 m c), ha⟩) (Value.run_blocks (F := Ideal) m ρ)

end

/-- From equal arguments the kernel and the reference end with equal results. -/
theorem algebraic : Cert.algebraic_EpilogueStepIdeal_EpilogueStepRefIdeal := by
  intro m ρ m' ρ' _ hagree
  refine ⟨_, _, _, _, _, ker_run m ρ, (θ_run Cert.EpilogueStepRefIdeal.defs _ _).mono (fun _ h c => ?_) (ref_run m' ρ')⟩
  obtain ⟨h0, h1, h2, h3, h4, ha⟩ := h c
  obtain ⟨e0, _, _, _, _, e5, e6, _, e8, _⟩ := hagree c
  rw [e0, e5] at h0
  rw [e0, e6] at h1
  rw [e0, e8] at h2
  rw [e0] at h3 h4
  exact ⟨h0, h1, h2, h3, h4, ha⟩

end Cert.Proof.EpiStepClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.ReferenceIdeal
public import proofs.«01_k».proof.Proof.Gen.ReferenceIdeal.Run
public import proofs.«01_k».proof.Proof.Gen.FfnRefIdeal
public import proofs.«01_k».proof.Proof.Gen.FfnRefIdeal.Run
public import proofs.«01_k».proof.Proof.Gen.MemKvRefIdeal
public import proofs.«01_k».proof.Proof.Gen.MemKvRefIdeal.Run
public import proofs.«01_k».proof.Proof.Gen.MergeRefIdeal
public import proofs.«01_k».proof.Proof.Gen.MergeRefIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.Epilogue
public import proofs.«01_k».proof.Proof.Gen.Epilogue.Skeleton
public import proofs.«01_k».proof.Proof.Gen.Epilogue.Launch
public import proofs.«01_k».proof.Proof.Gen.Epilogue.Points
public import proofs.«01_k».proof.Proof.Gen.Epilogue.Frame
public import proofs.«01_k».proof.Proof.Gen.EpilogueIdeal
public import proofs.«01_k».proof.Proof.Gen.EpilogueIdeal.Skeleton
public import proofs.«01_k».proof.Proof.Gen.EpilogueIdeal.Launch
public import proofs.«01_k».proof.Proof.Gen.EpilogueIdeal.Points
public import proofs.«01_k».proof.Proof.Gen.EpilogueIdeal.Frame
public import proofs.«01_k».proof.Proof.Gen.EpilogueIdeal.Value
public import proofs.«01_k».proof.Proof.Gen.EpilogueRefIdeal
public import proofs.«01_k».proof.Proof.Gen.EpilogueRefIdeal.Run
public import proofs.«01_k».proof.Proof.Gen.FfnStep
public import proofs.«01_k».proof.Proof.Gen.FfnStep.Skeleton
public import proofs.«01_k».proof.Proof.Gen.FfnStep.Launch
public import proofs.«01_k».proof.Proof.Gen.FfnStep.Points
public import proofs.«01_k».proof.Proof.Gen.FfnStep.Frame
public import proofs.«01_k».proof.Proof.Gen.FfnStepIdeal
public import proofs.«01_k».proof.Proof.Gen.FfnStepIdeal.Skeleton
public import proofs.«01_k».proof.Proof.Gen.FfnStepIdeal.Launch
public import proofs.«01_k».proof.Proof.Gen.FfnStepIdeal.Points
public import proofs.«01_k».proof.Proof.Gen.FfnStepIdeal.Frame
public import proofs.«01_k».proof.Proof.Gen.FfnStepIdeal.Value
public import proofs.«01_k».proof.Proof.Gen.FfnStepRefIdeal
public import proofs.«01_k».proof.Proof.Gen.FfnStepRefIdeal.Run
public import proofs.«01_k».proof.Proof.Gen.EpilogueStep
public import proofs.«01_k».proof.Proof.Gen.EpilogueStep.Skeleton
public import proofs.«01_k».proof.Proof.Gen.EpilogueStep.Launch
public import proofs.«01_k».proof.Proof.Gen.EpilogueStep.Points
public import proofs.«01_k».proof.Proof.Gen.EpilogueStep.Frame
public import proofs.«01_k».proof.Proof.Gen.EpilogueStepIdeal
public import proofs.«01_k».proof.Proof.Gen.EpilogueStepIdeal.Skeleton
public import proofs.«01_k».proof.Proof.Gen.EpilogueStepIdeal.Launch
public import proofs.«01_k».proof.Proof.Gen.EpilogueStepIdeal.Points
public import proofs.«01_k».proof.Proof.Gen.EpilogueStepIdeal.Frame
public import proofs.«01_k».proof.Proof.Gen.EpilogueStepIdeal.Value
public import proofs.«01_k».proof.Proof.Gen.EpilogueStepRefIdeal
public import proofs.«01_k».proof.Proof.Gen.EpilogueStepRefIdeal.Run
public import proofs.«01_k».proof.Proof.Ffn.Claims
public import proofs.«01_k».proof.Proof.MemKv.Claims
public import proofs.«01_k».proof.Proof.Merge.Claims
public import proofs.«01_k».proof.Proof.Flash.Claims
public import proofs.«01_k».proof.Proof.Project.Claims
public import proofs.«01_k».proof.Proof.Epi.Claims
public import proofs.«01_k».proof.Proof.Step.FfnClaims
public import proofs.«01_k».proof.Proof.Step.EpiClaims
public import Idealize.ShloMosaic.Adequacy
public import Idealize.ShloMosaic.Init

@[expose] public section

noncomputable section

namespace Cert.Proof

open Idealize.ShloMosaic Idealize.SL.Sem

/-- Everything this certificate claims. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.MemKv.Gen.facts, Cert.MemKvIdeal.Gen.facts, Cert.MemKvRefIdeal.Gen.facts,
  Cert.Merge.Gen.facts, Cert.MergeIdeal.Gen.facts, Cert.MergeRefIdeal.Gen.facts,
  Cert.Project.Gen.facts, Cert.ProjectIdeal.Gen.facts, Cert.ProjectRefIdeal.Gen.facts,
  Cert.Epilogue.Gen.facts, Cert.EpilogueIdeal.Gen.facts, Cert.EpilogueRefIdeal.Gen.facts,
  Cert.FfnStep.Gen.facts, Cert.FfnStepIdeal.Gen.facts, Cert.FfnStepRefIdeal.Gen.facts,
  Cert.EpilogueStep.Gen.facts, Cert.EpilogueStepIdeal.Gen.facts, Cert.EpilogueStepRefIdeal.Gen.facts, Cert.Pre_finite.facts,
  FlashClaims.frame_p, FlashClaims.frame_pi, FlashClaims.frame_pi_pre, FlashClaims.frame_ri, FlashClaims.frame_ri_pre,
  FfnClaims.frame_p, FfnClaims.frame_pi, FfnClaims.frame_ri,
  MemKvClaims.frame_p, MemKvClaims.frame_pi, MemKvClaims.frame_ri,
  MergeClaims.frame_p, MergeClaims.frame_pi, MergeClaims.frame_ri,
  ProjectClaims.frame_p, ProjectClaims.frame_pi, ProjectClaims.frame_ri,
  EpiClaims.frame_p, EpiClaims.frame_pi, EpiClaims.frame_ri,
  FfnStepClaims.frame_p, FfnStepClaims.frame_pi, FfnStepClaims.frame_ri,
  EpiStepClaims.frame_p, EpiStepClaims.frame_pi, EpiStepClaims.frame_ri,
  FlashClaims.preserves, FlashClaims.algebraic, FfnClaims.preserves, FfnClaims.algebraic, MemKvClaims.preserves, MemKvClaims.algebraic,
  MergeClaims.preserves, MergeClaims.algebraic, ProjectClaims.preserves, ProjectClaims.algebraic, EpiClaims.preserves, EpiClaims.algebraic,
  FfnStepClaims.preserves, FfnStepClaims.algebraic, EpiStepClaims.preserves, EpiStepClaims.algebraic⟩

end Cert.Proof

end
